-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 128]⟩ ⟨2, ![2048, 2048]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![128, 2048]⟩ ⟨2, ![2048, 2048]⟩ 0 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x128 : Shape := ⟨2, ![2048, 128]⟩
abbrev S128x2048 : Shape := ⟨2, ![128, 2048]⟩
abbrev S16 : Shape := ⟨1, ![16]⟩
abbrev S_ : Shape := ⟨0, ![]⟩
abbrev S1 : Shape := ⟨1, ![1]⟩
abbrev S3 : Shape := ⟨1, ![3]⟩
abbrev S2048x2048 : Shape := ⟨2, ![2048, 2048]⟩
abbrev S15x128x1024 : Shape := ⟨3, ![15, 128, 1024]⟩
abbrev S128x1024 : Shape := ⟨2, ![128, 1024]⟩
abbrev S15x4 : Shape := ⟨2, ![15, 4]⟩
abbrev S128x256 : Shape := ⟨2, ![128, 256]⟩
abbrev S1x128x256 : Shape := ⟨3, ![1, 128, 256]⟩
abbrev S1x1 : Shape := ⟨2, ![1, 1]⟩

abbrev nBuf : Space → Nat
  | .hbm => 107
  | .vmem => 12
  | .smem => 1
  | _ => 0

abbrev bufTy : (tb : Table) → Fin (tcTables nBuf tb) → BufTy
  | .hbm, ⟨0, _⟩ => ⟨S2048x128, .bf16⟩
  | .hbm, ⟨1, _⟩ => ⟨S128x2048, .bf16⟩
  | .hbm, ⟨2, _⟩ => ⟨S16, .i32⟩
  | .hbm, ⟨3, _⟩ => ⟨S16, .i32⟩
  | .hbm, ⟨4, _⟩ => ⟨S16, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S1, .i32⟩
  | .hbm, ⟨17, _⟩ => ⟨S1, .i32⟩
  | .hbm, ⟨18, _⟩ => ⟨S_, .i32⟩
  | .hbm, ⟨19, _⟩ => ⟨S1, .i32⟩
  | .hbm, ⟨20, _⟩ => ⟨S1, .i1⟩
  | .hbm, ⟨21, _⟩ => ⟨S1, .i1⟩
  | .hbm, ⟨22, _⟩ => ⟨S1, .i1⟩
  | .hbm, ⟨23, _⟩ => ⟨S_, .i1⟩
  | .hbm, ⟨24, _⟩ => ⟨S_, .i1⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .i1⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S_, .i1⟩
  | .hbm, ⟨39, _⟩ => ⟨S_, .i32⟩
  | .hbm, ⟨40, _⟩ => ⟨S_, .i1⟩
  | .hbm, ⟨41, _⟩ => ⟨S_, .i32⟩
  | .hbm, ⟨42, _⟩ => ⟨S_, .i1⟩
  | .hbm, ⟨43, _⟩ => ⟨S_, .i1⟩
  | .hbm, ⟨44, _⟩ => ⟨S_, .i1⟩
  | .hbm, ⟨45, _⟩ => ⟨S_, .i32⟩
  | .hbm, ⟨46, _⟩ => ⟨S_, .i32⟩
  | .hbm, ⟨47, _⟩ => ⟨S_, .i32⟩
  | .hbm, ⟨48, _⟩ => ⟨S_, .i1⟩
  | .hbm, ⟨49, _⟩ => ⟨S_, .i32⟩
  | .hbm, ⟨50, _⟩ => ⟨S_, .i32⟩
  | .hbm, ⟨51, _⟩ => ⟨S_, .i32⟩
  | .hbm, ⟨52, _⟩ => ⟨S1, .i32⟩
  | .hbm, ⟨53, _⟩ => ⟨S1, .i32⟩
  | .hbm, ⟨54, _⟩ => ⟨S_, .i32⟩
  | .hbm, ⟨55, _⟩ => ⟨S1, .i32⟩
  | .hbm, ⟨56, _⟩ => ⟨S1, .i1⟩
  | .hbm, ⟨57, _⟩ => ⟨S1, .i1⟩
  | .hbm, ⟨58, _⟩ => ⟨S1, .i1⟩
  | .hbm, ⟨59, _⟩ => ⟨S_, .i1⟩
  | .hbm, ⟨60, _⟩ => ⟨S_, .i1⟩
  | .hbm, ⟨61, _⟩ => ⟨S_, .i32⟩
  | .hbm, ⟨62, _⟩ => ⟨S_, .i32⟩
  | .hbm, ⟨63, _⟩ => ⟨S_, .i32⟩
  | .hbm, ⟨64, _⟩ => ⟨S_, .i32⟩
  | .hbm, ⟨65, _⟩ => ⟨S_, .i32⟩
  | .hbm, ⟨66, _⟩ => ⟨S_, .i32⟩
  | .hbm, ⟨67, _⟩ => ⟨S_, .i32⟩
  | .hbm, ⟨68, _⟩ => ⟨S_, .i32⟩
  | .hbm, ⟨69, _⟩ => ⟨S_, .i32⟩
  | .hbm, ⟨70, _⟩ => ⟨S_, .i32⟩
  | .hbm, ⟨71, _⟩ => ⟨S_, .i1⟩
  | .hbm, ⟨72, _⟩ => ⟨S_, .i32⟩
  | .hbm, ⟨73, _⟩ => ⟨S_, .i32⟩
  | .hbm, ⟨74, _⟩ => ⟨S_, .i32⟩
  | .hbm, ⟨75, _⟩ => ⟨S_, .i32⟩
  | .hbm, ⟨76, _⟩ => ⟨S_, .i1⟩
  | .hbm, ⟨77, _⟩ => ⟨S_, .i32⟩
  | .hbm, ⟨78, _⟩ => ⟨S_, .i1⟩
  | .hbm, ⟨79, _⟩ => ⟨S_, .i32⟩
  | .hbm, ⟨80, _⟩ => ⟨S_, .i1⟩
  | .hbm, ⟨81, _⟩ => ⟨S_, .i1⟩
  | .hbm, ⟨82, _⟩ => ⟨S_, .i1⟩
  | .hbm, ⟨83, _⟩ => ⟨S_, .i32⟩
  | .hbm, ⟨84, _⟩ => ⟨S_, .i32⟩
  | .hbm, ⟨85, _⟩ => ⟨S_, .i32⟩
  | .hbm, ⟨86, _⟩ => ⟨S_, .i1⟩
  | .hbm, ⟨87, _⟩ => ⟨S_, .i32⟩
  | .hbm, ⟨88, _⟩ => ⟨S_, .i32⟩
  | .hbm, ⟨89, _⟩ => ⟨S_, .i32⟩
  | .hbm, ⟨90, _⟩ => ⟨S1, .i32⟩
  | .hbm, ⟨91, _⟩ => ⟨S1, .i32⟩
  | .hbm, ⟨92, _⟩ => ⟨S_, .i32⟩
  | .hbm, ⟨93, _⟩ => ⟨S1, .i32⟩
  | .hbm, ⟨94, _⟩ => ⟨S1, .i1⟩
  | .hbm, ⟨95, _⟩ => ⟨S1, .i1⟩
  | .hbm, ⟨96, _⟩ => ⟨S1, .i1⟩
  | .hbm, ⟨97, _⟩ => ⟨S_, .i1⟩
  | .hbm, ⟨98, _⟩ => ⟨S_, .i1⟩
  | .hbm, ⟨99, _⟩ => ⟨S_, .i32⟩
  | .hbm, ⟨100, _⟩ => ⟨S_, .i32⟩
  | .hbm, ⟨101, _⟩ => ⟨S_, .i32⟩
  | .hbm, ⟨102, _⟩ => ⟨S1, .i32⟩
  | .hbm, ⟨103, _⟩ => ⟨S1, .i32⟩
  | .hbm, ⟨104, _⟩ => ⟨S1, .i32⟩
  | .hbm, ⟨105, _⟩ => ⟨S3, .i32⟩
  | .hbm, ⟨106, _⟩ => ⟨S2048x2048, .f32⟩
  | .local _ .vmem, ⟨0, _⟩ => ⟨S2048x128, .bf16⟩
  | .local _ .vmem, ⟨1, _⟩ => ⟨S128x2048, .bf16⟩
  | .local _ .vmem, ⟨2, _⟩ => ⟨S2048x2048, .f32⟩
  | .local _ .vmem, ⟨3, _⟩ => ⟨S2048x2048, .bf16⟩
  | .local _ .vmem, ⟨4, _⟩ => ⟨S15x128x1024, .bf16⟩
  | .local _ .vmem, ⟨5, _⟩ => ⟨S15x128x1024, .bf16⟩
  | .local _ .vmem, ⟨6, _⟩ => ⟨S15x128x1024, .bf16⟩
  | .local _ .vmem, ⟨7, _⟩ => ⟨S15x128x1024, .bf16⟩
  | .local _ .vmem, ⟨8, _⟩ => ⟨S15x128x1024, .bf16⟩
  | .local _ .vmem, ⟨9, _⟩ => ⟨S15x128x1024, .bf16⟩
  | .local _ .vmem, ⟨10, _⟩ => ⟨S128x1024, .bf16⟩
  | .local _ .vmem, ⟨11, _⟩ => ⟨S128x1024, .bf16⟩
  | .local _ .smem, ⟨0, _⟩ => ⟨S3, .i32⟩
  | _, _ => ⟨S2048x128, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_2 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_3 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | _ => false

abbrev dmaSemScopedAt (i : Nat) : Bool := match i / 128 with
  | 0 => dmaSemScopedAt0_0 i
  | 1 => dmaSemScopedAt0_1 i
  | 2 => dmaSemScopedAt0_2 i
  | 3 => dmaSemScopedAt0_3 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 1 → Bool
  | ⟨0, _⟩ => false
  | _ => false

abbrev dmaSemScoped : Fin 484 → Bool
  | ⟨i, _⟩ => dmaSemScopedAt i

abbrev sig : RefSig :=
  (ofTc nBuf bufTy 1 484 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_c_2 : Ref sig .tc := ⟨.hbm, 5, rfl⟩
abbrev main_c_3 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_c : Ref sig .tc := ⟨.hbm, 11, rfl⟩
abbrev main_call0_v0 : Ref sig .tc := ⟨.hbm, 12, rfl⟩
abbrev main_call0_c_0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_c_1 : Ref sig .tc := ⟨.hbm, 17, rfl⟩
abbrev main_call0_c_2 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_c_3 : Ref sig .tc := ⟨.hbm, 23, rfl⟩
abbrev main_call0_v8 : Ref sig .tc := ⟨.hbm, 24, rfl⟩
abbrev main_call0_v9 : Ref sig .tc := ⟨.hbm, 25, rfl⟩
abbrev main_call0_c_4 : Ref sig .tc := ⟨.hbm, 26, rfl⟩
abbrev main_v5 : Ref sig .tc := ⟨.hbm, 27, rfl⟩
abbrev main_c_4 : Ref sig .tc := ⟨.hbm, 28, rfl⟩
abbrev main_v6 : Ref sig .tc := ⟨.hbm, 29, rfl⟩
abbrev main_c_5 : Ref sig .tc := ⟨.hbm, 30, rfl⟩
abbrev main_call1_v0 : Ref sig .tc := ⟨.hbm, 31, rfl⟩
abbrev main_call1_c : Ref sig .tc := ⟨.hbm, 32, rfl⟩
abbrev main_call1_v1 : Ref sig .tc := ⟨.hbm, 33, rfl⟩
abbrev main_call1_c_0 : Ref sig .tc := ⟨.hbm, 34, rfl⟩
abbrev main_call1_v2 : Ref sig .tc := ⟨.hbm, 35, rfl⟩
abbrev main_call1_v3 : Ref sig .tc := ⟨.hbm, 36, rfl⟩
abbrev main_call1_c_1 : Ref sig .tc := ⟨.hbm, 37, rfl⟩
abbrev main_call1_v4 : Ref sig .tc := ⟨.hbm, 38, rfl⟩
abbrev main_call1_c_2 : Ref sig .tc := ⟨.hbm, 39, rfl⟩
abbrev main_call1_v5 : Ref sig .tc := ⟨.hbm, 40, rfl⟩
abbrev main_call1_c_3 : Ref sig .tc := ⟨.hbm, 41, rfl⟩
abbrev main_call1_v6 : Ref sig .tc := ⟨.hbm, 42, rfl⟩
abbrev main_call1_v7 : Ref sig .tc := ⟨.hbm, 43, rfl⟩
abbrev main_call1_v8 : Ref sig .tc := ⟨.hbm, 44, rfl⟩
abbrev main_call1_v9 : Ref sig .tc := ⟨.hbm, 45, rfl⟩
abbrev main_v7 : Ref sig .tc := ⟨.hbm, 46, rfl⟩
abbrev main_call2_c : Ref sig .tc := ⟨.hbm, 47, rfl⟩
abbrev main_call2_v0 : Ref sig .tc := ⟨.hbm, 48, rfl⟩
abbrev main_call2_c_0 : Ref sig .tc := ⟨.hbm, 49, rfl⟩
abbrev main_call2_v1 : Ref sig .tc := ⟨.hbm, 50, rfl⟩
abbrev main_call2_v2 : Ref sig .tc := ⟨.hbm, 51, rfl⟩
abbrev main_call2_v3 : Ref sig .tc := ⟨.hbm, 52, rfl⟩
abbrev main_call2_c_1 : Ref sig .tc := ⟨.hbm, 53, rfl⟩
abbrev main_call2_c_2 : Ref sig .tc := ⟨.hbm, 54, rfl⟩
abbrev main_call2_v4 : Ref sig .tc := ⟨.hbm, 55, rfl⟩
abbrev main_call2_v5 : Ref sig .tc := ⟨.hbm, 56, rfl⟩
abbrev main_call2_v6 : Ref sig .tc := ⟨.hbm, 57, rfl⟩
abbrev main_call2_v7 : Ref sig .tc := ⟨.hbm, 58, rfl⟩
abbrev main_call2_c_3 : Ref sig .tc := ⟨.hbm, 59, rfl⟩
abbrev main_call2_v8 : Ref sig .tc := ⟨.hbm, 60, rfl⟩
abbrev main_call2_v9 : Ref sig .tc := ⟨.hbm, 61, rfl⟩
abbrev main_call2_c_4 : Ref sig .tc := ⟨.hbm, 62, rfl⟩
abbrev main_v8 : Ref sig .tc := ⟨.hbm, 63, rfl⟩
abbrev main_c_6 : Ref sig .tc := ⟨.hbm, 64, rfl⟩
abbrev main_v9 : Ref sig .tc := ⟨.hbm, 65, rfl⟩
abbrev main_c_7 : Ref sig .tc := ⟨.hbm, 66, rfl⟩
abbrev main_v10 : Ref sig .tc := ⟨.hbm, 67, rfl⟩
abbrev main_c_8 : Ref sig .tc := ⟨.hbm, 68, rfl⟩
abbrev main_call3_v0 : Ref sig .tc := ⟨.hbm, 69, rfl⟩
abbrev main_call3_c : Ref sig .tc := ⟨.hbm, 70, rfl⟩
abbrev main_call3_v1 : Ref sig .tc := ⟨.hbm, 71, rfl⟩
abbrev main_call3_c_0 : Ref sig .tc := ⟨.hbm, 72, rfl⟩
abbrev main_call3_v2 : Ref sig .tc := ⟨.hbm, 73, rfl⟩
abbrev main_call3_v3 : Ref sig .tc := ⟨.hbm, 74, rfl⟩
abbrev main_call3_c_1 : Ref sig .tc := ⟨.hbm, 75, rfl⟩
abbrev main_call3_v4 : Ref sig .tc := ⟨.hbm, 76, rfl⟩
abbrev main_call3_c_2 : Ref sig .tc := ⟨.hbm, 77, rfl⟩
abbrev main_call3_v5 : Ref sig .tc := ⟨.hbm, 78, rfl⟩
abbrev main_call3_c_3 : Ref sig .tc := ⟨.hbm, 79, rfl⟩
abbrev main_call3_v6 : Ref sig .tc := ⟨.hbm, 80, rfl⟩
abbrev main_call3_v7 : Ref sig .tc := ⟨.hbm, 81, rfl⟩
abbrev main_call3_v8 : Ref sig .tc := ⟨.hbm, 82, rfl⟩
abbrev main_call3_v9 : Ref sig .tc := ⟨.hbm, 83, rfl⟩
abbrev main_v11 : Ref sig .tc := ⟨.hbm, 84, rfl⟩
abbrev main_call4_c : Ref sig .tc := ⟨.hbm, 85, rfl⟩
abbrev main_call4_v0 : Ref sig .tc := ⟨.hbm, 86, rfl⟩
abbrev main_call4_c_0 : Ref sig .tc := ⟨.hbm, 87, rfl⟩
abbrev main_call4_v1 : Ref sig .tc := ⟨.hbm, 88, rfl⟩
abbrev main_call4_v2 : Ref sig .tc := ⟨.hbm, 89, rfl⟩
abbrev main_call4_v3 : Ref sig .tc := ⟨.hbm, 90, rfl⟩
abbrev main_call4_c_1 : Ref sig .tc := ⟨.hbm, 91, rfl⟩
abbrev main_call4_c_2 : Ref sig .tc := ⟨.hbm, 92, rfl⟩
abbrev main_call4_v4 : Ref sig .tc := ⟨.hbm, 93, rfl⟩
abbrev main_call4_v5 : Ref sig .tc := ⟨.hbm, 94, rfl⟩
abbrev main_call4_v6 : Ref sig .tc := ⟨.hbm, 95, rfl⟩
abbrev main_call4_v7 : Ref sig .tc := ⟨.hbm, 96, rfl⟩
abbrev main_call4_c_3 : Ref sig .tc := ⟨.hbm, 97, rfl⟩
abbrev main_call4_v8 : Ref sig .tc := ⟨.hbm, 98, rfl⟩
abbrev main_call4_v9 : Ref sig .tc := ⟨.hbm, 99, rfl⟩
abbrev main_call4_c_4 : Ref sig .tc := ⟨.hbm, 100, rfl⟩
abbrev main_v12 : Ref sig .tc := ⟨.hbm, 101, rfl⟩
abbrev main_v13 : Ref sig .tc := ⟨.hbm, 102, rfl⟩
abbrev main_v14 : Ref sig .tc := ⟨.hbm, 103, rfl⟩
abbrev main_v15 : Ref sig .tc := ⟨.hbm, 104, rfl⟩
abbrev main_v16 : Ref sig .tc := ⟨.hbm, 105, rfl⟩
abbrev main_v17 : Ref sig .tc := ⟨.hbm, 106, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_scratch8 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 16
abbrev τ : Topo := Topo.v7x

variable {F : FTy → Type} [FloatOps F]

abbrev grid0 : Pipeline.Grid := .none

def k0_dev1 (v2 : BitVec 32) : Nat :=
  let c0_i32 : BitVec 32 := 0#32
  let c1_i32_0 : BitVec 32 := 1#32
  let v4 : BitVec 32 := Scalar.muli v2 c1_i32_0
  let v5 : BitVec 32 := Scalar.addi c0_i32 v4
  v5.toNat

def k0_dev2 (v1 : BitVec 32) : Nat :=
  let c0_i32_3 : BitVec 32 := 0#32
  let c1_i32_2 : BitVec 32 := 1#32
  let v6 : BitVec 32 := Scalar.muli v1 c1_i32_2
  let v7 : BitVec 32 := Scalar.addi c0_i32_3 v6
  v7.toNat

def k0_off1 (v0 : BitVec 32) : Fin 2 → Nat :=
  let c64_i32 : BitVec 32 := 64#32
  let v20 : BitVec 32 := Scalar.addi v0 c64_i32
  let c16_i32 : BitVec 32 := 16#32
  let v21 : BitVec 32 := Scalar.remsi v20 c16_i32
  let c128_i32 : BitVec 32 := 128#32
  let v22 : BitVec 32 := Scalar.muli v21 c128_i32
  let v23 : Index := Scalar.indexCast v22
  let c0_14 : Index := 0#32
  ![v23.toNat, 0]

def k0_dev3 (v1 : BitVec 32) : Nat :=
  let c0_i32_25 : BitVec 32 := 0#32
  let c1_i32_24 : BitVec 32 := 1#32
  let v28 : BitVec 32 := Scalar.muli v1 c1_i32_24
  let v29 : BitVec 32 := Scalar.addi c0_i32_25 v28
  v29.toNat
def k0_off2 (v0 : BitVec 32) : Fin 2 → Nat :=
  let c64_i32_30 : BitVec 32 := 64#32
  let v38 : BitVec 32 := Scalar.addi v0 c64_i32_30
  let c16_i32_31 : BitVec 32 := 16#32
  let v39 : BitVec 32 := Scalar.remsi v38 c16_i32_31
  let c128_i32_32 : BitVec 32 := 128#32
  let v40 : BitVec 32 := Scalar.muli v39 c128_i32_32
  let v41 : Index := Scalar.indexCast v40
  let c1024 : Index := 1024#32
  ![v41.toNat, 1024]
def k0_dev4 (v2 : BitVec 32) : Nat :=
  let c0_i32_43 : BitVec 32 := 0#32
  let c1_i32_42 : BitVec 32 := 1#32
  let v46 : BitVec 32 := Scalar.muli v2 c1_i32_42
  let v47 : BitVec 32 := Scalar.addi c0_i32_43 v46
  v47.toNat
def k0_off3 (v0 : BitVec 32) : Fin 2 → Nat :=
  let c64_i32_48 : BitVec 32 := 64#32
  let v56 : BitVec 32 := Scalar.addi v0 c64_i32_48
  let c16_i32_49 : BitVec 32 := 16#32
  let v57 : BitVec 32 := Scalar.remsi v56 c16_i32_49
  let c128_i32_50 : BitVec 32 := 128#32
  let v58 : BitVec 32 := Scalar.muli v57 c128_i32_50
  let v59 : Index := Scalar.indexCast v58
  let c256 : Index := 256#32
  ![v59.toNat, 256]
def k0_dev5 (v1 : BitVec 32) : Nat :=
  let c0_i32_61 : BitVec 32 := 0#32
  let c1_i32_60 : BitVec 32 := 1#32
  let v64 : BitVec 32 := Scalar.muli v1 c1_i32_60
  let v65 : BitVec 32 := Scalar.addi c0_i32_61 v64
  v65.toNat
def k0_off4 (v0 : BitVec 32) : Fin 2 → Nat :=
  let c64_i32_65 : BitVec 32 := 64#32
  let v74 : BitVec 32 := Scalar.addi v0 c64_i32_65
  let c16_i32_66 : BitVec 32 := 16#32
  let v75 : BitVec 32 := Scalar.remsi v74 c16_i32_66
  let c128_i32_67 : BitVec 32 := 128#32
  let v76 : BitVec 32 := Scalar.muli v75 c128_i32_67
  let v77 : Index := Scalar.indexCast v76
  let c1280 : Index := 1280#32
  ![v77.toNat, 1280]
def k0_dev6 (v2 : BitVec 32) : Nat :=
  let c0_i32_78 : BitVec 32 := 0#32
  let c1_i32_77 : BitVec 32 := 1#32
  let v82 : BitVec 32 := Scalar.muli v2 c1_i32_77
  let v83 : BitVec 32 := Scalar.addi c0_i32_78 v82
  v83.toNat
def k0_off5 (v0 : BitVec 32) : Fin 2 → Nat :=
  let c64_i32_83 : BitVec 32 := 64#32
  let v92 : BitVec 32 := Scalar.addi v0 c64_i32_83
  let c16_i32_84 : BitVec 32 := 16#32
  let v93 : BitVec 32 := Scalar.remsi v92 c16_i32_84
  let c128_i32_85 : BitVec 32 := 128#32
  let v94 : BitVec 32 := Scalar.muli v93 c128_i32_85
  let v95 : Index := Scalar.indexCast v94
  let c512 : Index := 512#32
  ![v95.toNat, 512]
def k0_dev7 (v1 : BitVec 32) : Nat :=
  let c0_i32_96 : BitVec 32 := 0#32
  let c1_i32_95 : BitVec 32 := 1#32
  let v100 : BitVec 32 := Scalar.muli v1 c1_i32_95
  let v101 : BitVec 32 := Scalar.addi c0_i32_96 v100
  v101.toNat
def k0_off6 (v0 : BitVec 32) : Fin 2 → Nat :=
  let c64_i32_100 : BitVec 32 := 64#32
  let v110 : BitVec 32 := Scalar.addi v0 c64_i32_100
  let c16_i32_101 : BitVec 32 := 16#32
  let v111 : BitVec 32 := Scalar.remsi v110 c16_i32_101
  let c128_i32_102 : BitVec 32 := 128#32
  let v112 : BitVec 32 := Scalar.muli v111 c128_i32_102
  let v113 : Index := Scalar.indexCast v112
  let c1536 : Index := 1536#32
  ![v113.toNat, 1536]
def k0_dev8 (v2 : BitVec 32) : Nat :=
  let c0_i32_113 : BitVec 32 := 0#32
  let c1_i32_112 : BitVec 32 := 1#32
  let v118 : BitVec 32 := Scalar.muli v2 c1_i32_112
  let v119 : BitVec 32 := Scalar.addi c0_i32_113 v118
  v119.toNat
def k0_off7 (v0 : BitVec 32) : Fin 2 → Nat :=
  let c64_i32_118 : BitVec 32 := 64#32
  let v128 : BitVec 32 := Scalar.addi v0 c64_i32_118
  let c16_i32_119 : BitVec 32 := 16#32
  let v129 : BitVec 32 := Scalar.remsi v128 c16_i32_119
  let c128_i32_120 : BitVec 32 := 128#32
  let v130 : BitVec 32 := Scalar.muli v129 c128_i32_120
  let v131 : Index := Scalar.indexCast v130
  let c768 : Index := 768#32
  ![v131.toNat, 768]
def k0_dev9 (v1 : BitVec 32) : Nat :=
  let c0_i32_130 : BitVec 32 := 0#32
  let c1_i32_129 : BitVec 32 := 1#32
  let v136 : BitVec 32 := Scalar.muli v1 c1_i32_129
  let v137 : BitVec 32 := Scalar.addi c0_i32_130 v136
  v137.toNat
def k0_off8 (v0 : BitVec 32) : Fin 2 → Nat :=
  let c64_i32_134 : BitVec 32 := 64#32
  let v146 : BitVec 32 := Scalar.addi v0 c64_i32_134
  let c16_i32_135 : BitVec 32 := 16#32
  let v147 : BitVec 32 := Scalar.remsi v146 c16_i32_135
  let c128_i32_136 : BitVec 32 := 128#32
  let v148 : BitVec 32 := Scalar.muli v147 c128_i32_136
  let v149 : Index := Scalar.indexCast v148
  let c1792 : Index := 1792#32
  ![v149.toNat, 1792]
def k0_dev10 (v2 : BitVec 32) : Nat :=
  let c0_i32_147 : BitVec 32 := 0#32
  let c1_i32_146 : BitVec 32 := 1#32
  let v154 : BitVec 32 := Scalar.muli v2 c1_i32_146
  let v155 : BitVec 32 := Scalar.addi c0_i32_147 v154
  v155.toNat
def k0_off9 (v0 : BitVec 32) (c1_i32_152 : BitVec 32) : Fin 2 → Nat :=
  let v164 : BitVec 32 := Scalar.subi v0 c1_i32_152
  let c64_i32_168 : BitVec 32 := 64#32
  let v175 : BitVec 32 := Scalar.addi v164 c64_i32_168
  let c16_i32_169 : BitVec 32 := 16#32
  let v176 : BitVec 32 := Scalar.remsi v175 c16_i32_169
  let c128_i32_170 : BitVec 32 := 128#32
  let v177 : BitVec 32 := Scalar.muli v176 c128_i32_170
  let v178 : Index := Scalar.indexCast v177
  let c0_171 : Index := 0#32
  ![v178.toNat, 0]
def k0_dev11 (v1 : BitVec 32) : Nat :=
  let c0_i32_182 : BitVec 32 := 0#32
  let c1_i32_181 : BitVec 32 := 1#32
  let v184 : BitVec 32 := Scalar.muli v1 c1_i32_181
  let v185 : BitVec 32 := Scalar.addi c0_i32_182 v184
  v185.toNat
def k0_off10 (v0 : BitVec 32) (c1_i32_187 : BitVec 32) : Fin 2 → Nat :=
  let v194 : BitVec 32 := Scalar.addi v0 c1_i32_187
  let c64_i32_203 : BitVec 32 := 64#32
  let v205 : BitVec 32 := Scalar.addi v194 c64_i32_203
  let c16_i32_204 : BitVec 32 := 16#32
  let v206 : BitVec 32 := Scalar.remsi v205 c16_i32_204
  let c128_i32_205 : BitVec 32 := 128#32
  let v207 : BitVec 32 := Scalar.muli v206 c128_i32_205
  let v208 : Index := Scalar.indexCast v207
  let c1024_206 : Index := 1024#32
  ![v208.toNat, 1024]
def k0_dev12 (v2 : BitVec 32) : Nat :=
  let c0_i32_217 : BitVec 32 := 0#32
  let c1_i32_216 : BitVec 32 := 1#32
  let v214 : BitVec 32 := Scalar.muli v2 c1_i32_216
  let v215 : BitVec 32 := Scalar.addi c0_i32_217 v214
  v215.toNat
def k0_off11 (v0 : BitVec 32) (c1_i32_222 : BitVec 32) : Fin 2 → Nat :=
  let v224 : BitVec 32 := Scalar.subi v0 c1_i32_222
  let c64_i32_238 : BitVec 32 := 64#32
  let v235 : BitVec 32 := Scalar.addi v224 c64_i32_238
  let c16_i32_239 : BitVec 32 := 16#32
  let v236 : BitVec 32 := Scalar.remsi v235 c16_i32_239
  let c128_i32_240 : BitVec 32 := 128#32
  let v237 : BitVec 32 := Scalar.muli v236 c128_i32_240
  let v238 : Index := Scalar.indexCast v237
  let c256_241 : Index := 256#32
  ![v238.toNat, 256]
def k0_dev13 (v1 : BitVec 32) : Nat :=
  let c0_i32_252 : BitVec 32 := 0#32
  let c1_i32_251 : BitVec 32 := 1#32
  let v244 : BitVec 32 := Scalar.muli v1 c1_i32_251
  let v245 : BitVec 32 := Scalar.addi c0_i32_252 v244
  v245.toNat
def k0_off12 (v0 : BitVec 32) (c1_i32_257 : BitVec 32) : Fin 2 → Nat :=
  let v254 : BitVec 32 := Scalar.addi v0 c1_i32_257
  let c64_i32_273 : BitVec 32 := 64#32
  let v265 : BitVec 32 := Scalar.addi v254 c64_i32_273
  let c16_i32_274 : BitVec 32 := 16#32
  let v266 : BitVec 32 := Scalar.remsi v265 c16_i32_274
  let c128_i32_275 : BitVec 32 := 128#32
  let v267 : BitVec 32 := Scalar.muli v266 c128_i32_275
  let v268 : Index := Scalar.indexCast v267
  let c1280_276 : Index := 1280#32
  ![v268.toNat, 1280]
def k0_dev14 (v2 : BitVec 32) : Nat :=
  let c0_i32_287 : BitVec 32 := 0#32
  let c1_i32_286 : BitVec 32 := 1#32
  let v274 : BitVec 32 := Scalar.muli v2 c1_i32_286
  let v275 : BitVec 32 := Scalar.addi c0_i32_287 v274
  v275.toNat
def k0_off13 (v0 : BitVec 32) (c1_i32_292 : BitVec 32) : Fin 2 → Nat :=
  let v284 : BitVec 32 := Scalar.subi v0 c1_i32_292
  let c64_i32_308 : BitVec 32 := 64#32
  let v295 : BitVec 32 := Scalar.addi v284 c64_i32_308
  let c16_i32_309 : BitVec 32 := 16#32
  let v296 : BitVec 32 := Scalar.remsi v295 c16_i32_309
  let c128_i32_310 : BitVec 32 := 128#32
  let v297 : BitVec 32 := Scalar.muli v296 c128_i32_310
  let v298 : Index := Scalar.indexCast v297
  let c512_311 : Index := 512#32
  ![v298.toNat, 512]
def k0_dev15 (v1 : BitVec 32) : Nat :=
  let c0_i32_322 : BitVec 32 := 0#32
  let c1_i32_321 : BitVec 32 := 1#32
  let v304 : BitVec 32 := Scalar.muli v1 c1_i32_321
  let v305 : BitVec 32 := Scalar.addi c0_i32_322 v304
  v305.toNat
def k0_off14 (v0 : BitVec 32) (c1_i32_327 : BitVec 32) : Fin 2 → Nat :=
  let v314 : BitVec 32 := Scalar.addi v0 c1_i32_327
  let c64_i32_343 : BitVec 32 := 64#32
  let v325 : BitVec 32 := Scalar.addi v314 c64_i32_343
  let c16_i32_344 : BitVec 32 := 16#32
  let v326 : BitVec 32 := Scalar.remsi v325 c16_i32_344
  let c128_i32_345 : BitVec 32 := 128#32
  let v327 : BitVec 32 := Scalar.muli v326 c128_i32_345
  let v328 : Index := Scalar.indexCast v327
  let c1536_346 : Index := 1536#32
  ![v328.toNat, 1536]
def k0_dev16 (v2 : BitVec 32) : Nat :=
  let c0_i32_357 : BitVec 32 := 0#32
  let c1_i32_356 : BitVec 32 := 1#32
  let v334 : BitVec 32 := Scalar.muli v2 c1_i32_356
  let v335 : BitVec 32 := Scalar.addi c0_i32_357 v334
  v335.toNat
def k0_off15 (v0 : BitVec 32) (c1_i32_362 : BitVec 32) : Fin 2 → Nat :=
  let v344 : BitVec 32 := Scalar.subi v0 c1_i32_362
  let c64_i32_378 : BitVec 32 := 64#32
  let v355 : BitVec 32 := Scalar.addi v344 c64_i32_378
  let c16_i32_379 : BitVec 32 := 16#32
  let v356 : BitVec 32 := Scalar.remsi v355 c16_i32_379
  let c128_i32_380 : BitVec 32 := 128#32
  let v357 : BitVec 32 := Scalar.muli v356 c128_i32_380
  let v358 : Index := Scalar.indexCast v357
  let c768_381 : Index := 768#32
  ![v358.toNat, 768]
def k0_dev17 (v1 : BitVec 32) : Nat :=
  let c0_i32_392 : BitVec 32 := 0#32
  let c1_i32_391 : BitVec 32 := 1#32
  let v364 : BitVec 32 := Scalar.muli v1 c1_i32_391
  let v365 : BitVec 32 := Scalar.addi c0_i32_392 v364
  v365.toNat
def k0_off16 (v0 : BitVec 32) (c1_i32_397 : BitVec 32) : Fin 2 → Nat :=
  let v374 : BitVec 32 := Scalar.addi v0 c1_i32_397
  let c64_i32_413 : BitVec 32 := 64#32
  let v385 : BitVec 32 := Scalar.addi v374 c64_i32_413
  let c16_i32_414 : BitVec 32 := 16#32
  let v386 : BitVec 32 := Scalar.remsi v385 c16_i32_414
  let c128_i32_415 : BitVec 32 := 128#32
  let v387 : BitVec 32 := Scalar.muli v386 c128_i32_415
  let v388 : Index := Scalar.indexCast v387
  let c1792_416 : Index := 1792#32
  ![v388.toNat, 1792]

def k0_chk3 (v0 : BitVec 32) : Prop :=
  (∀ a, (k0_off1 v0) a + S128x256.size a ≤ S2048x2048.size a) ∧
  (∀ a, (k0_off2 v0) a + S128x256.size a ≤ S2048x2048.size a) ∧
  (∀ a, (k0_off3 v0) a + S128x256.size a ≤ S2048x2048.size a) ∧
  (∀ a, (k0_off4 v0) a + S128x256.size a ≤ S2048x2048.size a) ∧
  (∀ a, (k0_off5 v0) a + S128x256.size a ≤ S2048x2048.size a) ∧
  (∀ a, (k0_off6 v0) a + S128x256.size a ≤ S2048x2048.size a) ∧
  (∀ a, (k0_off7 v0) a + S128x256.size a ≤ S2048x2048.size a) ∧
  (∀ a, (k0_off8 v0) a + S128x256.size a ≤ S2048x2048.size a) ∧
  (∀ (r : Fin 16), ∀ a, (k0_off9 v0 (BitVec.ofNat 32 r.val)) a + S128x256.size a ≤ S2048x2048.size a) ∧
  (∀ (r : Fin 16), ∀ a, (k0_off10 v0 (BitVec.ofNat 32 r.val)) a + S128x256.size a ≤ S2048x2048.size a) ∧
  (∀ (r : Fin 16), ∀ a, (k0_off11 v0 (BitVec.ofNat 32 r.val)) a + S128x256.size a ≤ S2048x2048.size a) ∧
  (∀ (r : Fin 16), ∀ a, (k0_off12 v0 (BitVec.ofNat 32 r.val)) a + S128x256.size a ≤ S2048x2048.size a) ∧
  (∀ (r : Fin 16), ∀ a, (k0_off13 v0 (BitVec.ofNat 32 r.val)) a + S128x256.size a ≤ S2048x2048.size a) ∧
  (∀ (r : Fin 16), ∀ a, (k0_off14 v0 (BitVec.ofNat 32 r.val)) a + S128x256.size a ≤ S2048x2048.size a) ∧
  (∀ (r : Fin 16), ∀ a, (k0_off15 v0 (BitVec.ofNat 32 r.val)) a + S128x256.size a ≤ S2048x2048.size a) ∧
  (∀ (r : Fin 16), ∀ a, (k0_off16 v0 (BitVec.ofNat 32 r.val)) a + S128x256.size a ≤ S2048x2048.size a)
theorem k0_off1_inb : ∀ (v0 : BitVec 32) (k0_hw3 : k0_chk3 v0), ∀ a, (k0_off1 v0) a + S128x256.size a ≤ S2048x2048.size a := fun v0 k0_hw3 => k0_hw3.1
theorem k0_off2_inb : ∀ (v0 : BitVec 32) (k0_hw3 : k0_chk3 v0), ∀ a, (k0_off2 v0) a + S128x256.size a ≤ S2048x2048.size a := fun v0 k0_hw3 => k0_hw3.2.1
theorem k0_off3_inb : ∀ (v0 : BitVec 32) (k0_hw3 : k0_chk3 v0), ∀ a, (k0_off3 v0) a + S128x256.size a ≤ S2048x2048.size a := fun v0 k0_hw3 => k0_hw3.2.2.1
theorem k0_off4_inb : ∀ (v0 : BitVec 32) (k0_hw3 : k0_chk3 v0), ∀ a, (k0_off4 v0) a + S128x256.size a ≤ S2048x2048.size a := fun v0 k0_hw3 => k0_hw3.2.2.2.1
theorem k0_off5_inb : ∀ (v0 : BitVec 32) (k0_hw3 : k0_chk3 v0), ∀ a, (k0_off5 v0) a + S128x256.size a ≤ S2048x2048.size a := fun v0 k0_hw3 => k0_hw3.2.2.2.2.1
theorem k0_off6_inb : ∀ (v0 : BitVec 32) (k0_hw3 : k0_chk3 v0), ∀ a, (k0_off6 v0) a + S128x256.size a ≤ S2048x2048.size a := fun v0 k0_hw3 => k0_hw3.2.2.2.2.2.1
theorem k0_off7_inb : ∀ (v0 : BitVec 32) (k0_hw3 : k0_chk3 v0), ∀ a, (k0_off7 v0) a + S128x256.size a ≤ S2048x2048.size a := fun v0 k0_hw3 => k0_hw3.2.2.2.2.2.2.1
theorem k0_off8_inb : ∀ (v0 : BitVec 32) (k0_hw3 : k0_chk3 v0), ∀ a, (k0_off8 v0) a + S128x256.size a ≤ S2048x2048.size a := fun v0 k0_hw3 => k0_hw3.2.2.2.2.2.2.2.1
theorem k0_off9_inb : ∀ (v0 : BitVec 32) (k0_hw3 : k0_chk3 v0), ∀ (r : Fin 16), ∀ a, (k0_off9 v0 (BitVec.ofNat 32 r.val)) a + S128x256.size a ≤ S2048x2048.size a := fun v0 k0_hw3 r => k0_hw3.2.2.2.2.2.2.2.2.1 r
theorem k0_off10_inb : ∀ (v0 : BitVec 32) (k0_hw3 : k0_chk3 v0), ∀ (r : Fin 16), ∀ a, (k0_off10 v0 (BitVec.ofNat 32 r.val)) a + S128x256.size a ≤ S2048x2048.size a := fun v0 k0_hw3 r => k0_hw3.2.2.2.2.2.2.2.2.2.1 r
theorem k0_off11_inb : ∀ (v0 : BitVec 32) (k0_hw3 : k0_chk3 v0), ∀ (r : Fin 16), ∀ a, (k0_off11 v0 (BitVec.ofNat 32 r.val)) a + S128x256.size a ≤ S2048x2048.size a := fun v0 k0_hw3 r => k0_hw3.2.2.2.2.2.2.2.2.2.2.1 r
theorem k0_off12_inb : ∀ (v0 : BitVec 32) (k0_hw3 : k0_chk3 v0), ∀ (r : Fin 16), ∀ a, (k0_off12 v0 (BitVec.ofNat 32 r.val)) a + S128x256.size a ≤ S2048x2048.size a := fun v0 k0_hw3 r => k0_hw3.2.2.2.2.2.2.2.2.2.2.2.1 r
theorem k0_off13_inb : ∀ (v0 : BitVec 32) (k0_hw3 : k0_chk3 v0), ∀ (r : Fin 16), ∀ a, (k0_off13 v0 (BitVec.ofNat 32 r.val)) a + S128x256.size a ≤ S2048x2048.size a := fun v0 k0_hw3 r => k0_hw3.2.2.2.2.2.2.2.2.2.2.2.2.1 r
theorem k0_off14_inb : ∀ (v0 : BitVec 32) (k0_hw3 : k0_chk3 v0), ∀ (r : Fin 16), ∀ a, (k0_off14 v0 (BitVec.ofNat 32 r.val)) a + S128x256.size a ≤ S2048x2048.size a := fun v0 k0_hw3 r => k0_hw3.2.2.2.2.2.2.2.2.2.2.2.2.2.1 r
theorem k0_off15_inb : ∀ (v0 : BitVec 32) (k0_hw3 : k0_chk3 v0), ∀ (r : Fin 16), ∀ a, (k0_off15 v0 (BitVec.ofNat 32 r.val)) a + S128x256.size a ≤ S2048x2048.size a := fun v0 k0_hw3 r => k0_hw3.2.2.2.2.2.2.2.2.2.2.2.2.2.2.1 r
theorem k0_off16_inb : ∀ (v0 : BitVec 32) (k0_hw3 : k0_chk3 v0), ∀ (r : Fin 16), ∀ a, (k0_off16 v0 (BitVec.ofNat 32 r.val)) a + S128x256.size a ≤ S2048x2048.size a := fun v0 k0_hw3 r => k0_hw3.2.2.2.2.2.2.2.2.2.2.2.2.2.2.2 r

def k0_dev18 (v2 : BitVec 32) : Nat :=
  let c0_i32_427 : BitVec 32 := 0#32
  let c1_i32_426 : BitVec 32 := 1#32
  let v394 : BitVec 32 := Scalar.muli v2 c1_i32_426
  let v395 : BitVec 32 := Scalar.addi c0_i32_427 v394
  v395.toNat
def k0_dev19 (v1 : BitVec 32) : Nat :=
  let c0_i32_462 : BitVec 32 := 0#32
  let c1_i32_461 : BitVec 32 := 1#32
  let v424 : BitVec 32 := Scalar.muli v1 c1_i32_461
  let v425 : BitVec 32 := Scalar.addi c0_i32_462 v424
  v425.toNat
def k0_dev20 (v2 : BitVec 32) : Nat :=
  let c0_i32_497 : BitVec 32 := 0#32
  let c1_i32_496 : BitVec 32 := 1#32
  let v454 : BitVec 32 := Scalar.muli v2 c1_i32_496
  let v455 : BitVec 32 := Scalar.addi c0_i32_497 v454
  v455.toNat
def k0_dev21 (v1 : BitVec 32) : Nat :=
  let c0_i32_532 : BitVec 32 := 0#32
  let c1_i32_531 : BitVec 32 := 1#32
  let v484 : BitVec 32 := Scalar.muli v1 c1_i32_531
  let v485 : BitVec 32 := Scalar.addi c0_i32_532 v484
  v485.toNat
def k0_dev22 (v2 : BitVec 32) : Nat :=
  let c0_i32_567 : BitVec 32 := 0#32
  let c1_i32_566 : BitVec 32 := 1#32
  let v514 : BitVec 32 := Scalar.muli v2 c1_i32_566
  let v515 : BitVec 32 := Scalar.addi c0_i32_567 v514
  v515.toNat
def k0_dev23 (v1 : BitVec 32) : Nat :=
  let c0_i32_602 : BitVec 32 := 0#32
  let c1_i32_601 : BitVec 32 := 1#32
  let v544 : BitVec 32 := Scalar.muli v1 c1_i32_601
  let v545 : BitVec 32 := Scalar.addi c0_i32_602 v544
  v545.toNat
def k0_dev24 (v2 : BitVec 32) : Nat :=
  let c0_i32_637 : BitVec 32 := 0#32
  let c1_i32_636 : BitVec 32 := 1#32
  let v574 : BitVec 32 := Scalar.muli v2 c1_i32_636
  let v575 : BitVec 32 := Scalar.addi c0_i32_637 v574
  v575.toNat
def k0_dev25 (v1 : BitVec 32) : Nat :=
  let c0_i32_672 : BitVec 32 := 0#32
  let c1_i32_671 : BitVec 32 := 1#32
  let v604 : BitVec 32 := Scalar.muli v1 c1_i32_671
  let v605 : BitVec 32 := Scalar.addi c0_i32_672 v604
  v605.toNat
def k0_dev26 (v2 : BitVec 32) : Nat :=
  let c0_i32_707 : BitVec 32 := 0#32
  let c1_i32_706 : BitVec 32 := 1#32
  let v634 : BitVec 32 := Scalar.muli v2 c1_i32_706
  let v635 : BitVec 32 := Scalar.addi c0_i32_707 v634
  v635.toNat
def k0_dev27 (v1 : BitVec 32) : Nat :=
  let c0_i32_741 : BitVec 32 := 0#32
  let c1_i32_740 : BitVec 32 := 1#32
  let v664 : BitVec 32 := Scalar.muli v1 c1_i32_740
  let v665 : BitVec 32 := Scalar.addi c0_i32_741 v664
  v665.toNat
def k0_dev28 (v2 : BitVec 32) : Nat :=
  let c0_i32_776 : BitVec 32 := 0#32
  let c1_i32_775 : BitVec 32 := 1#32
  let v694 : BitVec 32 := Scalar.muli v2 c1_i32_775
  let v695 : BitVec 32 := Scalar.addi c0_i32_776 v694
  v695.toNat
def k0_dev29 (v1 : BitVec 32) : Nat :=
  let c0_i32_811 : BitVec 32 := 0#32
  let c1_i32_810 : BitVec 32 := 1#32
  let v724 : BitVec 32 := Scalar.muli v1 c1_i32_810
  let v725 : BitVec 32 := Scalar.addi c0_i32_811 v724
  v725.toNat
def k0_dev30 (v2 : BitVec 32) : Nat :=
  let c0_i32_846 : BitVec 32 := 0#32
  let c1_i32_845 : BitVec 32 := 1#32
  let v754 : BitVec 32 := Scalar.muli v2 c1_i32_845
  let v755 : BitVec 32 := Scalar.addi c0_i32_846 v754
  v755.toNat
def k0_dev31 (v1 : BitVec 32) : Nat :=
  let c0_i32_881 : BitVec 32 := 0#32
  let c1_i32_880 : BitVec 32 := 1#32
  let v784 : BitVec 32 := Scalar.muli v1 c1_i32_880
  let v785 : BitVec 32 := Scalar.addi c0_i32_881 v784
  v785.toNat
def k0_dev32 (v2 : BitVec 32) : Nat :=
  let c0_i32_916 : BitVec 32 := 0#32
  let c1_i32_915 : BitVec 32 := 1#32
  let v814 : BitVec 32 := Scalar.muli v2 c1_i32_915
  let v815 : BitVec 32 := Scalar.addi c0_i32_916 v814
  v815.toNat
def k0_dev33 (v1 : BitVec 32) : Nat :=
  let c0_i32_951 : BitVec 32 := 0#32
  let c1_i32_950 : BitVec 32 := 1#32
  let v844 : BitVec 32 := Scalar.muli v1 c1_i32_950
  let v845 : BitVec 32 := Scalar.addi c0_i32_951 v844
  v845.toNat
def k0_dev34 (v2 : BitVec 32) : Nat :=
  let c0_i32_986 : BitVec 32 := 0#32
  let c1_i32_985 : BitVec 32 := 1#32
  let v874 : BitVec 32 := Scalar.muli v2 c1_i32_985
  let v875 : BitVec 32 := Scalar.addi c0_i32_986 v874
  v875.toNat
def k0_dev35 (v1 : BitVec 32) : Nat :=
  let c0_i32_1019 : BitVec 32 := 0#32
  let c1_i32_1018 : BitVec 32 := 1#32
  let v904 : BitVec 32 := Scalar.muli v1 c1_i32_1018
  let v905 : BitVec 32 := Scalar.addi c0_i32_1019 v904
  v905.toNat
def k0_dev36 (v2 : BitVec 32) : Nat :=
  let c0_i32_1054 : BitVec 32 := 0#32
  let c1_i32_1053 : BitVec 32 := 1#32
  let v934 : BitVec 32 := Scalar.muli v2 c1_i32_1053
  let v935 : BitVec 32 := Scalar.addi c0_i32_1054 v934
  v935.toNat
def k0_dev37 (v1 : BitVec 32) : Nat :=
  let c0_i32_1089 : BitVec 32 := 0#32
  let c1_i32_1088 : BitVec 32 := 1#32
  let v964 : BitVec 32 := Scalar.muli v1 c1_i32_1088
  let v965 : BitVec 32 := Scalar.addi c0_i32_1089 v964
  v965.toNat
def k0_dev38 (v2 : BitVec 32) : Nat :=
  let c0_i32_1124 : BitVec 32 := 0#32
  let c1_i32_1123 : BitVec 32 := 1#32
  let v994 : BitVec 32 := Scalar.muli v2 c1_i32_1123
  let v995 : BitVec 32 := Scalar.addi c0_i32_1124 v994
  v995.toNat
def k0_dev39 (v1 : BitVec 32) : Nat :=
  let c0_i32_1159 : BitVec 32 := 0#32
  let c1_i32_1158 : BitVec 32 := 1#32
  let v1024 : BitVec 32 := Scalar.muli v1 c1_i32_1158
  let v1025 : BitVec 32 := Scalar.addi c0_i32_1159 v1024
  v1025.toNat
def k0_dev40 (v2 : BitVec 32) : Nat :=
  let c0_i32_1194 : BitVec 32 := 0#32
  let c1_i32_1193 : BitVec 32 := 1#32
  let v1054 : BitVec 32 := Scalar.muli v2 c1_i32_1193
  let v1055 : BitVec 32 := Scalar.addi c0_i32_1194 v1054
  v1055.toNat
def k0_dev41 (v1 : BitVec 32) : Nat :=
  let c0_i32_1229 : BitVec 32 := 0#32
  let c1_i32_1228 : BitVec 32 := 1#32
  let v1084 : BitVec 32 := Scalar.muli v1 c1_i32_1228
  let v1085 : BitVec 32 := Scalar.addi c0_i32_1229 v1084
  v1085.toNat
def k0_dev42 (v2 : BitVec 32) : Nat :=
  let c0_i32_1264 : BitVec 32 := 0#32
  let c1_i32_1263 : BitVec 32 := 1#32
  let v1114 : BitVec 32 := Scalar.muli v2 c1_i32_1263
  let v1115 : BitVec 32 := Scalar.addi c0_i32_1264 v1114
  v1115.toNat
def k0_dev43 (v1 : BitVec 32) : Nat :=
  let c0_i32_1297 : BitVec 32 := 0#32
  let c1_i32_1296 : BitVec 32 := 1#32
  let v1144 : BitVec 32 := Scalar.muli v1 c1_i32_1296
  let v1145 : BitVec 32 := Scalar.addi c0_i32_1297 v1144
  v1145.toNat
def k0_dev44 (v2 : BitVec 32) : Nat :=
  let c0_i32_1332 : BitVec 32 := 0#32
  let c1_i32_1331 : BitVec 32 := 1#32
  let v1174 : BitVec 32 := Scalar.muli v2 c1_i32_1331
  let v1175 : BitVec 32 := Scalar.addi c0_i32_1332 v1174
  v1175.toNat
def k0_dev45 (v1 : BitVec 32) : Nat :=
  let c0_i32_1367 : BitVec 32 := 0#32
  let c1_i32_1366 : BitVec 32 := 1#32
  let v1204 : BitVec 32 := Scalar.muli v1 c1_i32_1366
  let v1205 : BitVec 32 := Scalar.addi c0_i32_1367 v1204
  v1205.toNat
def k0_dev46 (v2 : BitVec 32) : Nat :=
  let c0_i32_1402 : BitVec 32 := 0#32
  let c1_i32_1401 : BitVec 32 := 1#32
  let v1234 : BitVec 32 := Scalar.muli v2 c1_i32_1401
  let v1235 : BitVec 32 := Scalar.addi c0_i32_1402 v1234
  v1235.toNat
def k0_dev47 (v1 : BitVec 32) : Nat :=
  let c0_i32_1437 : BitVec 32 := 0#32
  let c1_i32_1436 : BitVec 32 := 1#32
  let v1264 : BitVec 32 := Scalar.muli v1 c1_i32_1436
  let v1265 : BitVec 32 := Scalar.addi c0_i32_1437 v1264
  v1265.toNat
def k0_dev48 (v2 : BitVec 32) : Nat :=
  let c0_i32_1472 : BitVec 32 := 0#32
  let c1_i32_1471 : BitVec 32 := 1#32
  let v1294 : BitVec 32 := Scalar.muli v2 c1_i32_1471
  let v1295 : BitVec 32 := Scalar.addi c0_i32_1472 v1294
  v1295.toNat
def k0_dev49 (v1 : BitVec 32) : Nat :=
  let c0_i32_1507 : BitVec 32 := 0#32
  let c1_i32_1506 : BitVec 32 := 1#32
  let v1324 : BitVec 32 := Scalar.muli v1 c1_i32_1506
  let v1325 : BitVec 32 := Scalar.addi c0_i32_1507 v1324
  v1325.toNat
def k0_dev50 (v2 : BitVec 32) : Nat :=
  let c0_i32_1542 : BitVec 32 := 0#32
  let c1_i32_1541 : BitVec 32 := 1#32
  let v1354 : BitVec 32 := Scalar.muli v2 c1_i32_1541
  let v1355 : BitVec 32 := Scalar.addi c0_i32_1542 v1354
  v1355.toNat
def k0_dev51 (v1 : BitVec 32) : Nat :=
  let c0_i32_1575 : BitVec 32 := 0#32
  let c1_i32_1574 : BitVec 32 := 1#32
  let v1384 : BitVec 32 := Scalar.muli v1 c1_i32_1574
  let v1385 : BitVec 32 := Scalar.addi c0_i32_1575 v1384
  v1385.toNat
def k0_dev52 (v2 : BitVec 32) : Nat :=
  let c0_i32_1610 : BitVec 32 := 0#32
  let c1_i32_1609 : BitVec 32 := 1#32
  let v1414 : BitVec 32 := Scalar.muli v2 c1_i32_1609
  let v1415 : BitVec 32 := Scalar.addi c0_i32_1610 v1414
  v1415.toNat
def k0_dev53 (v1 : BitVec 32) : Nat :=
  let c0_i32_1645 : BitVec 32 := 0#32
  let c1_i32_1644 : BitVec 32 := 1#32
  let v1444 : BitVec 32 := Scalar.muli v1 c1_i32_1644
  let v1445 : BitVec 32 := Scalar.addi c0_i32_1645 v1444
  v1445.toNat
def k0_dev54 (v2 : BitVec 32) : Nat :=
  let c0_i32_1680 : BitVec 32 := 0#32
  let c1_i32_1679 : BitVec 32 := 1#32
  let v1474 : BitVec 32 := Scalar.muli v2 c1_i32_1679
  let v1475 : BitVec 32 := Scalar.addi c0_i32_1680 v1474
  v1475.toNat
def k0_dev55 (v1 : BitVec 32) : Nat :=
  let c0_i32_1715 : BitVec 32 := 0#32
  let c1_i32_1714 : BitVec 32 := 1#32
  let v1504 : BitVec 32 := Scalar.muli v1 c1_i32_1714
  let v1505 : BitVec 32 := Scalar.addi c0_i32_1715 v1504
  v1505.toNat
def k0_dev56 (v2 : BitVec 32) : Nat :=
  let c0_i32_1750 : BitVec 32 := 0#32
  let c1_i32_1749 : BitVec 32 := 1#32
  let v1534 : BitVec 32 := Scalar.muli v2 c1_i32_1749
  let v1535 : BitVec 32 := Scalar.addi c0_i32_1750 v1534
  v1535.toNat
def k0_dev57 (v1 : BitVec 32) : Nat :=
  let c0_i32_1785 : BitVec 32 := 0#32
  let c1_i32_1784 : BitVec 32 := 1#32
  let v1564 : BitVec 32 := Scalar.muli v1 c1_i32_1784
  let v1565 : BitVec 32 := Scalar.addi c0_i32_1785 v1564
  v1565.toNat
def k0_dev58 (v2 : BitVec 32) : Nat :=
  let c0_i32_1820 : BitVec 32 := 0#32
  let c1_i32_1819 : BitVec 32 := 1#32
  let v1594 : BitVec 32 := Scalar.muli v2 c1_i32_1819
  let v1595 : BitVec 32 := Scalar.addi c0_i32_1820 v1594
  v1595.toNat
def k0_dev59 (v1 : BitVec 32) : Nat :=
  let c0_i32_1853 : BitVec 32 := 0#32
  let c1_i32_1852 : BitVec 32 := 1#32
  let v1624 : BitVec 32 := Scalar.muli v1 c1_i32_1852
  let v1625 : BitVec 32 := Scalar.addi c0_i32_1853 v1624
  v1625.toNat
def k0_dev60 (v2 : BitVec 32) : Nat :=
  let c0_i32_1888 : BitVec 32 := 0#32
  let c1_i32_1887 : BitVec 32 := 1#32
  let v1654 : BitVec 32 := Scalar.muli v2 c1_i32_1887
  let v1655 : BitVec 32 := Scalar.addi c0_i32_1888 v1654
  v1655.toNat
def k0_dev61 (v1 : BitVec 32) : Nat :=
  let c0_i32_1923 : BitVec 32 := 0#32
  let c1_i32_1922 : BitVec 32 := 1#32
  let v1684 : BitVec 32 := Scalar.muli v1 c1_i32_1922
  let v1685 : BitVec 32 := Scalar.addi c0_i32_1923 v1684
  v1685.toNat
def k0_dev62 (v2 : BitVec 32) : Nat :=
  let c0_i32_1958 : BitVec 32 := 0#32
  let c1_i32_1957 : BitVec 32 := 1#32
  let v1714 : BitVec 32 := Scalar.muli v2 c1_i32_1957
  let v1715 : BitVec 32 := Scalar.addi c0_i32_1958 v1714
  v1715.toNat
def k0_dev63 (v1 : BitVec 32) : Nat :=
  let c0_i32_1993 : BitVec 32 := 0#32
  let c1_i32_1992 : BitVec 32 := 1#32
  let v1744 : BitVec 32 := Scalar.muli v1 c1_i32_1992
  let v1745 : BitVec 32 := Scalar.addi c0_i32_1993 v1744
  v1745.toNat
def k0_dev64 (v2 : BitVec 32) : Nat :=
  let c0_i32_2028 : BitVec 32 := 0#32
  let c1_i32_2027 : BitVec 32 := 1#32
  let v1774 : BitVec 32 := Scalar.muli v2 c1_i32_2027
  let v1775 : BitVec 32 := Scalar.addi c0_i32_2028 v1774
  v1775.toNat
def k0_dev65 (v1 : BitVec 32) : Nat :=
  let c0_i32_2063 : BitVec 32 := 0#32
  let c1_i32_2062 : BitVec 32 := 1#32
  let v1804 : BitVec 32 := Scalar.muli v1 c1_i32_2062
  let v1805 : BitVec 32 := Scalar.addi c0_i32_2063 v1804
  v1805.toNat
def k0_dev66 (v2 : BitVec 32) : Nat :=
  let c0_i32_2098 : BitVec 32 := 0#32
  let c1_i32_2097 : BitVec 32 := 1#32
  let v1834 : BitVec 32 := Scalar.muli v2 c1_i32_2097
  let v1835 : BitVec 32 := Scalar.addi c0_i32_2098 v1834
  v1835.toNat
def k0_dev67 (v1 : BitVec 32) : Nat :=
  let c0_i32_2131 : BitVec 32 := 0#32
  let c1_i32_2130 : BitVec 32 := 1#32
  let v1864 : BitVec 32 := Scalar.muli v1 c1_i32_2130
  let v1865 : BitVec 32 := Scalar.addi c0_i32_2131 v1864
  v1865.toNat
def k0_dev68 (v2 : BitVec 32) : Nat :=
  let c0_i32_2166 : BitVec 32 := 0#32
  let c1_i32_2165 : BitVec 32 := 1#32
  let v1894 : BitVec 32 := Scalar.muli v2 c1_i32_2165
  let v1895 : BitVec 32 := Scalar.addi c0_i32_2166 v1894
  v1895.toNat
def k0_dev69 (v1 : BitVec 32) : Nat :=
  let c0_i32_2201 : BitVec 32 := 0#32
  let c1_i32_2200 : BitVec 32 := 1#32
  let v1924 : BitVec 32 := Scalar.muli v1 c1_i32_2200
  let v1925 : BitVec 32 := Scalar.addi c0_i32_2201 v1924
  v1925.toNat
def k0_dev70 (v2 : BitVec 32) : Nat :=
  let c0_i32_2236 : BitVec 32 := 0#32
  let c1_i32_2235 : BitVec 32 := 1#32
  let v1954 : BitVec 32 := Scalar.muli v2 c1_i32_2235
  let v1955 : BitVec 32 := Scalar.addi c0_i32_2236 v1954
  v1955.toNat
def k0_dev71 (v1 : BitVec 32) : Nat :=
  let c0_i32_2271 : BitVec 32 := 0#32
  let c1_i32_2270 : BitVec 32 := 1#32
  let v1984 : BitVec 32 := Scalar.muli v1 c1_i32_2270
  let v1985 : BitVec 32 := Scalar.addi c0_i32_2271 v1984
  v1985.toNat
def k0_dev72 (v2 : BitVec 32) : Nat :=
  let c0_i32_2306 : BitVec 32 := 0#32
  let c1_i32_2305 : BitVec 32 := 1#32
  let v2014 : BitVec 32 := Scalar.muli v2 c1_i32_2305
  let v2015 : BitVec 32 := Scalar.addi c0_i32_2306 v2014
  v2015.toNat
def k0_dev73 (v1 : BitVec 32) : Nat :=
  let c0_i32_2341 : BitVec 32 := 0#32
  let c1_i32_2340 : BitVec 32 := 1#32
  let v2044 : BitVec 32 := Scalar.muli v1 c1_i32_2340
  let v2045 : BitVec 32 := Scalar.addi c0_i32_2341 v2044
  v2045.toNat
def k0_dev74 (v2 : BitVec 32) : Nat :=
  let c0_i32_2376 : BitVec 32 := 0#32
  let c1_i32_2375 : BitVec 32 := 1#32
  let v2074 : BitVec 32 := Scalar.muli v2 c1_i32_2375
  let v2075 : BitVec 32 := Scalar.addi c0_i32_2376 v2074
  v2075.toNat
def k0_dev75 (v1 : BitVec 32) : Nat :=
  let c0_i32_2409 : BitVec 32 := 0#32
  let c1_i32_2408 : BitVec 32 := 1#32
  let v2104 : BitVec 32 := Scalar.muli v1 c1_i32_2408
  let v2105 : BitVec 32 := Scalar.addi c0_i32_2409 v2104
  v2105.toNat
def k0_dev76 (v2 : BitVec 32) : Nat :=
  let c0_i32_2444 : BitVec 32 := 0#32
  let c1_i32_2443 : BitVec 32 := 1#32
  let v2134 : BitVec 32 := Scalar.muli v2 c1_i32_2443
  let v2135 : BitVec 32 := Scalar.addi c0_i32_2444 v2134
  v2135.toNat
def k0_dev77 (v1 : BitVec 32) : Nat :=
  let c0_i32_2479 : BitVec 32 := 0#32
  let c1_i32_2478 : BitVec 32 := 1#32
  let v2164 : BitVec 32 := Scalar.muli v1 c1_i32_2478
  let v2165 : BitVec 32 := Scalar.addi c0_i32_2479 v2164
  v2165.toNat
def k0_dev78 (v2 : BitVec 32) : Nat :=
  let c0_i32_2514 : BitVec 32 := 0#32
  let c1_i32_2513 : BitVec 32 := 1#32
  let v2194 : BitVec 32 := Scalar.muli v2 c1_i32_2513
  let v2195 : BitVec 32 := Scalar.addi c0_i32_2514 v2194
  v2195.toNat
def k0_dev79 (v1 : BitVec 32) : Nat :=
  let c0_i32_2549 : BitVec 32 := 0#32
  let c1_i32_2548 : BitVec 32 := 1#32
  let v2224 : BitVec 32 := Scalar.muli v1 c1_i32_2548
  let v2225 : BitVec 32 := Scalar.addi c0_i32_2549 v2224
  v2225.toNat
def k0_dev80 (v2 : BitVec 32) : Nat :=
  let c0_i32_2584 : BitVec 32 := 0#32
  let c1_i32_2583 : BitVec 32 := 1#32
  let v2254 : BitVec 32 := Scalar.muli v2 c1_i32_2583
  let v2255 : BitVec 32 := Scalar.addi c0_i32_2584 v2254
  v2255.toNat
def k0_dev81 (v1 : BitVec 32) : Nat :=
  let c0_i32_2619 : BitVec 32 := 0#32
  let c1_i32_2618 : BitVec 32 := 1#32
  let v2284 : BitVec 32 := Scalar.muli v1 c1_i32_2618
  let v2285 : BitVec 32 := Scalar.addi c0_i32_2619 v2284
  v2285.toNat
def k0_dev82 (v2 : BitVec 32) : Nat :=
  let c0_i32_2654 : BitVec 32 := 0#32
  let c1_i32_2653 : BitVec 32 := 1#32
  let v2314 : BitVec 32 := Scalar.muli v2 c1_i32_2653
  let v2315 : BitVec 32 := Scalar.addi c0_i32_2654 v2314
  v2315.toNat
def k0_dev83 (v1 : BitVec 32) : Nat :=
  let c0_i32_2687 : BitVec 32 := 0#32
  let c1_i32_2686 : BitVec 32 := 1#32
  let v2344 : BitVec 32 := Scalar.muli v1 c1_i32_2686
  let v2345 : BitVec 32 := Scalar.addi c0_i32_2687 v2344
  v2345.toNat
def k0_dev84 (v2 : BitVec 32) : Nat :=
  let c0_i32_2722 : BitVec 32 := 0#32
  let c1_i32_2721 : BitVec 32 := 1#32
  let v2374 : BitVec 32 := Scalar.muli v2 c1_i32_2721
  let v2375 : BitVec 32 := Scalar.addi c0_i32_2722 v2374
  v2375.toNat
def k0_dev85 (v1 : BitVec 32) : Nat :=
  let c0_i32_2757 : BitVec 32 := 0#32
  let c1_i32_2756 : BitVec 32 := 1#32
  let v2404 : BitVec 32 := Scalar.muli v1 c1_i32_2756
  let v2405 : BitVec 32 := Scalar.addi c0_i32_2757 v2404
  v2405.toNat
def k0_dev86 (v2 : BitVec 32) : Nat :=
  let c0_i32_2792 : BitVec 32 := 0#32
  let c1_i32_2791 : BitVec 32 := 1#32
  let v2434 : BitVec 32 := Scalar.muli v2 c1_i32_2791
  let v2435 : BitVec 32 := Scalar.addi c0_i32_2792 v2434
  v2435.toNat
def k0_dev87 (v1 : BitVec 32) : Nat :=
  let c0_i32_2827 : BitVec 32 := 0#32
  let c1_i32_2826 : BitVec 32 := 1#32
  let v2464 : BitVec 32 := Scalar.muli v1 c1_i32_2826
  let v2465 : BitVec 32 := Scalar.addi c0_i32_2827 v2464
  v2465.toNat
def k0_dev88 (v2 : BitVec 32) : Nat :=
  let c0_i32_2862 : BitVec 32 := 0#32
  let c1_i32_2861 : BitVec 32 := 1#32
  let v2494 : BitVec 32 := Scalar.muli v2 c1_i32_2861
  let v2495 : BitVec 32 := Scalar.addi c0_i32_2862 v2494
  v2495.toNat
def k0_dev89 (v1 : BitVec 32) : Nat :=
  let c0_i32_2897 : BitVec 32 := 0#32
  let c1_i32_2896 : BitVec 32 := 1#32
  let v2524 : BitVec 32 := Scalar.muli v1 c1_i32_2896
  let v2525 : BitVec 32 := Scalar.addi c0_i32_2897 v2524
  v2525.toNat
def k0_dev90 (v2 : BitVec 32) : Nat :=
  let c0_i32_2932 : BitVec 32 := 0#32
  let c1_i32_2931 : BitVec 32 := 1#32
  let v2554 : BitVec 32 := Scalar.muli v2 c1_i32_2931
  let v2555 : BitVec 32 := Scalar.addi c0_i32_2932 v2554
  v2555.toNat
def k0_dev91 (v1 : BitVec 32) : Nat :=
  let c0_i32_2965 : BitVec 32 := 0#32
  let c1_i32_2964 : BitVec 32 := 1#32
  let v2584 : BitVec 32 := Scalar.muli v1 c1_i32_2964
  let v2585 : BitVec 32 := Scalar.addi c0_i32_2965 v2584
  v2585.toNat
def k0_dev92 (v2 : BitVec 32) : Nat :=
  let c0_i32_3000 : BitVec 32 := 0#32
  let c1_i32_2999 : BitVec 32 := 1#32
  let v2614 : BitVec 32 := Scalar.muli v2 c1_i32_2999
  let v2615 : BitVec 32 := Scalar.addi c0_i32_3000 v2614
  v2615.toNat
def k0_dev93 (v1 : BitVec 32) : Nat :=
  let c0_i32_3035 : BitVec 32 := 0#32
  let c1_i32_3034 : BitVec 32 := 1#32
  let v2644 : BitVec 32 := Scalar.muli v1 c1_i32_3034
  let v2645 : BitVec 32 := Scalar.addi c0_i32_3035 v2644
  v2645.toNat
def k0_dev94 (v2 : BitVec 32) : Nat :=
  let c0_i32_3070 : BitVec 32 := 0#32
  let c1_i32_3069 : BitVec 32 := 1#32
  let v2674 : BitVec 32 := Scalar.muli v2 c1_i32_3069
  let v2675 : BitVec 32 := Scalar.addi c0_i32_3070 v2674
  v2675.toNat
def k0_dev95 (v1 : BitVec 32) : Nat :=
  let c0_i32_3105 : BitVec 32 := 0#32
  let c1_i32_3104 : BitVec 32 := 1#32
  let v2704 : BitVec 32 := Scalar.muli v1 c1_i32_3104
  let v2705 : BitVec 32 := Scalar.addi c0_i32_3105 v2704
  v2705.toNat
def k0_dev96 (v2 : BitVec 32) : Nat :=
  let c0_i32_3140 : BitVec 32 := 0#32
  let c1_i32_3139 : BitVec 32 := 1#32
  let v2734 : BitVec 32 := Scalar.muli v2 c1_i32_3139
  let v2735 : BitVec 32 := Scalar.addi c0_i32_3140 v2734
  v2735.toNat
def k0_dev97 (v1 : BitVec 32) : Nat :=
  let c0_i32_3175 : BitVec 32 := 0#32
  let c1_i32_3174 : BitVec 32 := 1#32
  let v2764 : BitVec 32 := Scalar.muli v1 c1_i32_3174
  let v2765 : BitVec 32 := Scalar.addi c0_i32_3175 v2764
  v2765.toNat
def k0_dev98 (v2 : BitVec 32) : Nat :=
  let c0_i32_3210 : BitVec 32 := 0#32
  let c1_i32_3209 : BitVec 32 := 1#32
  let v2794 : BitVec 32 := Scalar.muli v2 c1_i32_3209
  let v2795 : BitVec 32 := Scalar.addi c0_i32_3210 v2794
  v2795.toNat
def k0_dev99 (v1 : BitVec 32) : Nat :=
  let c0_i32_3243 : BitVec 32 := 0#32
  let c1_i32_3242 : BitVec 32 := 1#32
  let v2824 : BitVec 32 := Scalar.muli v1 c1_i32_3242
  let v2825 : BitVec 32 := Scalar.addi c0_i32_3243 v2824
  v2825.toNat
def k0_dev100 (v2 : BitVec 32) : Nat :=
  let c0_i32_3278 : BitVec 32 := 0#32
  let c1_i32_3277 : BitVec 32 := 1#32
  let v2854 : BitVec 32 := Scalar.muli v2 c1_i32_3277
  let v2855 : BitVec 32 := Scalar.addi c0_i32_3278 v2854
  v2855.toNat
def k0_dev101 (v1 : BitVec 32) : Nat :=
  let c0_i32_3313 : BitVec 32 := 0#32
  let c1_i32_3312 : BitVec 32 := 1#32
  let v2884 : BitVec 32 := Scalar.muli v1 c1_i32_3312
  let v2885 : BitVec 32 := Scalar.addi c0_i32_3313 v2884
  v2885.toNat
def k0_dev102 (v2 : BitVec 32) : Nat :=
  let c0_i32_3348 : BitVec 32 := 0#32
  let c1_i32_3347 : BitVec 32 := 1#32
  let v2914 : BitVec 32 := Scalar.muli v2 c1_i32_3347
  let v2915 : BitVec 32 := Scalar.addi c0_i32_3348 v2914
  v2915.toNat
def k0_dev103 (v1 : BitVec 32) : Nat :=
  let c0_i32_3383 : BitVec 32 := 0#32
  let c1_i32_3382 : BitVec 32 := 1#32
  let v2944 : BitVec 32 := Scalar.muli v1 c1_i32_3382
  let v2945 : BitVec 32 := Scalar.addi c0_i32_3383 v2944
  v2945.toNat
def k0_dev104 (v2 : BitVec 32) : Nat :=
  let c0_i32_3418 : BitVec 32 := 0#32
  let c1_i32_3417 : BitVec 32 := 1#32
  let v2974 : BitVec 32 := Scalar.muli v2 c1_i32_3417
  let v2975 : BitVec 32 := Scalar.addi c0_i32_3418 v2974
  v2975.toNat
def k0_dev105 (v1 : BitVec 32) : Nat :=
  let c0_i32_3453 : BitVec 32 := 0#32
  let c1_i32_3452 : BitVec 32 := 1#32
  let v3004 : BitVec 32 := Scalar.muli v1 c1_i32_3452
  let v3005 : BitVec 32 := Scalar.addi c0_i32_3453 v3004
  v3005.toNat
def k0_dev106 (v2 : BitVec 32) : Nat :=
  let c0_i32_3488 : BitVec 32 := 0#32
  let c1_i32_3487 : BitVec 32 := 1#32
  let v3034 : BitVec 32 := Scalar.muli v2 c1_i32_3487
  let v3035 : BitVec 32 := Scalar.addi c0_i32_3488 v3034
  v3035.toNat
def k0_dev107 (v1 : BitVec 32) : Nat :=
  let c0_i32_3521 : BitVec 32 := 0#32
  let c1_i32_3520 : BitVec 32 := 1#32
  let v3064 : BitVec 32 := Scalar.muli v1 c1_i32_3520
  let v3065 : BitVec 32 := Scalar.addi c0_i32_3521 v3064
  v3065.toNat
def k0_dev108 (v2 : BitVec 32) : Nat :=
  let c0_i32_3556 : BitVec 32 := 0#32
  let c1_i32_3555 : BitVec 32 := 1#32
  let v3094 : BitVec 32 := Scalar.muli v2 c1_i32_3555
  let v3095 : BitVec 32 := Scalar.addi c0_i32_3556 v3094
  v3095.toNat
def k0_dev109 (v1 : BitVec 32) : Nat :=
  let c0_i32_3591 : BitVec 32 := 0#32
  let c1_i32_3590 : BitVec 32 := 1#32
  let v3124 : BitVec 32 := Scalar.muli v1 c1_i32_3590
  let v3125 : BitVec 32 := Scalar.addi c0_i32_3591 v3124
  v3125.toNat
def k0_dev110 (v2 : BitVec 32) : Nat :=
  let c0_i32_3626 : BitVec 32 := 0#32
  let c1_i32_3625 : BitVec 32 := 1#32
  let v3154 : BitVec 32 := Scalar.muli v2 c1_i32_3625
  let v3155 : BitVec 32 := Scalar.addi c0_i32_3626 v3154
  v3155.toNat
def k0_dev111 (v1 : BitVec 32) : Nat :=
  let c0_i32_3661 : BitVec 32 := 0#32
  let c1_i32_3660 : BitVec 32 := 1#32
  let v3184 : BitVec 32 := Scalar.muli v1 c1_i32_3660
  let v3185 : BitVec 32 := Scalar.addi c0_i32_3661 v3184
  v3185.toNat
def k0_dev112 (v2 : BitVec 32) : Nat :=
  let c0_i32_3696 : BitVec 32 := 0#32
  let c1_i32_3695 : BitVec 32 := 1#32
  let v3214 : BitVec 32 := Scalar.muli v2 c1_i32_3695
  let v3215 : BitVec 32 := Scalar.addi c0_i32_3696 v3214
  v3215.toNat
def k0_dev113 (v1 : BitVec 32) : Nat :=
  let c0_i32_3731 : BitVec 32 := 0#32
  let c1_i32_3730 : BitVec 32 := 1#32
  let v3244 : BitVec 32 := Scalar.muli v1 c1_i32_3730
  let v3245 : BitVec 32 := Scalar.addi c0_i32_3731 v3244
  v3245.toNat
def k0_dev114 (v2 : BitVec 32) : Nat :=
  let c0_i32_3766 : BitVec 32 := 0#32
  let c1_i32_3765 : BitVec 32 := 1#32
  let v3274 : BitVec 32 := Scalar.muli v2 c1_i32_3765
  let v3275 : BitVec 32 := Scalar.addi c0_i32_3766 v3274
  v3275.toNat
def k0_dev115 (v1 : BitVec 32) : Nat :=
  let c0_i32_3799 : BitVec 32 := 0#32
  let c1_i32_3798 : BitVec 32 := 1#32
  let v3304 : BitVec 32 := Scalar.muli v1 c1_i32_3798
  let v3305 : BitVec 32 := Scalar.addi c0_i32_3799 v3304
  v3305.toNat
def k0_dev116 (v2 : BitVec 32) : Nat :=
  let c0_i32_3834 : BitVec 32 := 0#32
  let c1_i32_3833 : BitVec 32 := 1#32
  let v3334 : BitVec 32 := Scalar.muli v2 c1_i32_3833
  let v3335 : BitVec 32 := Scalar.addi c0_i32_3834 v3334
  v3335.toNat
def k0_dev117 (v1 : BitVec 32) : Nat :=
  let c0_i32_3869 : BitVec 32 := 0#32
  let c1_i32_3868 : BitVec 32 := 1#32
  let v3364 : BitVec 32 := Scalar.muli v1 c1_i32_3868
  let v3365 : BitVec 32 := Scalar.addi c0_i32_3869 v3364
  v3365.toNat
def k0_dev118 (v2 : BitVec 32) : Nat :=
  let c0_i32_3904 : BitVec 32 := 0#32
  let c1_i32_3903 : BitVec 32 := 1#32
  let v3394 : BitVec 32 := Scalar.muli v2 c1_i32_3903
  let v3395 : BitVec 32 := Scalar.addi c0_i32_3904 v3394
  v3395.toNat
def k0_dev119 (v1 : BitVec 32) : Nat :=
  let c0_i32_3939 : BitVec 32 := 0#32
  let c1_i32_3938 : BitVec 32 := 1#32
  let v3424 : BitVec 32 := Scalar.muli v1 c1_i32_3938
  let v3425 : BitVec 32 := Scalar.addi c0_i32_3939 v3424
  v3425.toNat
def k0_dev120 (v2 : BitVec 32) : Nat :=
  let c0_i32_3974 : BitVec 32 := 0#32
  let c1_i32_3973 : BitVec 32 := 1#32
  let v3454 : BitVec 32 := Scalar.muli v2 c1_i32_3973
  let v3455 : BitVec 32 := Scalar.addi c0_i32_3974 v3454
  v3455.toNat
def k0_dev121 (v1 : BitVec 32) : Nat :=
  let c0_i32_4009 : BitVec 32 := 0#32
  let c1_i32_4008 : BitVec 32 := 1#32
  let v3484 : BitVec 32 := Scalar.muli v1 c1_i32_4008
  let v3485 : BitVec 32 := Scalar.addi c0_i32_4009 v3484
  v3485.toNat
def k0_dev122 (v2 : BitVec 32) : Nat :=
  let c0_i32_4044 : BitVec 32 := 0#32
  let c1_i32_4043 : BitVec 32 := 1#32
  let v3514 : BitVec 32 := Scalar.muli v2 c1_i32_4043
  let v3515 : BitVec 32 := Scalar.addi c0_i32_4044 v3514
  v3515.toNat
def k0_dev123 (v1 : BitVec 32) : Nat :=
  let c0_i32_4080 : BitVec 32 := 0#32
  let c1_i32_4079 : BitVec 32 := 1#32
  let v3552 : BitVec 32 := Scalar.muli v1 c1_i32_4079
  let v3553 : BitVec 32 := Scalar.addi c0_i32_4080 v3552
  v3553.toNat
def k0_dev124 (v2 : BitVec 32) : Nat :=
  let c0_i32_4117 : BitVec 32 := 0#32
  let c1_i32_4116 : BitVec 32 := 1#32
  let v3589 : BitVec 32 := Scalar.muli v2 c1_i32_4116
  let v3590 : BitVec 32 := Scalar.addi c0_i32_4117 v3589
  v3590.toNat
def k0_dev125 (v1 : BitVec 32) : Nat :=
  let c0_i32_4154 : BitVec 32 := 0#32
  let c1_i32_4153 : BitVec 32 := 1#32
  let v3626 : BitVec 32 := Scalar.muli v1 c1_i32_4153
  let v3627 : BitVec 32 := Scalar.addi c0_i32_4154 v3626
  v3627.toNat
def k0_dev126 (v2 : BitVec 32) : Nat :=
  let c0_i32_4191 : BitVec 32 := 0#32
  let c1_i32_4190 : BitVec 32 := 1#32
  let v3663 : BitVec 32 := Scalar.muli v2 c1_i32_4190
  let v3664 : BitVec 32 := Scalar.addi c0_i32_4191 v3663
  v3664.toNat
def k0_dev127 (v1 : BitVec 32) : Nat :=
  let c0_i32_4228 : BitVec 32 := 0#32
  let c1_i32_4227 : BitVec 32 := 1#32
  let v3700 : BitVec 32 := Scalar.muli v1 c1_i32_4227
  let v3701 : BitVec 32 := Scalar.addi c0_i32_4228 v3700
  v3701.toNat
def k0_dev128 (v2 : BitVec 32) : Nat :=
  let c0_i32_4265 : BitVec 32 := 0#32
  let c1_i32_4264 : BitVec 32 := 1#32
  let v3737 : BitVec 32 := Scalar.muli v2 c1_i32_4264
  let v3738 : BitVec 32 := Scalar.addi c0_i32_4265 v3737
  v3738.toNat
def k0_dev129 (v1 : BitVec 32) : Nat :=
  let c0_i32_4302 : BitVec 32 := 0#32
  let c1_i32_4301 : BitVec 32 := 1#32
  let v3774 : BitVec 32 := Scalar.muli v1 c1_i32_4301
  let v3775 : BitVec 32 := Scalar.addi c0_i32_4302 v3774
  v3775.toNat
def k0_dev130 (v2 : BitVec 32) : Nat :=
  let c0_i32_4339 : BitVec 32 := 0#32
  let c1_i32_4338 : BitVec 32 := 1#32
  let v3811 : BitVec 32 := Scalar.muli v2 c1_i32_4338
  let v3812 : BitVec 32 := Scalar.addi c0_i32_4339 v3811
  v3812.toNat
def k0_dev131 (v1 : BitVec 32) : Nat :=
  let c0_i32_4363 : BitVec 32 := 0#32
  let c1_i32_4362 : BitVec 32 := 1#32
  let v3828 : BitVec 32 := Scalar.muli v1 c1_i32_4362
  let v3829 : BitVec 32 := Scalar.addi c0_i32_4363 v3828
  v3829.toNat
def k0_dev132 (v2 : BitVec 32) : Nat :=
  let c0_i32_4394 : BitVec 32 := 0#32
  let c1_i32_4393 : BitVec 32 := 1#32
  let v3854 : BitVec 32 := Scalar.muli v2 c1_i32_4393
  let v3855 : BitVec 32 := Scalar.addi c0_i32_4394 v3854
  v3855.toNat
def k0_dev133 (v1 : BitVec 32) : Nat :=
  let c0_i32_4425 : BitVec 32 := 0#32
  let c1_i32_4424 : BitVec 32 := 1#32
  let v3880 : BitVec 32 := Scalar.muli v1 c1_i32_4424
  let v3881 : BitVec 32 := Scalar.addi c0_i32_4425 v3880
  v3881.toNat
def k0_dev134 (v2 : BitVec 32) : Nat :=
  let c0_i32_4456 : BitVec 32 := 0#32
  let c1_i32_4455 : BitVec 32 := 1#32
  let v3906 : BitVec 32 := Scalar.muli v2 c1_i32_4455
  let v3907 : BitVec 32 := Scalar.addi c0_i32_4456 v3906
  v3907.toNat
def k0_dev135 (v1 : BitVec 32) : Nat :=
  let c0_i32_4487 : BitVec 32 := 0#32
  let c1_i32_4486 : BitVec 32 := 1#32
  let v3932 : BitVec 32 := Scalar.muli v1 c1_i32_4486
  let v3933 : BitVec 32 := Scalar.addi c0_i32_4487 v3932
  v3933.toNat
def k0_dev136 (v2 : BitVec 32) : Nat :=
  let c0_i32_4518 : BitVec 32 := 0#32
  let c1_i32_4517 : BitVec 32 := 1#32
  let v3958 : BitVec 32 := Scalar.muli v2 c1_i32_4517
  let v3959 : BitVec 32 := Scalar.addi c0_i32_4518 v3958
  v3959.toNat
def k0_dev137 (v1 : BitVec 32) : Nat :=
  let c0_i32_4549 : BitVec 32 := 0#32
  let c1_i32_4548 : BitVec 32 := 1#32
  let v3984 : BitVec 32 := Scalar.muli v1 c1_i32_4548
  let v3985 : BitVec 32 := Scalar.addi c0_i32_4549 v3984
  v3985.toNat
def k0_dev138 (v2 : BitVec 32) : Nat :=
  let c0_i32_4580 : BitVec 32 := 0#32
  let c1_i32_4579 : BitVec 32 := 1#32
  let v4010 : BitVec 32 := Scalar.muli v2 c1_i32_4579
  let v4011 : BitVec 32 := Scalar.addi c0_i32_4580 v4010
  v4011.toNat
def k0_dev139 (v1 : BitVec 32) : Nat :=
  let c0_i32_4612 : BitVec 32 := 0#32
  let c1_i32_4611 : BitVec 32 := 1#32
  let v4037 : BitVec 32 := Scalar.muli v1 c1_i32_4611
  let v4038 : BitVec 32 := Scalar.addi c0_i32_4612 v4037
  v4038.toNat
def k0_dev140 (v2 : BitVec 32) : Nat :=
  let c0_i32_4644 : BitVec 32 := 0#32
  let c1_i32_4643 : BitVec 32 := 1#32
  let v4064 : BitVec 32 := Scalar.muli v2 c1_i32_4643
  let v4065 : BitVec 32 := Scalar.addi c0_i32_4644 v4064
  v4065.toNat
def k0_dev141 (v1 : BitVec 32) : Nat :=
  let c0_i32_4676 : BitVec 32 := 0#32
  let c1_i32_4675 : BitVec 32 := 1#32
  let v4091 : BitVec 32 := Scalar.muli v1 c1_i32_4675
  let v4092 : BitVec 32 := Scalar.addi c0_i32_4676 v4091
  v4092.toNat
def k0_dev142 (v2 : BitVec 32) : Nat :=
  let c0_i32_4708 : BitVec 32 := 0#32
  let c1_i32_4707 : BitVec 32 := 1#32
  let v4118 : BitVec 32 := Scalar.muli v2 c1_i32_4707
  let v4119 : BitVec 32 := Scalar.addi c0_i32_4708 v4118
  v4119.toNat
def k0_dev143 (v1 : BitVec 32) : Nat :=
  let c0_i32_4740 : BitVec 32 := 0#32
  let c1_i32_4739 : BitVec 32 := 1#32
  let v4145 : BitVec 32 := Scalar.muli v1 c1_i32_4739
  let v4146 : BitVec 32 := Scalar.addi c0_i32_4740 v4145
  v4146.toNat
def k0_dev144 (v2 : BitVec 32) : Nat :=
  let c0_i32_4772 : BitVec 32 := 0#32
  let c1_i32_4771 : BitVec 32 := 1#32
  let v4172 : BitVec 32 := Scalar.muli v2 c1_i32_4771
  let v4173 : BitVec 32 := Scalar.addi c0_i32_4772 v4172
  v4173.toNat
def k0_dev145 (v1 : BitVec 32) : Nat :=
  let c0_i32_4804 : BitVec 32 := 0#32
  let c1_i32_4803 : BitVec 32 := 1#32
  let v4199 : BitVec 32 := Scalar.muli v1 c1_i32_4803
  let v4200 : BitVec 32 := Scalar.addi c0_i32_4804 v4199
  v4200.toNat
def k0_dev146 (v2 : BitVec 32) : Nat :=
  let c0_i32_4836 : BitVec 32 := 0#32
  let c1_i32_4835 : BitVec 32 := 1#32
  let v4226 : BitVec 32 := Scalar.muli v2 c1_i32_4835
  let v4227 : BitVec 32 := Scalar.addi c0_i32_4836 v4226
  v4227.toNat
def k0_dev147 (v1 : BitVec 32) : Nat :=
  let c0_i32_4868 : BitVec 32 := 0#32
  let c1_i32_4867 : BitVec 32 := 1#32
  let v4253 : BitVec 32 := Scalar.muli v1 c1_i32_4867
  let v4254 : BitVec 32 := Scalar.addi c0_i32_4868 v4253
  v4254.toNat
def k0_dev148 (v2 : BitVec 32) : Nat :=
  let c0_i32_4900 : BitVec 32 := 0#32
  let c1_i32_4899 : BitVec 32 := 1#32
  let v4280 : BitVec 32 := Scalar.muli v2 c1_i32_4899
  let v4281 : BitVec 32 := Scalar.addi c0_i32_4900 v4280
  v4281.toNat
def k0_dev149 (v1 : BitVec 32) : Nat :=
  let c0_i32_4932 : BitVec 32 := 0#32
  let c1_i32_4931 : BitVec 32 := 1#32
  let v4307 : BitVec 32 := Scalar.muli v1 c1_i32_4931
  let v4308 : BitVec 32 := Scalar.addi c0_i32_4932 v4307
  v4308.toNat
def k0_dev150 (v2 : BitVec 32) : Nat :=
  let c0_i32_4964 : BitVec 32 := 0#32
  let c1_i32_4963 : BitVec 32 := 1#32
  let v4334 : BitVec 32 := Scalar.muli v2 c1_i32_4963
  let v4335 : BitVec 32 := Scalar.addi c0_i32_4964 v4334
  v4335.toNat
def k0_dev151 (v1 : BitVec 32) : Nat :=
  let c0_i32_4996 : BitVec 32 := 0#32
  let c1_i32_4995 : BitVec 32 := 1#32
  let v4361 : BitVec 32 := Scalar.muli v1 c1_i32_4995
  let v4362 : BitVec 32 := Scalar.addi c0_i32_4996 v4361
  v4362.toNat
def k0_dev152 (v2 : BitVec 32) : Nat :=
  let c0_i32_5028 : BitVec 32 := 0#32
  let c1_i32_5027 : BitVec 32 := 1#32
  let v4388 : BitVec 32 := Scalar.muli v2 c1_i32_5027
  let v4389 : BitVec 32 := Scalar.addi c0_i32_5028 v4388
  v4389.toNat
def k0_dev153 (v1 : BitVec 32) : Nat :=
  let c0_i32_5060 : BitVec 32 := 0#32
  let c1_i32_5059 : BitVec 32 := 1#32
  let v4415 : BitVec 32 := Scalar.muli v1 c1_i32_5059
  let v4416 : BitVec 32 := Scalar.addi c0_i32_5060 v4415
  v4416.toNat
def k0_dev154 (v2 : BitVec 32) : Nat :=
  let c0_i32_5092 : BitVec 32 := 0#32
  let c1_i32_5091 : BitVec 32 := 1#32
  let v4442 : BitVec 32 := Scalar.muli v2 c1_i32_5091
  let v4443 : BitVec 32 := Scalar.addi c0_i32_5092 v4442
  v4443.toNat
def k0_dev155 (v1 : BitVec 32) : Nat :=
  let c0_i32_5124 : BitVec 32 := 0#32
  let c1_i32_5123 : BitVec 32 := 1#32
  let v4469 : BitVec 32 := Scalar.muli v1 c1_i32_5123
  let v4470 : BitVec 32 := Scalar.addi c0_i32_5124 v4469
  v4470.toNat
def k0_dev156 (v2 : BitVec 32) : Nat :=
  let c0_i32_5156 : BitVec 32 := 0#32
  let c1_i32_5155 : BitVec 32 := 1#32
  let v4496 : BitVec 32 := Scalar.muli v2 c1_i32_5155
  let v4497 : BitVec 32 := Scalar.addi c0_i32_5156 v4496
  v4497.toNat
def k0_dev157 (v1 : BitVec 32) : Nat :=
  let c0_i32_5188 : BitVec 32 := 0#32
  let c1_i32_5187 : BitVec 32 := 1#32
  let v4523 : BitVec 32 := Scalar.muli v1 c1_i32_5187
  let v4524 : BitVec 32 := Scalar.addi c0_i32_5188 v4523
  v4524.toNat
def k0_dev158 (v2 : BitVec 32) : Nat :=
  let c0_i32_5220 : BitVec 32 := 0#32
  let c1_i32_5219 : BitVec 32 := 1#32
  let v4550 : BitVec 32 := Scalar.muli v2 c1_i32_5219
  let v4551 : BitVec 32 := Scalar.addi c0_i32_5220 v4550
  v4551.toNat
def k0_dev159 (v1 : BitVec 32) : Nat :=
  let c0_i32_5252 : BitVec 32 := 0#32
  let c1_i32_5251 : BitVec 32 := 1#32
  let v4577 : BitVec 32 := Scalar.muli v1 c1_i32_5251
  let v4578 : BitVec 32 := Scalar.addi c0_i32_5252 v4577
  v4578.toNat
def k0_dev160 (v2 : BitVec 32) : Nat :=
  let c0_i32_5284 : BitVec 32 := 0#32
  let c1_i32_5283 : BitVec 32 := 1#32
  let v4604 : BitVec 32 := Scalar.muli v2 c1_i32_5283
  let v4605 : BitVec 32 := Scalar.addi c0_i32_5284 v4604
  v4605.toNat
def k0_dev161 (v1 : BitVec 32) : Nat :=
  let c0_i32_5316 : BitVec 32 := 0#32
  let c1_i32_5315 : BitVec 32 := 1#32
  let v4631 : BitVec 32 := Scalar.muli v1 c1_i32_5315
  let v4632 : BitVec 32 := Scalar.addi c0_i32_5316 v4631
  v4632.toNat
def k0_dev162 (v2 : BitVec 32) : Nat :=
  let c0_i32_5348 : BitVec 32 := 0#32
  let c1_i32_5347 : BitVec 32 := 1#32
  let v4658 : BitVec 32 := Scalar.muli v2 c1_i32_5347
  let v4659 : BitVec 32 := Scalar.addi c0_i32_5348 v4658
  v4659.toNat
def k0_dev163 (v1 : BitVec 32) : Nat :=
  let c0_i32_5380 : BitVec 32 := 0#32
  let c1_i32_5379 : BitVec 32 := 1#32
  let v4685 : BitVec 32 := Scalar.muli v1 c1_i32_5379
  let v4686 : BitVec 32 := Scalar.addi c0_i32_5380 v4685
  v4686.toNat
def k0_dev164 (v2 : BitVec 32) : Nat :=
  let c0_i32_5412 : BitVec 32 := 0#32
  let c1_i32_5411 : BitVec 32 := 1#32
  let v4712 : BitVec 32 := Scalar.muli v2 c1_i32_5411
  let v4713 : BitVec 32 := Scalar.addi c0_i32_5412 v4712
  v4713.toNat
def k0_dev165 (v1 : BitVec 32) : Nat :=
  let c0_i32_5444 : BitVec 32 := 0#32
  let c1_i32_5443 : BitVec 32 := 1#32
  let v4739 : BitVec 32 := Scalar.muli v1 c1_i32_5443
  let v4740 : BitVec 32 := Scalar.addi c0_i32_5444 v4739
  v4740.toNat
def k0_dev166 (v2 : BitVec 32) : Nat :=
  let c0_i32_5476 : BitVec 32 := 0#32
  let c1_i32_5475 : BitVec 32 := 1#32
  let v4766 : BitVec 32 := Scalar.muli v2 c1_i32_5475
  let v4767 : BitVec 32 := Scalar.addi c0_i32_5476 v4766
  v4767.toNat
def k0_dev167 (v1 : BitVec 32) : Nat :=
  let c0_i32_5508 : BitVec 32 := 0#32
  let c1_i32_5507 : BitVec 32 := 1#32
  let v4793 : BitVec 32 := Scalar.muli v1 c1_i32_5507
  let v4794 : BitVec 32 := Scalar.addi c0_i32_5508 v4793
  v4794.toNat
def k0_dev168 (v2 : BitVec 32) : Nat :=
  let c0_i32_5540 : BitVec 32 := 0#32
  let c1_i32_5539 : BitVec 32 := 1#32
  let v4820 : BitVec 32 := Scalar.muli v2 c1_i32_5539
  let v4821 : BitVec 32 := Scalar.addi c0_i32_5540 v4820
  v4821.toNat
def k0_dev169 (v1 : BitVec 32) : Nat :=
  let c0_i32_5572 : BitVec 32 := 0#32
  let c1_i32_5571 : BitVec 32 := 1#32
  let v4847 : BitVec 32 := Scalar.muli v1 c1_i32_5571
  let v4848 : BitVec 32 := Scalar.addi c0_i32_5572 v4847
  v4848.toNat
def k0_dev170 (v2 : BitVec 32) : Nat :=
  let c0_i32_5604 : BitVec 32 := 0#32
  let c1_i32_5603 : BitVec 32 := 1#32
  let v4874 : BitVec 32 := Scalar.muli v2 c1_i32_5603
  let v4875 : BitVec 32 := Scalar.addi c0_i32_5604 v4874
  v4875.toNat
def k0_dev171 (v1 : BitVec 32) : Nat :=
  let c0_i32_5636 : BitVec 32 := 0#32
  let c1_i32_5635 : BitVec 32 := 1#32
  let v4901 : BitVec 32 := Scalar.muli v1 c1_i32_5635
  let v4902 : BitVec 32 := Scalar.addi c0_i32_5636 v4901
  v4902.toNat
def k0_dev172 (v2 : BitVec 32) : Nat :=
  let c0_i32_5668 : BitVec 32 := 0#32
  let c1_i32_5667 : BitVec 32 := 1#32
  let v4928 : BitVec 32 := Scalar.muli v2 c1_i32_5667
  let v4929 : BitVec 32 := Scalar.addi c0_i32_5668 v4928
  v4929.toNat
def k0_dev173 (v1 : BitVec 32) : Nat :=
  let c0_i32_5700 : BitVec 32 := 0#32
  let c1_i32_5699 : BitVec 32 := 1#32
  let v4955 : BitVec 32 := Scalar.muli v1 c1_i32_5699
  let v4956 : BitVec 32 := Scalar.addi c0_i32_5700 v4955
  v4956.toNat
def k0_dev174 (v2 : BitVec 32) : Nat :=
  let c0_i32_5732 : BitVec 32 := 0#32
  let c1_i32_5731 : BitVec 32 := 1#32
  let v4982 : BitVec 32 := Scalar.muli v2 c1_i32_5731
  let v4983 : BitVec 32 := Scalar.addi c0_i32_5732 v4982
  v4983.toNat
def k0_dev175 (v1 : BitVec 32) : Nat :=
  let c0_i32_5764 : BitVec 32 := 0#32
  let c1_i32_5763 : BitVec 32 := 1#32
  let v5009 : BitVec 32 := Scalar.muli v1 c1_i32_5763
  let v5010 : BitVec 32 := Scalar.addi c0_i32_5764 v5009
  v5010.toNat
def k0_dev176 (v2 : BitVec 32) : Nat :=
  let c0_i32_5796 : BitVec 32 := 0#32
  let c1_i32_5795 : BitVec 32 := 1#32
  let v5036 : BitVec 32 := Scalar.muli v2 c1_i32_5795
  let v5037 : BitVec 32 := Scalar.addi c0_i32_5796 v5036
  v5037.toNat
def k0_dev177 (v1 : BitVec 32) : Nat :=
  let c0_i32_5828 : BitVec 32 := 0#32
  let c1_i32_5827 : BitVec 32 := 1#32
  let v5063 : BitVec 32 := Scalar.muli v1 c1_i32_5827
  let v5064 : BitVec 32 := Scalar.addi c0_i32_5828 v5063
  v5064.toNat
def k0_dev178 (v2 : BitVec 32) : Nat :=
  let c0_i32_5860 : BitVec 32 := 0#32
  let c1_i32_5859 : BitVec 32 := 1#32
  let v5090 : BitVec 32 := Scalar.muli v2 c1_i32_5859
  let v5091 : BitVec 32 := Scalar.addi c0_i32_5860 v5090
  v5091.toNat
def k0_dev179 (v1 : BitVec 32) : Nat :=
  let c0_i32_5892 : BitVec 32 := 0#32
  let c1_i32_5891 : BitVec 32 := 1#32
  let v5117 : BitVec 32 := Scalar.muli v1 c1_i32_5891
  let v5118 : BitVec 32 := Scalar.addi c0_i32_5892 v5117
  v5118.toNat
def k0_dev180 (v2 : BitVec 32) : Nat :=
  let c0_i32_5924 : BitVec 32 := 0#32
  let c1_i32_5923 : BitVec 32 := 1#32
  let v5144 : BitVec 32 := Scalar.muli v2 c1_i32_5923
  let v5145 : BitVec 32 := Scalar.addi c0_i32_5924 v5144
  v5145.toNat
def k0_dev181 (v1 : BitVec 32) : Nat :=
  let c0_i32_5956 : BitVec 32 := 0#32
  let c1_i32_5955 : BitVec 32 := 1#32
  let v5171 : BitVec 32 := Scalar.muli v1 c1_i32_5955
  let v5172 : BitVec 32 := Scalar.addi c0_i32_5956 v5171
  v5172.toNat
def k0_dev182 (v2 : BitVec 32) : Nat :=
  let c0_i32_5988 : BitVec 32 := 0#32
  let c1_i32_5987 : BitVec 32 := 1#32
  let v5198 : BitVec 32 := Scalar.muli v2 c1_i32_5987
  let v5199 : BitVec 32 := Scalar.addi c0_i32_5988 v5198
  v5199.toNat
def k0_dev183 (v1 : BitVec 32) : Nat :=
  let c0_i32_6020 : BitVec 32 := 0#32
  let c1_i32_6019 : BitVec 32 := 1#32
  let v5225 : BitVec 32 := Scalar.muli v1 c1_i32_6019
  let v5226 : BitVec 32 := Scalar.addi c0_i32_6020 v5225
  v5226.toNat
def k0_dev184 (v2 : BitVec 32) : Nat :=
  let c0_i32_6052 : BitVec 32 := 0#32
  let c1_i32_6051 : BitVec 32 := 1#32
  let v5252 : BitVec 32 := Scalar.muli v2 c1_i32_6051
  let v5253 : BitVec 32 := Scalar.addi c0_i32_6052 v5252
  v5253.toNat
def k0_dev185 (v1 : BitVec 32) : Nat :=
  let c0_i32_6084 : BitVec 32 := 0#32
  let c1_i32_6083 : BitVec 32 := 1#32
  let v5279 : BitVec 32 := Scalar.muli v1 c1_i32_6083
  let v5280 : BitVec 32 := Scalar.addi c0_i32_6084 v5279
  v5280.toNat
def k0_dev186 (v2 : BitVec 32) : Nat :=
  let c0_i32_6116 : BitVec 32 := 0#32
  let c1_i32_6115 : BitVec 32 := 1#32
  let v5306 : BitVec 32 := Scalar.muli v2 c1_i32_6115
  let v5307 : BitVec 32 := Scalar.addi c0_i32_6116 v5306
  v5307.toNat
def k0_dev187 (v1 : BitVec 32) : Nat :=
  let c0_i32_6148 : BitVec 32 := 0#32
  let c1_i32_6147 : BitVec 32 := 1#32
  let v5333 : BitVec 32 := Scalar.muli v1 c1_i32_6147
  let v5334 : BitVec 32 := Scalar.addi c0_i32_6148 v5333
  v5334.toNat
def k0_dev188 (v2 : BitVec 32) : Nat :=
  let c0_i32_6180 : BitVec 32 := 0#32
  let c1_i32_6179 : BitVec 32 := 1#32
  let v5360 : BitVec 32 := Scalar.muli v2 c1_i32_6179
  let v5361 : BitVec 32 := Scalar.addi c0_i32_6180 v5360
  v5361.toNat
def k0_dev189 (v1 : BitVec 32) : Nat :=
  let c0_i32_6212 : BitVec 32 := 0#32
  let c1_i32_6211 : BitVec 32 := 1#32
  let v5387 : BitVec 32 := Scalar.muli v1 c1_i32_6211
  let v5388 : BitVec 32 := Scalar.addi c0_i32_6212 v5387
  v5388.toNat
def k0_dev190 (v2 : BitVec 32) : Nat :=
  let c0_i32_6244 : BitVec 32 := 0#32
  let c1_i32_6243 : BitVec 32 := 1#32
  let v5414 : BitVec 32 := Scalar.muli v2 c1_i32_6243
  let v5415 : BitVec 32 := Scalar.addi c0_i32_6244 v5414
  v5415.toNat
def k0_dev191 (v1 : BitVec 32) : Nat :=
  let c0_i32_6276 : BitVec 32 := 0#32
  let c1_i32_6275 : BitVec 32 := 1#32
  let v5441 : BitVec 32 := Scalar.muli v1 c1_i32_6275
  let v5442 : BitVec 32 := Scalar.addi c0_i32_6276 v5441
  v5442.toNat
def k0_dev192 (v2 : BitVec 32) : Nat :=
  let c0_i32_6308 : BitVec 32 := 0#32
  let c1_i32_6307 : BitVec 32 := 1#32
  let v5468 : BitVec 32 := Scalar.muli v2 c1_i32_6307
  let v5469 : BitVec 32 := Scalar.addi c0_i32_6308 v5468
  v5469.toNat
def k0_dev193 (v1 : BitVec 32) : Nat :=
  let c0_i32_6340 : BitVec 32 := 0#32
  let c1_i32_6339 : BitVec 32 := 1#32
  let v5495 : BitVec 32 := Scalar.muli v1 c1_i32_6339
  let v5496 : BitVec 32 := Scalar.addi c0_i32_6340 v5495
  v5496.toNat
def k0_dev194 (v2 : BitVec 32) : Nat :=
  let c0_i32_6372 : BitVec 32 := 0#32
  let c1_i32_6371 : BitVec 32 := 1#32
  let v5522 : BitVec 32 := Scalar.muli v2 c1_i32_6371
  let v5523 : BitVec 32 := Scalar.addi c0_i32_6372 v5522
  v5523.toNat
def k0_dev195 (v1 : BitVec 32) : Nat :=
  let c0_i32_6404 : BitVec 32 := 0#32
  let c1_i32_6403 : BitVec 32 := 1#32
  let v5549 : BitVec 32 := Scalar.muli v1 c1_i32_6403
  let v5550 : BitVec 32 := Scalar.addi c0_i32_6404 v5549
  v5550.toNat
def k0_dev196 (v2 : BitVec 32) : Nat :=
  let c0_i32_6436 : BitVec 32 := 0#32
  let c1_i32_6435 : BitVec 32 := 1#32
  let v5576 : BitVec 32 := Scalar.muli v2 c1_i32_6435
  let v5577 : BitVec 32 := Scalar.addi c0_i32_6436 v5576
  v5577.toNat
def k0_dev197 (v1 : BitVec 32) : Nat :=
  let c0_i32_6468 : BitVec 32 := 0#32
  let c1_i32_6467 : BitVec 32 := 1#32
  let v5603 : BitVec 32 := Scalar.muli v1 c1_i32_6467
  let v5604 : BitVec 32 := Scalar.addi c0_i32_6468 v5603
  v5604.toNat
def k0_dev198 (v2 : BitVec 32) : Nat :=
  let c0_i32_6500 : BitVec 32 := 0#32
  let c1_i32_6499 : BitVec 32 := 1#32
  let v5630 : BitVec 32 := Scalar.muli v2 c1_i32_6499
  let v5631 : BitVec 32 := Scalar.addi c0_i32_6500 v5630
  v5631.toNat
def k0_dev199 (v1 : BitVec 32) : Nat :=
  let c0_i32_6532 : BitVec 32 := 0#32
  let c1_i32_6531 : BitVec 32 := 1#32
  let v5657 : BitVec 32 := Scalar.muli v1 c1_i32_6531
  let v5658 : BitVec 32 := Scalar.addi c0_i32_6532 v5657
  v5658.toNat
def k0_dev200 (v2 : BitVec 32) : Nat :=
  let c0_i32_6564 : BitVec 32 := 0#32
  let c1_i32_6563 : BitVec 32 := 1#32
  let v5684 : BitVec 32 := Scalar.muli v2 c1_i32_6563
  let v5685 : BitVec 32 := Scalar.addi c0_i32_6564 v5684
  v5685.toNat
def k0_dev201 (v1 : BitVec 32) : Nat :=
  let c0_i32_6596 : BitVec 32 := 0#32
  let c1_i32_6595 : BitVec 32 := 1#32
  let v5711 : BitVec 32 := Scalar.muli v1 c1_i32_6595
  let v5712 : BitVec 32 := Scalar.addi c0_i32_6596 v5711
  v5712.toNat
def k0_dev202 (v2 : BitVec 32) : Nat :=
  let c0_i32_6628 : BitVec 32 := 0#32
  let c1_i32_6627 : BitVec 32 := 1#32
  let v5738 : BitVec 32 := Scalar.muli v2 c1_i32_6627
  let v5739 : BitVec 32 := Scalar.addi c0_i32_6628 v5738
  v5739.toNat
def k0_dev203 (v1 : BitVec 32) : Nat :=
  let c0_i32_6660 : BitVec 32 := 0#32
  let c1_i32_6659 : BitVec 32 := 1#32
  let v5765 : BitVec 32 := Scalar.muli v1 c1_i32_6659
  let v5766 : BitVec 32 := Scalar.addi c0_i32_6660 v5765
  v5766.toNat
def k0_dev204 (v2 : BitVec 32) : Nat :=
  let c0_i32_6692 : BitVec 32 := 0#32
  let c1_i32_6691 : BitVec 32 := 1#32
  let v5792 : BitVec 32 := Scalar.muli v2 c1_i32_6691
  let v5793 : BitVec 32 := Scalar.addi c0_i32_6692 v5792
  v5793.toNat
def k0_dev205 (v1 : BitVec 32) : Nat :=
  let c0_i32_6724 : BitVec 32 := 0#32
  let c1_i32_6723 : BitVec 32 := 1#32
  let v5819 : BitVec 32 := Scalar.muli v1 c1_i32_6723
  let v5820 : BitVec 32 := Scalar.addi c0_i32_6724 v5819
  v5820.toNat
def k0_dev206 (v2 : BitVec 32) : Nat :=
  let c0_i32_6756 : BitVec 32 := 0#32
  let c1_i32_6755 : BitVec 32 := 1#32
  let v5846 : BitVec 32 := Scalar.muli v2 c1_i32_6755
  let v5847 : BitVec 32 := Scalar.addi c0_i32_6756 v5846
  v5847.toNat
def k0_dev207 (v1 : BitVec 32) : Nat :=
  let c0_i32_6788 : BitVec 32 := 0#32
  let c1_i32_6787 : BitVec 32 := 1#32
  let v5873 : BitVec 32 := Scalar.muli v1 c1_i32_6787
  let v5874 : BitVec 32 := Scalar.addi c0_i32_6788 v5873
  v5874.toNat
def k0_dev208 (v2 : BitVec 32) : Nat :=
  let c0_i32_6820 : BitVec 32 := 0#32
  let c1_i32_6819 : BitVec 32 := 1#32
  let v5900 : BitVec 32 := Scalar.muli v2 c1_i32_6819
  let v5901 : BitVec 32 := Scalar.addi c0_i32_6820 v5900
  v5901.toNat
def k0_dev209 (v1 : BitVec 32) : Nat :=
  let c0_i32_6852 : BitVec 32 := 0#32
  let c1_i32_6851 : BitVec 32 := 1#32
  let v5927 : BitVec 32 := Scalar.muli v1 c1_i32_6851
  let v5928 : BitVec 32 := Scalar.addi c0_i32_6852 v5927
  v5928.toNat
def k0_dev210 (v2 : BitVec 32) : Nat :=
  let c0_i32_6884 : BitVec 32 := 0#32
  let c1_i32_6883 : BitVec 32 := 1#32
  let v5954 : BitVec 32 := Scalar.muli v2 c1_i32_6883
  let v5955 : BitVec 32 := Scalar.addi c0_i32_6884 v5954
  v5955.toNat
def k0_dev211 (v1 : BitVec 32) : Nat :=
  let c0_i32_6916 : BitVec 32 := 0#32
  let c1_i32_6915 : BitVec 32 := 1#32
  let v5981 : BitVec 32 := Scalar.muli v1 c1_i32_6915
  let v5982 : BitVec 32 := Scalar.addi c0_i32_6916 v5981
  v5982.toNat
def k0_dev212 (v2 : BitVec 32) : Nat :=
  let c0_i32_6948 : BitVec 32 := 0#32
  let c1_i32_6947 : BitVec 32 := 1#32
  let v6008 : BitVec 32 := Scalar.muli v2 c1_i32_6947
  let v6009 : BitVec 32 := Scalar.addi c0_i32_6948 v6008
  v6009.toNat
def k0_dev213 (v1 : BitVec 32) : Nat :=
  let c0_i32_6980 : BitVec 32 := 0#32
  let c1_i32_6979 : BitVec 32 := 1#32
  let v6035 : BitVec 32 := Scalar.muli v1 c1_i32_6979
  let v6036 : BitVec 32 := Scalar.addi c0_i32_6980 v6035
  v6036.toNat
def k0_dev214 (v2 : BitVec 32) : Nat :=
  let c0_i32_7012 : BitVec 32 := 0#32
  let c1_i32_7011 : BitVec 32 := 1#32
  let v6062 : BitVec 32 := Scalar.muli v2 c1_i32_7011
  let v6063 : BitVec 32 := Scalar.addi c0_i32_7012 v6062
  v6063.toNat
def k0_dev215 (v1 : BitVec 32) : Nat :=
  let c0_i32_7044 : BitVec 32 := 0#32
  let c1_i32_7043 : BitVec 32 := 1#32
  let v6089 : BitVec 32 := Scalar.muli v1 c1_i32_7043
  let v6090 : BitVec 32 := Scalar.addi c0_i32_7044 v6089
  v6090.toNat
def k0_dev216 (v2 : BitVec 32) : Nat :=
  let c0_i32_7076 : BitVec 32 := 0#32
  let c1_i32_7075 : BitVec 32 := 1#32
  let v6116 : BitVec 32 := Scalar.muli v2 c1_i32_7075
  let v6117 : BitVec 32 := Scalar.addi c0_i32_7076 v6116
  v6117.toNat
def k0_dev217 (v1 : BitVec 32) : Nat :=
  let c0_i32_7108 : BitVec 32 := 0#32
  let c1_i32_7107 : BitVec 32 := 1#32
  let v6143 : BitVec 32 := Scalar.muli v1 c1_i32_7107
  let v6144 : BitVec 32 := Scalar.addi c0_i32_7108 v6143
  v6144.toNat
def k0_dev218 (v2 : BitVec 32) : Nat :=
  let c0_i32_7140 : BitVec 32 := 0#32
  let c1_i32_7139 : BitVec 32 := 1#32
  let v6170 : BitVec 32 := Scalar.muli v2 c1_i32_7139
  let v6171 : BitVec 32 := Scalar.addi c0_i32_7140 v6170
  v6171.toNat
def k0_dev219 (v1 : BitVec 32) : Nat :=
  let c0_i32_7172 : BitVec 32 := 0#32
  let c1_i32_7171 : BitVec 32 := 1#32
  let v6197 : BitVec 32 := Scalar.muli v1 c1_i32_7171
  let v6198 : BitVec 32 := Scalar.addi c0_i32_7172 v6197
  v6198.toNat
def k0_dev220 (v2 : BitVec 32) : Nat :=
  let c0_i32_7204 : BitVec 32 := 0#32
  let c1_i32_7203 : BitVec 32 := 1#32
  let v6224 : BitVec 32 := Scalar.muli v2 c1_i32_7203
  let v6225 : BitVec 32 := Scalar.addi c0_i32_7204 v6224
  v6225.toNat
def k0_dev221 (v1 : BitVec 32) : Nat :=
  let c0_i32_7236 : BitVec 32 := 0#32
  let c1_i32_7235 : BitVec 32 := 1#32
  let v6251 : BitVec 32 := Scalar.muli v1 c1_i32_7235
  let v6252 : BitVec 32 := Scalar.addi c0_i32_7236 v6251
  v6252.toNat
def k0_dev222 (v2 : BitVec 32) : Nat :=
  let c0_i32_7268 : BitVec 32 := 0#32
  let c1_i32_7267 : BitVec 32 := 1#32
  let v6278 : BitVec 32 := Scalar.muli v2 c1_i32_7267
  let v6279 : BitVec 32 := Scalar.addi c0_i32_7268 v6278
  v6279.toNat
def k0_dev223 (v1 : BitVec 32) : Nat :=
  let c0_i32_7300 : BitVec 32 := 0#32
  let c1_i32_7299 : BitVec 32 := 1#32
  let v6305 : BitVec 32 := Scalar.muli v1 c1_i32_7299
  let v6306 : BitVec 32 := Scalar.addi c0_i32_7300 v6305
  v6306.toNat
def k0_dev224 (v2 : BitVec 32) : Nat :=
  let c0_i32_7332 : BitVec 32 := 0#32
  let c1_i32_7331 : BitVec 32 := 1#32
  let v6332 : BitVec 32 := Scalar.muli v2 c1_i32_7331
  let v6333 : BitVec 32 := Scalar.addi c0_i32_7332 v6332
  v6333.toNat
def k0_dev225 (v1 : BitVec 32) : Nat :=
  let c0_i32_7364 : BitVec 32 := 0#32
  let c1_i32_7363 : BitVec 32 := 1#32
  let v6359 : BitVec 32 := Scalar.muli v1 c1_i32_7363
  let v6360 : BitVec 32 := Scalar.addi c0_i32_7364 v6359
  v6360.toNat
def k0_dev226 (v2 : BitVec 32) : Nat :=
  let c0_i32_7396 : BitVec 32 := 0#32
  let c1_i32_7395 : BitVec 32 := 1#32
  let v6386 : BitVec 32 := Scalar.muli v2 c1_i32_7395
  let v6387 : BitVec 32 := Scalar.addi c0_i32_7396 v6386
  v6387.toNat
def k0_dev227 (v1 : BitVec 32) : Nat :=
  let c0_i32_7428 : BitVec 32 := 0#32
  let c1_i32_7427 : BitVec 32 := 1#32
  let v6413 : BitVec 32 := Scalar.muli v1 c1_i32_7427
  let v6414 : BitVec 32 := Scalar.addi c0_i32_7428 v6413
  v6414.toNat
def k0_dev228 (v2 : BitVec 32) : Nat :=
  let c0_i32_7460 : BitVec 32 := 0#32
  let c1_i32_7459 : BitVec 32 := 1#32
  let v6440 : BitVec 32 := Scalar.muli v2 c1_i32_7459
  let v6441 : BitVec 32 := Scalar.addi c0_i32_7460 v6440
  v6441.toNat
def k0_dev229 (v1 : BitVec 32) : Nat :=
  let c0_i32_7492 : BitVec 32 := 0#32
  let c1_i32_7491 : BitVec 32 := 1#32
  let v6467 : BitVec 32 := Scalar.muli v1 c1_i32_7491
  let v6468 : BitVec 32 := Scalar.addi c0_i32_7492 v6467
  v6468.toNat
def k0_dev230 (v2 : BitVec 32) : Nat :=
  let c0_i32_7524 : BitVec 32 := 0#32
  let c1_i32_7523 : BitVec 32 := 1#32
  let v6494 : BitVec 32 := Scalar.muli v2 c1_i32_7523
  let v6495 : BitVec 32 := Scalar.addi c0_i32_7524 v6494
  v6495.toNat
def k0_dev231 (v1 : BitVec 32) : Nat :=
  let c0_i32_7556 : BitVec 32 := 0#32
  let c1_i32_7555 : BitVec 32 := 1#32
  let v6521 : BitVec 32 := Scalar.muli v1 c1_i32_7555
  let v6522 : BitVec 32 := Scalar.addi c0_i32_7556 v6521
  v6522.toNat
def k0_dev232 (v2 : BitVec 32) : Nat :=
  let c0_i32_7588 : BitVec 32 := 0#32
  let c1_i32_7587 : BitVec 32 := 1#32
  let v6548 : BitVec 32 := Scalar.muli v2 c1_i32_7587
  let v6549 : BitVec 32 := Scalar.addi c0_i32_7588 v6548
  v6549.toNat
def k0_dev233 (v1 : BitVec 32) : Nat :=
  let c0_i32_7620 : BitVec 32 := 0#32
  let c1_i32_7619 : BitVec 32 := 1#32
  let v6575 : BitVec 32 := Scalar.muli v1 c1_i32_7619
  let v6576 : BitVec 32 := Scalar.addi c0_i32_7620 v6575
  v6576.toNat
def k0_dev234 (v2 : BitVec 32) : Nat :=
  let c0_i32_7652 : BitVec 32 := 0#32
  let c1_i32_7651 : BitVec 32 := 1#32
  let v6602 : BitVec 32 := Scalar.muli v2 c1_i32_7651
  let v6603 : BitVec 32 := Scalar.addi c0_i32_7652 v6602
  v6603.toNat
def k0_dev235 (v1 : BitVec 32) : Nat :=
  let c0_i32_7684 : BitVec 32 := 0#32
  let c1_i32_7683 : BitVec 32 := 1#32
  let v6629 : BitVec 32 := Scalar.muli v1 c1_i32_7683
  let v6630 : BitVec 32 := Scalar.addi c0_i32_7684 v6629
  v6630.toNat
def k0_dev236 (v2 : BitVec 32) : Nat :=
  let c0_i32_7716 : BitVec 32 := 0#32
  let c1_i32_7715 : BitVec 32 := 1#32
  let v6656 : BitVec 32 := Scalar.muli v2 c1_i32_7715
  let v6657 : BitVec 32 := Scalar.addi c0_i32_7716 v6656
  v6657.toNat
def k0_dev237 (v1 : BitVec 32) : Nat :=
  let c0_i32_7748 : BitVec 32 := 0#32
  let c1_i32_7747 : BitVec 32 := 1#32
  let v6683 : BitVec 32 := Scalar.muli v1 c1_i32_7747
  let v6684 : BitVec 32 := Scalar.addi c0_i32_7748 v6683
  v6684.toNat
def k0_dev238 (v2 : BitVec 32) : Nat :=
  let c0_i32_7780 : BitVec 32 := 0#32
  let c1_i32_7779 : BitVec 32 := 1#32
  let v6710 : BitVec 32 := Scalar.muli v2 c1_i32_7779
  let v6711 : BitVec 32 := Scalar.addi c0_i32_7780 v6710
  v6711.toNat
def k0_dev239 (v1 : BitVec 32) : Nat :=
  let c0_i32_7812 : BitVec 32 := 0#32
  let c1_i32_7811 : BitVec 32 := 1#32
  let v6737 : BitVec 32 := Scalar.muli v1 c1_i32_7811
  let v6738 : BitVec 32 := Scalar.addi c0_i32_7812 v6737
  v6738.toNat
def k0_dev240 (v2 : BitVec 32) : Nat :=
  let c0_i32_7844 : BitVec 32 := 0#32
  let c1_i32_7843 : BitVec 32 := 1#32
  let v6764 : BitVec 32 := Scalar.muli v2 c1_i32_7843
  let v6765 : BitVec 32 := Scalar.addi c0_i32_7844 v6764
  v6765.toNat
def k0_dev241 (v1 : BitVec 32) : Nat :=
  let c0_i32_7876 : BitVec 32 := 0#32
  let c1_i32_7875 : BitVec 32 := 1#32
  let v6791 : BitVec 32 := Scalar.muli v1 c1_i32_7875
  let v6792 : BitVec 32 := Scalar.addi c0_i32_7876 v6791
  v6792.toNat

def k0_chk2_0 (v1 : BitVec 32) : Prop :=
  ((k0_dev2 v1) < nD) ∧
  ((k0_dev3 v1) < nD) ∧
  ((k0_dev5 v1) < nD) ∧
  ((k0_dev7 v1) < nD) ∧
  ((k0_dev9 v1) < nD) ∧
  ((k0_dev11 v1) < nD) ∧
  ((k0_dev13 v1) < nD) ∧
  ((k0_dev15 v1) < nD) ∧
  ((k0_dev17 v1) < nD) ∧
  ((k0_dev19 v1) < nD) ∧
  ((k0_dev21 v1) < nD) ∧
  ((k0_dev23 v1) < nD) ∧
  ((k0_dev25 v1) < nD) ∧
  ((k0_dev27 v1) < nD) ∧
  ((k0_dev29 v1) < nD) ∧
  ((k0_dev31 v1) < nD) ∧
  ((k0_dev33 v1) < nD) ∧
  ((k0_dev35 v1) < nD) ∧
  ((k0_dev37 v1) < nD) ∧
  ((k0_dev39 v1) < nD) ∧
  ((k0_dev41 v1) < nD) ∧
  ((k0_dev43 v1) < nD) ∧
  ((k0_dev45 v1) < nD) ∧
  ((k0_dev47 v1) < nD) ∧
  ((k0_dev49 v1) < nD) ∧
  ((k0_dev51 v1) < nD) ∧
  ((k0_dev53 v1) < nD) ∧
  ((k0_dev55 v1) < nD) ∧
  ((k0_dev57 v1) < nD) ∧
  ((k0_dev59 v1) < nD) ∧
  ((k0_dev61 v1) < nD) ∧
  ((k0_dev63 v1) < nD)
def k0_chk2_1 (v1 : BitVec 32) : Prop :=
  ((k0_dev65 v1) < nD) ∧
  ((k0_dev67 v1) < nD) ∧
  ((k0_dev69 v1) < nD) ∧
  ((k0_dev71 v1) < nD) ∧
  ((k0_dev73 v1) < nD) ∧
  ((k0_dev75 v1) < nD) ∧
  ((k0_dev77 v1) < nD) ∧
  ((k0_dev79 v1) < nD) ∧
  ((k0_dev81 v1) < nD) ∧
  ((k0_dev83 v1) < nD) ∧
  ((k0_dev85 v1) < nD) ∧
  ((k0_dev87 v1) < nD) ∧
  ((k0_dev89 v1) < nD) ∧
  ((k0_dev91 v1) < nD) ∧
  ((k0_dev93 v1) < nD) ∧
  ((k0_dev95 v1) < nD) ∧
  ((k0_dev97 v1) < nD) ∧
  ((k0_dev99 v1) < nD) ∧
  ((k0_dev101 v1) < nD) ∧
  ((k0_dev103 v1) < nD) ∧
  ((k0_dev105 v1) < nD) ∧
  ((k0_dev107 v1) < nD) ∧
  ((k0_dev109 v1) < nD) ∧
  ((k0_dev111 v1) < nD) ∧
  ((k0_dev113 v1) < nD) ∧
  ((k0_dev115 v1) < nD) ∧
  ((k0_dev117 v1) < nD) ∧
  ((k0_dev119 v1) < nD) ∧
  ((k0_dev121 v1) < nD) ∧
  ((k0_dev123 v1) < nD) ∧
  ((k0_dev125 v1) < nD) ∧
  ((k0_dev127 v1) < nD)
def k0_chk2_2 (v1 : BitVec 32) : Prop :=
  ((k0_dev129 v1) < nD) ∧
  ((k0_dev131 v1) < nD) ∧
  ((k0_dev133 v1) < nD) ∧
  ((k0_dev135 v1) < nD) ∧
  ((k0_dev137 v1) < nD) ∧
  ((k0_dev139 v1) < nD) ∧
  ((k0_dev141 v1) < nD) ∧
  ((k0_dev143 v1) < nD) ∧
  ((k0_dev145 v1) < nD) ∧
  ((k0_dev147 v1) < nD) ∧
  ((k0_dev149 v1) < nD) ∧
  ((k0_dev151 v1) < nD) ∧
  ((k0_dev153 v1) < nD) ∧
  ((k0_dev155 v1) < nD) ∧
  ((k0_dev157 v1) < nD) ∧
  ((k0_dev159 v1) < nD) ∧
  ((k0_dev161 v1) < nD) ∧
  ((k0_dev163 v1) < nD) ∧
  ((k0_dev165 v1) < nD) ∧
  ((k0_dev167 v1) < nD) ∧
  ((k0_dev169 v1) < nD) ∧
  ((k0_dev171 v1) < nD) ∧
  ((k0_dev173 v1) < nD) ∧
  ((k0_dev175 v1) < nD) ∧
  ((k0_dev177 v1) < nD) ∧
  ((k0_dev179 v1) < nD) ∧
  ((k0_dev181 v1) < nD) ∧
  ((k0_dev183 v1) < nD) ∧
  ((k0_dev185 v1) < nD) ∧
  ((k0_dev187 v1) < nD) ∧
  ((k0_dev189 v1) < nD) ∧
  ((k0_dev191 v1) < nD)
def k0_chk2_3 (v1 : BitVec 32) : Prop :=
  ((k0_dev193 v1) < nD) ∧
  ((k0_dev195 v1) < nD) ∧
  ((k0_dev197 v1) < nD) ∧
  ((k0_dev199 v1) < nD) ∧
  ((k0_dev201 v1) < nD) ∧
  ((k0_dev203 v1) < nD) ∧
  ((k0_dev205 v1) < nD) ∧
  ((k0_dev207 v1) < nD) ∧
  ((k0_dev209 v1) < nD) ∧
  ((k0_dev211 v1) < nD) ∧
  ((k0_dev213 v1) < nD) ∧
  ((k0_dev215 v1) < nD) ∧
  ((k0_dev217 v1) < nD) ∧
  ((k0_dev219 v1) < nD) ∧
  ((k0_dev221 v1) < nD) ∧
  ((k0_dev223 v1) < nD) ∧
  ((k0_dev225 v1) < nD) ∧
  ((k0_dev227 v1) < nD) ∧
  ((k0_dev229 v1) < nD) ∧
  ((k0_dev231 v1) < nD) ∧
  ((k0_dev233 v1) < nD) ∧
  ((k0_dev235 v1) < nD) ∧
  ((k0_dev237 v1) < nD) ∧
  ((k0_dev239 v1) < nD) ∧
  ((k0_dev241 v1) < nD)
def k0_chk2 (v1 : BitVec 32) : Prop :=
  k0_chk2_0 v1 ∧
  k0_chk2_1 v1 ∧
  k0_chk2_2 v1 ∧
  k0_chk2_3 v1
theorem k0_dev2_lt : ∀ (v1 : BitVec 32) (k0_hw2 : k0_chk2 v1), (k0_dev2 v1) < nD := fun v1 k0_hw2 => k0_hw2.1.1
theorem k0_dev3_lt : ∀ (v1 : BitVec 32) (k0_hw2 : k0_chk2 v1), (k0_dev3 v1) < nD := fun v1 k0_hw2 => k0_hw2.1.2.1
theorem k0_dev5_lt : ∀ (v1 : BitVec 32) (k0_hw2 : k0_chk2 v1), (k0_dev5 v1) < nD := fun v1 k0_hw2 => k0_hw2.1.2.2.1
theorem k0_dev7_lt : ∀ (v1 : BitVec 32) (k0_hw2 : k0_chk2 v1), (k0_dev7 v1) < nD := fun v1 k0_hw2 => k0_hw2.1.2.2.2.1
theorem k0_dev9_lt : ∀ (v1 : BitVec 32) (k0_hw2 : k0_chk2 v1), (k0_dev9 v1) < nD := fun v1 k0_hw2 => k0_hw2.1.2.2.2.2.1
theorem k0_dev11_lt : ∀ (v1 : BitVec 32) (k0_hw2 : k0_chk2 v1), (k0_dev11 v1) < nD := fun v1 k0_hw2 => k0_hw2.1.2.2.2.2.2.1
theorem k0_dev13_lt : ∀ (v1 : BitVec 32) (k0_hw2 : k0_chk2 v1), (k0_dev13 v1) < nD := fun v1 k0_hw2 => k0_hw2.1.2.2.2.2.2.2.1
theorem k0_dev15_lt : ∀ (v1 : BitVec 32) (k0_hw2 : k0_chk2 v1), (k0_dev15 v1) < nD := fun v1 k0_hw2 => k0_hw2.1.2.2.2.2.2.2.2.1
theorem k0_dev17_lt : ∀ (v1 : BitVec 32) (k0_hw2 : k0_chk2 v1), (k0_dev17 v1) < nD := fun v1 k0_hw2 => k0_hw2.1.2.2.2.2.2.2.2.2.1
theorem k0_dev19_lt : ∀ (v1 : BitVec 32) (k0_hw2 : k0_chk2 v1), (k0_dev19 v1) < nD := fun v1 k0_hw2 => k0_hw2.1.2.2.2.2.2.2.2.2.2.1
theorem k0_dev21_lt : ∀ (v1 : BitVec 32) (k0_hw2 : k0_chk2 v1), (k0_dev21 v1) < nD := fun v1 k0_hw2 => k0_hw2.1.2.2.2.2.2.2.2.2.2.2.1
theorem k0_dev23_lt : ∀ (v1 : BitVec 32) (k0_hw2 : k0_chk2 v1), (k0_dev23 v1) < nD := fun v1 k0_hw2 => k0_hw2.1.2.2.2.2.2.2.2.2.2.2.2.1
theorem k0_dev25_lt : ∀ (v1 : BitVec 32) (k0_hw2 : k0_chk2 v1), (k0_dev25 v1) < nD := fun v1 k0_hw2 => k0_hw2.1.2.2.2.2.2.2.2.2.2.2.2.2.1
theorem k0_dev27_lt : ∀ (v1 : BitVec 32) (k0_hw2 : k0_chk2 v1), (k0_dev27 v1) < nD := fun v1 k0_hw2 => k0_hw2.1.2.2.2.2.2.2.2.2.2.2.2.2.2.1
theorem k0_dev29_lt : ∀ (v1 : BitVec 32) (k0_hw2 : k0_chk2 v1), (k0_dev29 v1) < nD := fun v1 k0_hw2 => k0_hw2.1.2.2.2.2.2.2.2.2.2.2.2.2.2.2.1
theorem k0_dev31_lt : ∀ (v1 : BitVec 32) (k0_hw2 : k0_chk2 v1), (k0_dev31 v1) < nD := fun v1 k0_hw2 => k0_hw2.1.2.2.2.2.2.2.2.2.2.2.2.2.2.2.2.1
theorem k0_dev33_lt : ∀ (v1 : BitVec 32) (k0_hw2 : k0_chk2 v1), (k0_dev33 v1) < nD := fun v1 k0_hw2 => k0_hw2.1.2.2.2.2.2.2.2.2.2.2.2.2.2.2.2.2.1
theorem k0_dev35_lt : ∀ (v1 : BitVec 32) (k0_hw2 : k0_chk2 v1), (k0_dev35 v1) < nD := fun v1 k0_hw2 => k0_hw2.1.2.2.2.2.2.2.2.2.2.2.2.2.2.2.2.2.2.1
theorem k0_dev37_lt : ∀ (v1 : BitVec 32) (k0_hw2 : k0_chk2 v1), (k0_dev37 v1) < nD := fun v1 k0_hw2 => k0_hw2.1.2.2.2.2.2.2.2.2.2.2.2.2.2.2.2.2.2.2.1
theorem k0_dev39_lt : ∀ (v1 : BitVec 32) (k0_hw2 : k0_chk2 v1), (k0_dev39 v1) < nD := fun v1 k0_hw2 => k0_hw2.1.2.2.2.2.2.2.2.2.2.2.2.2.2.2.2.2.2.2.2.1
theorem k0_dev41_lt : ∀ (v1 : BitVec 32) (k0_hw2 : k0_chk2 v1), (k0_dev41 v1) < nD := fun v1 k0_hw2 => k0_hw2.1.2.2.2.2.2.2.2.2.2.2.2.2.2.2.2.2.2.2.2.2.1
theorem k0_dev43_lt : ∀ (v1 : BitVec 32) (k0_hw2 : k0_chk2 v1), (k0_dev43 v1) < nD := fun v1 k0_hw2 => k0_hw2.1.2.2.2.2.2.2.2.2.2.2.2.2.2.2.2.2.2.2.2.2.2.1
theorem k0_dev45_lt : ∀ (v1 : BitVec 32) (k0_hw2 : k0_chk2 v1), (k0_dev45 v1) < nD := fun v1 k0_hw2 => k0_hw2.1.2.2.2.2.2.2.2.2.2.2.2.2.2.2.2.2.2.2.2.2.2.2.1
theorem k0_dev47_lt : ∀ (v1 : BitVec 32) (k0_hw2 : k0_chk2 v1), (k0_dev47 v1) < nD := fun v1 k0_hw2 => k0_hw2.1.2.2.2.2.2.2.2.2.2.2.2.2.2.2.2.2.2.2.2.2.2.2.2.1
theorem k0_dev49_lt : ∀ (v1 : BitVec 32) (k0_hw2 : k0_chk2 v1), (k0_dev49 v1) < nD := fun v1 k0_hw2 => k0_hw2.1.2.2.2.2.2.2.2.2.2.2.2.2.2.2.2.2.2.2.2.2.2.2.2.2.1
theorem k0_dev51_lt : ∀ (v1 : BitVec 32) (k0_hw2 : k0_chk2 v1), (k0_dev51 v1) < nD := fun v1 k0_hw2 => k0_hw2.1.2.2.2.2.2.2.2.2.2.2.2.2.2.2.2.2.2.2.2.2.2.2.2.2.2.1
theorem k0_dev53_lt : ∀ (v1 : BitVec 32) (k0_hw2 : k0_chk2 v1), (k0_dev53 v1) < nD := fun v1 k0_hw2 => k0_hw2.1.2.2.2.2.2.2.2.2.2.2.2.2.2.2.2.2.2.2.2.2.2.2.2.2.2.2.1
theorem k0_dev55_lt : ∀ (v1 : BitVec 32) (k0_hw2 : k0_chk2 v1), (k0_dev55 v1) < nD := fun v1 k0_hw2 => k0_hw2.1.2.2.2.2.2.2.2.2.2.2.2.2.2.2.2.2.2.2.2.2.2.2.2.2.2.2.2.1
theorem k0_dev57_lt : ∀ (v1 : BitVec 32) (k0_hw2 : k0_chk2 v1), (k0_dev57 v1) < nD := fun v1 k0_hw2 => k0_hw2.1.2.2.2.2.2.2.2.2.2.2.2.2.2.2.2.2.2.2.2.2.2.2.2.2.2.2.2.2.1
theorem k0_dev59_lt : ∀ (v1 : BitVec 32) (k0_hw2 : k0_chk2 v1), (k0_dev59 v1) < nD := fun v1 k0_hw2 => k0_hw2.1.2.2.2.2.2.2.2.2.2.2.2.2.2.2.2.2.2.2.2.2.2.2.2.2.2.2.2.2.2.1
theorem k0_dev61_lt : ∀ (v1 : BitVec 32) (k0_hw2 : k0_chk2 v1), (k0_dev61 v1) < nD := fun v1 k0_hw2 => k0_hw2.1.2.2.2.2.2.2.2.2.2.2.2.2.2.2.2.2.2.2.2.2.2.2.2.2.2.2.2.2.2.2.1
theorem k0_dev63_lt : ∀ (v1 : BitVec 32) (k0_hw2 : k0_chk2 v1), (k0_dev63 v1) < nD := fun v1 k0_hw2 => k0_hw2.1.2.2.2.2.2.2.2.2.2.2.2.2.2.2.2.2.2.2.2.2.2.2.2.2.2.2.2.2.2.2.2
theorem k0_dev65_lt : ∀ (v1 : BitVec 32) (k0_hw2 : k0_chk2 v1), (k0_dev65 v1) < nD := fun v1 k0_hw2 => k0_hw2.2.1.1
theorem k0_dev67_lt : ∀ (v1 : BitVec 32) (k0_hw2 : k0_chk2 v1), (k0_dev67 v1) < nD := fun v1 k0_hw2 => k0_hw2.2.1.2.1
theorem k0_dev69_lt : ∀ (v1 : BitVec 32) (k0_hw2 : k0_chk2 v1), (k0_dev69 v1) < nD := fun v1 k0_hw2 => k0_hw2.2.1.2.2.1
theorem k0_dev71_lt : ∀ (v1 : BitVec 32) (k0_hw2 : k0_chk2 v1), (k0_dev71 v1) < nD := fun v1 k0_hw2 => k0_hw2.2.1.2.2.2.1
theorem k0_dev73_lt : ∀ (v1 : BitVec 32) (k0_hw2 : k0_chk2 v1), (k0_dev73 v1) < nD := fun v1 k0_hw2 => k0_hw2.2.1.2.2.2.2.1
theorem k0_dev75_lt : ∀ (v1 : BitVec 32) (k0_hw2 : k0_chk2 v1), (k0_dev75 v1) < nD := fun v1 k0_hw2 => k0_hw2.2.1.2.2.2.2.2.1
theorem k0_dev77_lt : ∀ (v1 : BitVec 32) (k0_hw2 : k0_chk2 v1), (k0_dev77 v1) < nD := fun v1 k0_hw2 => k0_hw2.2.1.2.2.2.2.2.2.1
theorem k0_dev79_lt : ∀ (v1 : BitVec 32) (k0_hw2 : k0_chk2 v1), (k0_dev79 v1) < nD := fun v1 k0_hw2 => k0_hw2.2.1.2.2.2.2.2.2.2.1
theorem k0_dev81_lt : ∀ (v1 : BitVec 32) (k0_hw2 : k0_chk2 v1), (k0_dev81 v1) < nD := fun v1 k0_hw2 => k0_hw2.2.1.2.2.2.2.2.2.2.2.1
theorem k0_dev83_lt : ∀ (v1 : BitVec 32) (k0_hw2 : k0_chk2 v1), (k0_dev83 v1) < nD := fun v1 k0_hw2 => k0_hw2.2.1.2.2.2.2.2.2.2.2.2.1
theorem k0_dev85_lt : ∀ (v1 : BitVec 32) (k0_hw2 : k0_chk2 v1), (k0_dev85 v1) < nD := fun v1 k0_hw2 => k0_hw2.2.1.2.2.2.2.2.2.2.2.2.2.1
theorem k0_dev87_lt : ∀ (v1 : BitVec 32) (k0_hw2 : k0_chk2 v1), (k0_dev87 v1) < nD := fun v1 k0_hw2 => k0_hw2.2.1.2.2.2.2.2.2.2.2.2.2.2.1
theorem k0_dev89_lt : ∀ (v1 : BitVec 32) (k0_hw2 : k0_chk2 v1), (k0_dev89 v1) < nD := fun v1 k0_hw2 => k0_hw2.2.1.2.2.2.2.2.2.2.2.2.2.2.2.1
theorem k0_dev91_lt : ∀ (v1 : BitVec 32) (k0_hw2 : k0_chk2 v1), (k0_dev91 v1) < nD := fun v1 k0_hw2 => k0_hw2.2.1.2.2.2.2.2.2.2.2.2.2.2.2.2.1
theorem k0_dev93_lt : ∀ (v1 : BitVec 32) (k0_hw2 : k0_chk2 v1), (k0_dev93 v1) < nD := fun v1 k0_hw2 => k0_hw2.2.1.2.2.2.2.2.2.2.2.2.2.2.2.2.2.1
theorem k0_dev95_lt : ∀ (v1 : BitVec 32) (k0_hw2 : k0_chk2 v1), (k0_dev95 v1) < nD := fun v1 k0_hw2 => k0_hw2.2.1.2.2.2.2.2.2.2.2.2.2.2.2.2.2.2.1
theorem k0_dev97_lt : ∀ (v1 : BitVec 32) (k0_hw2 : k0_chk2 v1), (k0_dev97 v1) < nD := fun v1 k0_hw2 => k0_hw2.2.1.2.2.2.2.2.2.2.2.2.2.2.2.2.2.2.2.1
theorem k0_dev99_lt : ∀ (v1 : BitVec 32) (k0_hw2 : k0_chk2 v1), (k0_dev99 v1) < nD := fun v1 k0_hw2 => k0_hw2.2.1.2.2.2.2.2.2.2.2.2.2.2.2.2.2.2.2.2.1
theorem k0_dev101_lt : ∀ (v1 : BitVec 32) (k0_hw2 : k0_chk2 v1), (k0_dev101 v1) < nD := fun v1 k0_hw2 => k0_hw2.2.1.2.2.2.2.2.2.2.2.2.2.2.2.2.2.2.2.2.2.1
theorem k0_dev103_lt : ∀ (v1 : BitVec 32) (k0_hw2 : k0_chk2 v1), (k0_dev103 v1) < nD := fun v1 k0_hw2 => k0_hw2.2.1.2.2.2.2.2.2.2.2.2.2.2.2.2.2.2.2.2.2.2.1
theorem k0_dev105_lt : ∀ (v1 : BitVec 32) (k0_hw2 : k0_chk2 v1), (k0_dev105 v1) < nD := fun v1 k0_hw2 => k0_hw2.2.1.2.2.2.2.2.2.2.2.2.2.2.2.2.2.2.2.2.2.2.2.1
theorem k0_dev107_lt : ∀ (v1 : BitVec 32) (k0_hw2 : k0_chk2 v1), (k0_dev107 v1) < nD := fun v1 k0_hw2 => k0_hw2.2.1.2.2.2.2.2.2.2.2.2.2.2.2.2.2.2.2.2.2.2.2.2.1
theorem k0_dev109_lt : ∀ (v1 : BitVec 32) (k0_hw2 : k0_chk2 v1), (k0_dev109 v1) < nD := fun v1 k0_hw2 => k0_hw2.2.1.2.2.2.2.2.2.2.2.2.2.2.2.2.2.2.2.2.2.2.2.2.2.1
theorem k0_dev111_lt : ∀ (v1 : BitVec 32) (k0_hw2 : k0_chk2 v1), (k0_dev111 v1) < nD := fun v1 k0_hw2 => k0_hw2.2.1.2.2.2.2.2.2.2.2.2.2.2.2.2.2.2.2.2.2.2.2.2.2.2.1
theorem k0_dev113_lt : ∀ (v1 : BitVec 32) (k0_hw2 : k0_chk2 v1), (k0_dev113 v1) < nD := fun v1 k0_hw2 => k0_hw2.2.1.2.2.2.2.2.2.2.2.2.2.2.2.2.2.2.2.2.2.2.2.2.2.2.2.1
theorem k0_dev115_lt : ∀ (v1 : BitVec 32) (k0_hw2 : k0_chk2 v1), (k0_dev115 v1) < nD := fun v1 k0_hw2 => k0_hw2.2.1.2.2.2.2.2.2.2.2.2.2.2.2.2.2.2.2.2.2.2.2.2.2.2.2.2.1
theorem k0_dev117_lt : ∀ (v1 : BitVec 32) (k0_hw2 : k0_chk2 v1), (k0_dev117 v1) < nD := fun v1 k0_hw2 => k0_hw2.2.1.2.2.2.2.2.2.2.2.2.2.2.2.2.2.2.2.2.2.2.2.2.2.2.2.2.2.1
theorem k0_dev119_lt : ∀ (v1 : BitVec 32) (k0_hw2 : k0_chk2 v1), (k0_dev119 v1) < nD := fun v1 k0_hw2 => k0_hw2.2.1.2.2.2.2.2.2.2.2.2.2.2.2.2.2.2.2.2.2.2.2.2.2.2.2.2.2.2.1
theorem k0_dev121_lt : ∀ (v1 : BitVec 32) (k0_hw2 : k0_chk2 v1), (k0_dev121 v1) < nD := fun v1 k0_hw2 => k0_hw2.2.1.2.2.2.2.2.2.2.2.2.2.2.2.2.2.2.2.2.2.2.2.2.2.2.2.2.2.2.2.1
theorem k0_dev123_lt : ∀ (v1 : BitVec 32) (k0_hw2 : k0_chk2 v1), (k0_dev123 v1) < nD := fun v1 k0_hw2 => k0_hw2.2.1.2.2.2.2.2.2.2.2.2.2.2.2.2.2.2.2.2.2.2.2.2.2.2.2.2.2.2.2.2.1
theorem k0_dev125_lt : ∀ (v1 : BitVec 32) (k0_hw2 : k0_chk2 v1), (k0_dev125 v1) < nD := fun v1 k0_hw2 => k0_hw2.2.1.2.2.2.2.2.2.2.2.2.2.2.2.2.2.2.2.2.2.2.2.2.2.2.2.2.2.2.2.2.2.1
theorem k0_dev127_lt : ∀ (v1 : BitVec 32) (k0_hw2 : k0_chk2 v1), (k0_dev127 v1) < nD := fun v1 k0_hw2 => k0_hw2.2.1.2.2.2.2.2.2.2.2.2.2.2.2.2.2.2.2.2.2.2.2.2.2.2.2.2.2.2.2.2.2.2
theorem k0_dev129_lt : ∀ (v1 : BitVec 32) (k0_hw2 : k0_chk2 v1), (k0_dev129 v1) < nD := fun v1 k0_hw2 => k0_hw2.2.2.1.1
theorem k0_dev131_lt : ∀ (v1 : BitVec 32) (k0_hw2 : k0_chk2 v1), (k0_dev131 v1) < nD := fun v1 k0_hw2 => k0_hw2.2.2.1.2.1
theorem k0_dev133_lt : ∀ (v1 : BitVec 32) (k0_hw2 : k0_chk2 v1), (k0_dev133 v1) < nD := fun v1 k0_hw2 => k0_hw2.2.2.1.2.2.1
theorem k0_dev135_lt : ∀ (v1 : BitVec 32) (k0_hw2 : k0_chk2 v1), (k0_dev135 v1) < nD := fun v1 k0_hw2 => k0_hw2.2.2.1.2.2.2.1
theorem k0_dev137_lt : ∀ (v1 : BitVec 32) (k0_hw2 : k0_chk2 v1), (k0_dev137 v1) < nD := fun v1 k0_hw2 => k0_hw2.2.2.1.2.2.2.2.1
theorem k0_dev139_lt : ∀ (v1 : BitVec 32) (k0_hw2 : k0_chk2 v1), (k0_dev139 v1) < nD := fun v1 k0_hw2 => k0_hw2.2.2.1.2.2.2.2.2.1
theorem k0_dev141_lt : ∀ (v1 : BitVec 32) (k0_hw2 : k0_chk2 v1), (k0_dev141 v1) < nD := fun v1 k0_hw2 => k0_hw2.2.2.1.2.2.2.2.2.2.1
theorem k0_dev143_lt : ∀ (v1 : BitVec 32) (k0_hw2 : k0_chk2 v1), (k0_dev143 v1) < nD := fun v1 k0_hw2 => k0_hw2.2.2.1.2.2.2.2.2.2.2.1
theorem k0_dev145_lt : ∀ (v1 : BitVec 32) (k0_hw2 : k0_chk2 v1), (k0_dev145 v1) < nD := fun v1 k0_hw2 => k0_hw2.2.2.1.2.2.2.2.2.2.2.2.1
theorem k0_dev147_lt : ∀ (v1 : BitVec 32) (k0_hw2 : k0_chk2 v1), (k0_dev147 v1) < nD := fun v1 k0_hw2 => k0_hw2.2.2.1.2.2.2.2.2.2.2.2.2.1
theorem k0_dev149_lt : ∀ (v1 : BitVec 32) (k0_hw2 : k0_chk2 v1), (k0_dev149 v1) < nD := fun v1 k0_hw2 => k0_hw2.2.2.1.2.2.2.2.2.2.2.2.2.2.1
theorem k0_dev151_lt : ∀ (v1 : BitVec 32) (k0_hw2 : k0_chk2 v1), (k0_dev151 v1) < nD := fun v1 k0_hw2 => k0_hw2.2.2.1.2.2.2.2.2.2.2.2.2.2.2.1
theorem k0_dev153_lt : ∀ (v1 : BitVec 32) (k0_hw2 : k0_chk2 v1), (k0_dev153 v1) < nD := fun v1 k0_hw2 => k0_hw2.2.2.1.2.2.2.2.2.2.2.2.2.2.2.2.1
theorem k0_dev155_lt : ∀ (v1 : BitVec 32) (k0_hw2 : k0_chk2 v1), (k0_dev155 v1) < nD := fun v1 k0_hw2 => k0_hw2.2.2.1.2.2.2.2.2.2.2.2.2.2.2.2.2.1
theorem k0_dev157_lt : ∀ (v1 : BitVec 32) (k0_hw2 : k0_chk2 v1), (k0_dev157 v1) < nD := fun v1 k0_hw2 => k0_hw2.2.2.1.2.2.2.2.2.2.2.2.2.2.2.2.2.2.1
theorem k0_dev159_lt : ∀ (v1 : BitVec 32) (k0_hw2 : k0_chk2 v1), (k0_dev159 v1) < nD := fun v1 k0_hw2 => k0_hw2.2.2.1.2.2.2.2.2.2.2.2.2.2.2.2.2.2.2.1
theorem k0_dev161_lt : ∀ (v1 : BitVec 32) (k0_hw2 : k0_chk2 v1), (k0_dev161 v1) < nD := fun v1 k0_hw2 => k0_hw2.2.2.1.2.2.2.2.2.2.2.2.2.2.2.2.2.2.2.2.1
theorem k0_dev163_lt : ∀ (v1 : BitVec 32) (k0_hw2 : k0_chk2 v1), (k0_dev163 v1) < nD := fun v1 k0_hw2 => k0_hw2.2.2.1.2.2.2.2.2.2.2.2.2.2.2.2.2.2.2.2.2.1
theorem k0_dev165_lt : ∀ (v1 : BitVec 32) (k0_hw2 : k0_chk2 v1), (k0_dev165 v1) < nD := fun v1 k0_hw2 => k0_hw2.2.2.1.2.2.2.2.2.2.2.2.2.2.2.2.2.2.2.2.2.2.1
theorem k0_dev167_lt : ∀ (v1 : BitVec 32) (k0_hw2 : k0_chk2 v1), (k0_dev167 v1) < nD := fun v1 k0_hw2 => k0_hw2.2.2.1.2.2.2.2.2.2.2.2.2.2.2.2.2.2.2.2.2.2.2.1
theorem k0_dev169_lt : ∀ (v1 : BitVec 32) (k0_hw2 : k0_chk2 v1), (k0_dev169 v1) < nD := fun v1 k0_hw2 => k0_hw2.2.2.1.2.2.2.2.2.2.2.2.2.2.2.2.2.2.2.2.2.2.2.2.1
theorem k0_dev171_lt : ∀ (v1 : BitVec 32) (k0_hw2 : k0_chk2 v1), (k0_dev171 v1) < nD := fun v1 k0_hw2 => k0_hw2.2.2.1.2.2.2.2.2.2.2.2.2.2.2.2.2.2.2.2.2.2.2.2.2.1
theorem k0_dev173_lt : ∀ (v1 : BitVec 32) (k0_hw2 : k0_chk2 v1), (k0_dev173 v1) < nD := fun v1 k0_hw2 => k0_hw2.2.2.1.2.2.2.2.2.2.2.2.2.2.2.2.2.2.2.2.2.2.2.2.2.2.1
theorem k0_dev175_lt : ∀ (v1 : BitVec 32) (k0_hw2 : k0_chk2 v1), (k0_dev175 v1) < nD := fun v1 k0_hw2 => k0_hw2.2.2.1.2.2.2.2.2.2.2.2.2.2.2.2.2.2.2.2.2.2.2.2.2.2.2.1
theorem k0_dev177_lt : ∀ (v1 : BitVec 32) (k0_hw2 : k0_chk2 v1), (k0_dev177 v1) < nD := fun v1 k0_hw2 => k0_hw2.2.2.1.2.2.2.2.2.2.2.2.2.2.2.2.2.2.2.2.2.2.2.2.2.2.2.2.1
theorem k0_dev179_lt : ∀ (v1 : BitVec 32) (k0_hw2 : k0_chk2 v1), (k0_dev179 v1) < nD := fun v1 k0_hw2 => k0_hw2.2.2.1.2.2.2.2.2.2.2.2.2.2.2.2.2.2.2.2.2.2.2.2.2.2.2.2.2.1
theorem k0_dev181_lt : ∀ (v1 : BitVec 32) (k0_hw2 : k0_chk2 v1), (k0_dev181 v1) < nD := fun v1 k0_hw2 => k0_hw2.2.2.1.2.2.2.2.2.2.2.2.2.2.2.2.2.2.2.2.2.2.2.2.2.2.2.2.2.2.1
theorem k0_dev183_lt : ∀ (v1 : BitVec 32) (k0_hw2 : k0_chk2 v1), (k0_dev183 v1) < nD := fun v1 k0_hw2 => k0_hw2.2.2.1.2.2.2.2.2.2.2.2.2.2.2.2.2.2.2.2.2.2.2.2.2.2.2.2.2.2.2.1
theorem k0_dev185_lt : ∀ (v1 : BitVec 32) (k0_hw2 : k0_chk2 v1), (k0_dev185 v1) < nD := fun v1 k0_hw2 => k0_hw2.2.2.1.2.2.2.2.2.2.2.2.2.2.2.2.2.2.2.2.2.2.2.2.2.2.2.2.2.2.2.2.1
theorem k0_dev187_lt : ∀ (v1 : BitVec 32) (k0_hw2 : k0_chk2 v1), (k0_dev187 v1) < nD := fun v1 k0_hw2 => k0_hw2.2.2.1.2.2.2.2.2.2.2.2.2.2.2.2.2.2.2.2.2.2.2.2.2.2.2.2.2.2.2.2.2.1
theorem k0_dev189_lt : ∀ (v1 : BitVec 32) (k0_hw2 : k0_chk2 v1), (k0_dev189 v1) < nD := fun v1 k0_hw2 => k0_hw2.2.2.1.2.2.2.2.2.2.2.2.2.2.2.2.2.2.2.2.2.2.2.2.2.2.2.2.2.2.2.2.2.2.1
theorem k0_dev191_lt : ∀ (v1 : BitVec 32) (k0_hw2 : k0_chk2 v1), (k0_dev191 v1) < nD := fun v1 k0_hw2 => k0_hw2.2.2.1.2.2.2.2.2.2.2.2.2.2.2.2.2.2.2.2.2.2.2.2.2.2.2.2.2.2.2.2.2.2.2
theorem k0_dev193_lt : ∀ (v1 : BitVec 32) (k0_hw2 : k0_chk2 v1), (k0_dev193 v1) < nD := fun v1 k0_hw2 => k0_hw2.2.2.2.1
theorem k0_dev195_lt : ∀ (v1 : BitVec 32) (k0_hw2 : k0_chk2 v1), (k0_dev195 v1) < nD := fun v1 k0_hw2 => k0_hw2.2.2.2.2.1
theorem k0_dev197_lt : ∀ (v1 : BitVec 32) (k0_hw2 : k0_chk2 v1), (k0_dev197 v1) < nD := fun v1 k0_hw2 => k0_hw2.2.2.2.2.2.1
theorem k0_dev199_lt : ∀ (v1 : BitVec 32) (k0_hw2 : k0_chk2 v1), (k0_dev199 v1) < nD := fun v1 k0_hw2 => k0_hw2.2.2.2.2.2.2.1
theorem k0_dev201_lt : ∀ (v1 : BitVec 32) (k0_hw2 : k0_chk2 v1), (k0_dev201 v1) < nD := fun v1 k0_hw2 => k0_hw2.2.2.2.2.2.2.2.1
theorem k0_dev203_lt : ∀ (v1 : BitVec 32) (k0_hw2 : k0_chk2 v1), (k0_dev203 v1) < nD := fun v1 k0_hw2 => k0_hw2.2.2.2.2.2.2.2.2.1
theorem k0_dev205_lt : ∀ (v1 : BitVec 32) (k0_hw2 : k0_chk2 v1), (k0_dev205 v1) < nD := fun v1 k0_hw2 => k0_hw2.2.2.2.2.2.2.2.2.2.1
theorem k0_dev207_lt : ∀ (v1 : BitVec 32) (k0_hw2 : k0_chk2 v1), (k0_dev207 v1) < nD := fun v1 k0_hw2 => k0_hw2.2.2.2.2.2.2.2.2.2.2.1
theorem k0_dev209_lt : ∀ (v1 : BitVec 32) (k0_hw2 : k0_chk2 v1), (k0_dev209 v1) < nD := fun v1 k0_hw2 => k0_hw2.2.2.2.2.2.2.2.2.2.2.2.1
theorem k0_dev211_lt : ∀ (v1 : BitVec 32) (k0_hw2 : k0_chk2 v1), (k0_dev211 v1) < nD := fun v1 k0_hw2 => k0_hw2.2.2.2.2.2.2.2.2.2.2.2.2.1
theorem k0_dev213_lt : ∀ (v1 : BitVec 32) (k0_hw2 : k0_chk2 v1), (k0_dev213 v1) < nD := fun v1 k0_hw2 => k0_hw2.2.2.2.2.2.2.2.2.2.2.2.2.2.1
theorem k0_dev215_lt : ∀ (v1 : BitVec 32) (k0_hw2 : k0_chk2 v1), (k0_dev215 v1) < nD := fun v1 k0_hw2 => k0_hw2.2.2.2.2.2.2.2.2.2.2.2.2.2.2.1
theorem k0_dev217_lt : ∀ (v1 : BitVec 32) (k0_hw2 : k0_chk2 v1), (k0_dev217 v1) < nD := fun v1 k0_hw2 => k0_hw2.2.2.2.2.2.2.2.2.2.2.2.2.2.2.2.1
theorem k0_dev219_lt : ∀ (v1 : BitVec 32) (k0_hw2 : k0_chk2 v1), (k0_dev219 v1) < nD := fun v1 k0_hw2 => k0_hw2.2.2.2.2.2.2.2.2.2.2.2.2.2.2.2.2.1
theorem k0_dev221_lt : ∀ (v1 : BitVec 32) (k0_hw2 : k0_chk2 v1), (k0_dev221 v1) < nD := fun v1 k0_hw2 => k0_hw2.2.2.2.2.2.2.2.2.2.2.2.2.2.2.2.2.2.1
theorem k0_dev223_lt : ∀ (v1 : BitVec 32) (k0_hw2 : k0_chk2 v1), (k0_dev223 v1) < nD := fun v1 k0_hw2 => k0_hw2.2.2.2.2.2.2.2.2.2.2.2.2.2.2.2.2.2.2.1
theorem k0_dev225_lt : ∀ (v1 : BitVec 32) (k0_hw2 : k0_chk2 v1), (k0_dev225 v1) < nD := fun v1 k0_hw2 => k0_hw2.2.2.2.2.2.2.2.2.2.2.2.2.2.2.2.2.2.2.2.1
theorem k0_dev227_lt : ∀ (v1 : BitVec 32) (k0_hw2 : k0_chk2 v1), (k0_dev227 v1) < nD := fun v1 k0_hw2 => k0_hw2.2.2.2.2.2.2.2.2.2.2.2.2.2.2.2.2.2.2.2.2.1
theorem k0_dev229_lt : ∀ (v1 : BitVec 32) (k0_hw2 : k0_chk2 v1), (k0_dev229 v1) < nD := fun v1 k0_hw2 => k0_hw2.2.2.2.2.2.2.2.2.2.2.2.2.2.2.2.2.2.2.2.2.2.1
theorem k0_dev231_lt : ∀ (v1 : BitVec 32) (k0_hw2 : k0_chk2 v1), (k0_dev231 v1) < nD := fun v1 k0_hw2 => k0_hw2.2.2.2.2.2.2.2.2.2.2.2.2.2.2.2.2.2.2.2.2.2.2.1
theorem k0_dev233_lt : ∀ (v1 : BitVec 32) (k0_hw2 : k0_chk2 v1), (k0_dev233 v1) < nD := fun v1 k0_hw2 => k0_hw2.2.2.2.2.2.2.2.2.2.2.2.2.2.2.2.2.2.2.2.2.2.2.2.1
theorem k0_dev235_lt : ∀ (v1 : BitVec 32) (k0_hw2 : k0_chk2 v1), (k0_dev235 v1) < nD := fun v1 k0_hw2 => k0_hw2.2.2.2.2.2.2.2.2.2.2.2.2.2.2.2.2.2.2.2.2.2.2.2.2.1
theorem k0_dev237_lt : ∀ (v1 : BitVec 32) (k0_hw2 : k0_chk2 v1), (k0_dev237 v1) < nD := fun v1 k0_hw2 => k0_hw2.2.2.2.2.2.2.2.2.2.2.2.2.2.2.2.2.2.2.2.2.2.2.2.2.2.1
theorem k0_dev239_lt : ∀ (v1 : BitVec 32) (k0_hw2 : k0_chk2 v1), (k0_dev239 v1) < nD := fun v1 k0_hw2 => k0_hw2.2.2.2.2.2.2.2.2.2.2.2.2.2.2.2.2.2.2.2.2.2.2.2.2.2.2.1
theorem k0_dev241_lt : ∀ (v1 : BitVec 32) (k0_hw2 : k0_chk2 v1), (k0_dev241 v1) < nD := fun v1 k0_hw2 => k0_hw2.2.2.2.2.2.2.2.2.2.2.2.2.2.2.2.2.2.2.2.2.2.2.2.2.2.2.2

def k0_dev242 (v2 : BitVec 32) : Nat :=
  let c0_i32_7908 : BitVec 32 := 0#32
  let c1_i32_7907 : BitVec 32 := 1#32
  let v6818 : BitVec 32 := Scalar.muli v2 c1_i32_7907
  let v6819 : BitVec 32 := Scalar.addi c0_i32_7908 v6818
  v6819.toNat

def k0_chk1_0 (v2 : BitVec 32) : Prop :=
  ((k0_dev1 v2) < nD) ∧
  ((k0_dev4 v2) < nD) ∧
  ((k0_dev6 v2) < nD) ∧
  ((k0_dev8 v2) < nD) ∧
  ((k0_dev10 v2) < nD) ∧
  ((k0_dev12 v2) < nD) ∧
  ((k0_dev14 v2) < nD) ∧
  ((k0_dev16 v2) < nD) ∧
  ((k0_dev18 v2) < nD) ∧
  ((k0_dev20 v2) < nD) ∧
  ((k0_dev22 v2) < nD) ∧
  ((k0_dev24 v2) < nD) ∧
  ((k0_dev26 v2) < nD) ∧
  ((k0_dev28 v2) < nD) ∧
  ((k0_dev30 v2) < nD) ∧
  ((k0_dev32 v2) < nD) ∧
  ((k0_dev34 v2) < nD) ∧
  ((k0_dev36 v2) < nD) ∧
  ((k0_dev38 v2) < nD) ∧
  ((k0_dev40 v2) < nD) ∧
  ((k0_dev42 v2) < nD) ∧
  ((k0_dev44 v2) < nD) ∧
  ((k0_dev46 v2) < nD) ∧
  ((k0_dev48 v2) < nD) ∧
  ((k0_dev50 v2) < nD) ∧
  ((k0_dev52 v2) < nD) ∧
  ((k0_dev54 v2) < nD) ∧
  ((k0_dev56 v2) < nD) ∧
  ((k0_dev58 v2) < nD) ∧
  ((k0_dev60 v2) < nD) ∧
  ((k0_dev62 v2) < nD) ∧
  ((k0_dev64 v2) < nD)
def k0_chk1_1 (v2 : BitVec 32) : Prop :=
  ((k0_dev66 v2) < nD) ∧
  ((k0_dev68 v2) < nD) ∧
  ((k0_dev70 v2) < nD) ∧
  ((k0_dev72 v2) < nD) ∧
  ((k0_dev74 v2) < nD) ∧
  ((k0_dev76 v2) < nD) ∧
  ((k0_dev78 v2) < nD) ∧
  ((k0_dev80 v2) < nD) ∧
  ((k0_dev82 v2) < nD) ∧
  ((k0_dev84 v2) < nD) ∧
  ((k0_dev86 v2) < nD) ∧
  ((k0_dev88 v2) < nD) ∧
  ((k0_dev90 v2) < nD) ∧
  ((k0_dev92 v2) < nD) ∧
  ((k0_dev94 v2) < nD) ∧
  ((k0_dev96 v2) < nD) ∧
  ((k0_dev98 v2) < nD) ∧
  ((k0_dev100 v2) < nD) ∧
  ((k0_dev102 v2) < nD) ∧
  ((k0_dev104 v2) < nD) ∧
  ((k0_dev106 v2) < nD) ∧
  ((k0_dev108 v2) < nD) ∧
  ((k0_dev110 v2) < nD) ∧
  ((k0_dev112 v2) < nD) ∧
  ((k0_dev114 v2) < nD) ∧
  ((k0_dev116 v2) < nD) ∧
  ((k0_dev118 v2) < nD) ∧
  ((k0_dev120 v2) < nD) ∧
  ((k0_dev122 v2) < nD) ∧
  ((k0_dev124 v2) < nD) ∧
  ((k0_dev126 v2) < nD) ∧
  ((k0_dev128 v2) < nD)
def k0_chk1_2 (v2 : BitVec 32) : Prop :=
  ((k0_dev130 v2) < nD) ∧
  ((k0_dev132 v2) < nD) ∧
  ((k0_dev134 v2) < nD) ∧
  ((k0_dev136 v2) < nD) ∧
  ((k0_dev138 v2) < nD) ∧
  ((k0_dev140 v2) < nD) ∧
  ((k0_dev142 v2) < nD) ∧
  ((k0_dev144 v2) < nD) ∧
  ((k0_dev146 v2) < nD) ∧
  ((k0_dev148 v2) < nD) ∧
  ((k0_dev150 v2) < nD) ∧
  ((k0_dev152 v2) < nD) ∧
  ((k0_dev154 v2) < nD) ∧
  ((k0_dev156 v2) < nD) ∧
  ((k0_dev158 v2) < nD) ∧
  ((k0_dev160 v2) < nD) ∧
  ((k0_dev162 v2) < nD) ∧
  ((k0_dev164 v2) < nD) ∧
  ((k0_dev166 v2) < nD) ∧
  ((k0_dev168 v2) < nD) ∧
  ((k0_dev170 v2) < nD) ∧
  ((k0_dev172 v2) < nD) ∧
  ((k0_dev174 v2) < nD) ∧
  ((k0_dev176 v2) < nD) ∧
  ((k0_dev178 v2) < nD) ∧
  ((k0_dev180 v2) < nD) ∧
  ((k0_dev182 v2) < nD) ∧
  ((k0_dev184 v2) < nD) ∧
  ((k0_dev186 v2) < nD) ∧
  ((k0_dev188 v2) < nD) ∧
  ((k0_dev190 v2) < nD) ∧
  ((k0_dev192 v2) < nD)
def k0_chk1_3 (v2 : BitVec 32) : Prop :=
  ((k0_dev194 v2) < nD) ∧
  ((k0_dev196 v2) < nD) ∧
  ((k0_dev198 v2) < nD) ∧
  ((k0_dev200 v2) < nD) ∧
  ((k0_dev202 v2) < nD) ∧
  ((k0_dev204 v2) < nD) ∧
  ((k0_dev206 v2) < nD) ∧
  ((k0_dev208 v2) < nD) ∧
  ((k0_dev210 v2) < nD) ∧
  ((k0_dev212 v2) < nD) ∧
  ((k0_dev214 v2) < nD) ∧
  ((k0_dev216 v2) < nD) ∧
  ((k0_dev218 v2) < nD) ∧
  ((k0_dev220 v2) < nD) ∧
  ((k0_dev222 v2) < nD) ∧
  ((k0_dev224 v2) < nD) ∧
  ((k0_dev226 v2) < nD) ∧
  ((k0_dev228 v2) < nD) ∧
  ((k0_dev230 v2) < nD) ∧
  ((k0_dev232 v2) < nD) ∧
  ((k0_dev234 v2) < nD) ∧
  ((k0_dev236 v2) < nD) ∧
  ((k0_dev238 v2) < nD) ∧
  ((k0_dev240 v2) < nD) ∧
  ((k0_dev242 v2) < nD)
def k0_chk1 (v2 : BitVec 32) : Prop :=
  k0_chk1_0 v2 ∧
  k0_chk1_1 v2 ∧
  k0_chk1_2 v2 ∧
  k0_chk1_3 v2
theorem k0_dev1_lt : ∀ (v2 : BitVec 32) (k0_hw1 : k0_chk1 v2), (k0_dev1 v2) < nD := fun v2 k0_hw1 => k0_hw1.1.1
theorem k0_dev4_lt : ∀ (v2 : BitVec 32) (k0_hw1 : k0_chk1 v2), (k0_dev4 v2) < nD := fun v2 k0_hw1 => k0_hw1.1.2.1
theorem k0_dev6_lt : ∀ (v2 : BitVec 32) (k0_hw1 : k0_chk1 v2), (k0_dev6 v2) < nD := fun v2 k0_hw1 => k0_hw1.1.2.2.1
theorem k0_dev8_lt : ∀ (v2 : BitVec 32) (k0_hw1 : k0_chk1 v2), (k0_dev8 v2) < nD := fun v2 k0_hw1 => k0_hw1.1.2.2.2.1
theorem k0_dev10_lt : ∀ (v2 : BitVec 32) (k0_hw1 : k0_chk1 v2), (k0_dev10 v2) < nD := fun v2 k0_hw1 => k0_hw1.1.2.2.2.2.1
theorem k0_dev12_lt : ∀ (v2 : BitVec 32) (k0_hw1 : k0_chk1 v2), (k0_dev12 v2) < nD := fun v2 k0_hw1 => k0_hw1.1.2.2.2.2.2.1
theorem k0_dev14_lt : ∀ (v2 : BitVec 32) (k0_hw1 : k0_chk1 v2), (k0_dev14 v2) < nD := fun v2 k0_hw1 => k0_hw1.1.2.2.2.2.2.2.1
theorem k0_dev16_lt : ∀ (v2 : BitVec 32) (k0_hw1 : k0_chk1 v2), (k0_dev16 v2) < nD := fun v2 k0_hw1 => k0_hw1.1.2.2.2.2.2.2.2.1
theorem k0_dev18_lt : ∀ (v2 : BitVec 32) (k0_hw1 : k0_chk1 v2), (k0_dev18 v2) < nD := fun v2 k0_hw1 => k0_hw1.1.2.2.2.2.2.2.2.2.1
theorem k0_dev20_lt : ∀ (v2 : BitVec 32) (k0_hw1 : k0_chk1 v2), (k0_dev20 v2) < nD := fun v2 k0_hw1 => k0_hw1.1.2.2.2.2.2.2.2.2.2.1
theorem k0_dev22_lt : ∀ (v2 : BitVec 32) (k0_hw1 : k0_chk1 v2), (k0_dev22 v2) < nD := fun v2 k0_hw1 => k0_hw1.1.2.2.2.2.2.2.2.2.2.2.1
theorem k0_dev24_lt : ∀ (v2 : BitVec 32) (k0_hw1 : k0_chk1 v2), (k0_dev24 v2) < nD := fun v2 k0_hw1 => k0_hw1.1.2.2.2.2.2.2.2.2.2.2.2.1
theorem k0_dev26_lt : ∀ (v2 : BitVec 32) (k0_hw1 : k0_chk1 v2), (k0_dev26 v2) < nD := fun v2 k0_hw1 => k0_hw1.1.2.2.2.2.2.2.2.2.2.2.2.2.1
theorem k0_dev28_lt : ∀ (v2 : BitVec 32) (k0_hw1 : k0_chk1 v2), (k0_dev28 v2) < nD := fun v2 k0_hw1 => k0_hw1.1.2.2.2.2.2.2.2.2.2.2.2.2.2.1
theorem k0_dev30_lt : ∀ (v2 : BitVec 32) (k0_hw1 : k0_chk1 v2), (k0_dev30 v2) < nD := fun v2 k0_hw1 => k0_hw1.1.2.2.2.2.2.2.2.2.2.2.2.2.2.2.1
theorem k0_dev32_lt : ∀ (v2 : BitVec 32) (k0_hw1 : k0_chk1 v2), (k0_dev32 v2) < nD := fun v2 k0_hw1 => k0_hw1.1.2.2.2.2.2.2.2.2.2.2.2.2.2.2.2.1
theorem k0_dev34_lt : ∀ (v2 : BitVec 32) (k0_hw1 : k0_chk1 v2), (k0_dev34 v2) < nD := fun v2 k0_hw1 => k0_hw1.1.2.2.2.2.2.2.2.2.2.2.2.2.2.2.2.2.1
theorem k0_dev36_lt : ∀ (v2 : BitVec 32) (k0_hw1 : k0_chk1 v2), (k0_dev36 v2) < nD := fun v2 k0_hw1 => k0_hw1.1.2.2.2.2.2.2.2.2.2.2.2.2.2.2.2.2.2.1
theorem k0_dev38_lt : ∀ (v2 : BitVec 32) (k0_hw1 : k0_chk1 v2), (k0_dev38 v2) < nD := fun v2 k0_hw1 => k0_hw1.1.2.2.2.2.2.2.2.2.2.2.2.2.2.2.2.2.2.2.1
theorem k0_dev40_lt : ∀ (v2 : BitVec 32) (k0_hw1 : k0_chk1 v2), (k0_dev40 v2) < nD := fun v2 k0_hw1 => k0_hw1.1.2.2.2.2.2.2.2.2.2.2.2.2.2.2.2.2.2.2.2.1
theorem k0_dev42_lt : ∀ (v2 : BitVec 32) (k0_hw1 : k0_chk1 v2), (k0_dev42 v2) < nD := fun v2 k0_hw1 => k0_hw1.1.2.2.2.2.2.2.2.2.2.2.2.2.2.2.2.2.2.2.2.2.1
theorem k0_dev44_lt : ∀ (v2 : BitVec 32) (k0_hw1 : k0_chk1 v2), (k0_dev44 v2) < nD := fun v2 k0_hw1 => k0_hw1.1.2.2.2.2.2.2.2.2.2.2.2.2.2.2.2.2.2.2.2.2.2.1
theorem k0_dev46_lt : ∀ (v2 : BitVec 32) (k0_hw1 : k0_chk1 v2), (k0_dev46 v2) < nD := fun v2 k0_hw1 => k0_hw1.1.2.2.2.2.2.2.2.2.2.2.2.2.2.2.2.2.2.2.2.2.2.2.1
theorem k0_dev48_lt : ∀ (v2 : BitVec 32) (k0_hw1 : k0_chk1 v2), (k0_dev48 v2) < nD := fun v2 k0_hw1 => k0_hw1.1.2.2.2.2.2.2.2.2.2.2.2.2.2.2.2.2.2.2.2.2.2.2.2.1
theorem k0_dev50_lt : ∀ (v2 : BitVec 32) (k0_hw1 : k0_chk1 v2), (k0_dev50 v2) < nD := fun v2 k0_hw1 => k0_hw1.1.2.2.2.2.2.2.2.2.2.2.2.2.2.2.2.2.2.2.2.2.2.2.2.2.1
theorem k0_dev52_lt : ∀ (v2 : BitVec 32) (k0_hw1 : k0_chk1 v2), (k0_dev52 v2) < nD := fun v2 k0_hw1 => k0_hw1.1.2.2.2.2.2.2.2.2.2.2.2.2.2.2.2.2.2.2.2.2.2.2.2.2.2.1
theorem k0_dev54_lt : ∀ (v2 : BitVec 32) (k0_hw1 : k0_chk1 v2), (k0_dev54 v2) < nD := fun v2 k0_hw1 => k0_hw1.1.2.2.2.2.2.2.2.2.2.2.2.2.2.2.2.2.2.2.2.2.2.2.2.2.2.2.1
theorem k0_dev56_lt : ∀ (v2 : BitVec 32) (k0_hw1 : k0_chk1 v2), (k0_dev56 v2) < nD := fun v2 k0_hw1 => k0_hw1.1.2.2.2.2.2.2.2.2.2.2.2.2.2.2.2.2.2.2.2.2.2.2.2.2.2.2.2.1
theorem k0_dev58_lt : ∀ (v2 : BitVec 32) (k0_hw1 : k0_chk1 v2), (k0_dev58 v2) < nD := fun v2 k0_hw1 => k0_hw1.1.2.2.2.2.2.2.2.2.2.2.2.2.2.2.2.2.2.2.2.2.2.2.2.2.2.2.2.2.1
theorem k0_dev60_lt : ∀ (v2 : BitVec 32) (k0_hw1 : k0_chk1 v2), (k0_dev60 v2) < nD := fun v2 k0_hw1 => k0_hw1.1.2.2.2.2.2.2.2.2.2.2.2.2.2.2.2.2.2.2.2.2.2.2.2.2.2.2.2.2.2.1
theorem k0_dev62_lt : ∀ (v2 : BitVec 32) (k0_hw1 : k0_chk1 v2), (k0_dev62 v2) < nD := fun v2 k0_hw1 => k0_hw1.1.2.2.2.2.2.2.2.2.2.2.2.2.2.2.2.2.2.2.2.2.2.2.2.2.2.2.2.2.2.2.1
theorem k0_dev64_lt : ∀ (v2 : BitVec 32) (k0_hw1 : k0_chk1 v2), (k0_dev64 v2) < nD := fun v2 k0_hw1 => k0_hw1.1.2.2.2.2.2.2.2.2.2.2.2.2.2.2.2.2.2.2.2.2.2.2.2.2.2.2.2.2.2.2.2
theorem k0_dev66_lt : ∀ (v2 : BitVec 32) (k0_hw1 : k0_chk1 v2), (k0_dev66 v2) < nD := fun v2 k0_hw1 => k0_hw1.2.1.1
theorem k0_dev68_lt : ∀ (v2 : BitVec 32) (k0_hw1 : k0_chk1 v2), (k0_dev68 v2) < nD := fun v2 k0_hw1 => k0_hw1.2.1.2.1
theorem k0_dev70_lt : ∀ (v2 : BitVec 32) (k0_hw1 : k0_chk1 v2), (k0_dev70 v2) < nD := fun v2 k0_hw1 => k0_hw1.2.1.2.2.1
theorem k0_dev72_lt : ∀ (v2 : BitVec 32) (k0_hw1 : k0_chk1 v2), (k0_dev72 v2) < nD := fun v2 k0_hw1 => k0_hw1.2.1.2.2.2.1
theorem k0_dev74_lt : ∀ (v2 : BitVec 32) (k0_hw1 : k0_chk1 v2), (k0_dev74 v2) < nD := fun v2 k0_hw1 => k0_hw1.2.1.2.2.2.2.1
theorem k0_dev76_lt : ∀ (v2 : BitVec 32) (k0_hw1 : k0_chk1 v2), (k0_dev76 v2) < nD := fun v2 k0_hw1 => k0_hw1.2.1.2.2.2.2.2.1
theorem k0_dev78_lt : ∀ (v2 : BitVec 32) (k0_hw1 : k0_chk1 v2), (k0_dev78 v2) < nD := fun v2 k0_hw1 => k0_hw1.2.1.2.2.2.2.2.2.1
theorem k0_dev80_lt : ∀ (v2 : BitVec 32) (k0_hw1 : k0_chk1 v2), (k0_dev80 v2) < nD := fun v2 k0_hw1 => k0_hw1.2.1.2.2.2.2.2.2.2.1
theorem k0_dev82_lt : ∀ (v2 : BitVec 32) (k0_hw1 : k0_chk1 v2), (k0_dev82 v2) < nD := fun v2 k0_hw1 => k0_hw1.2.1.2.2.2.2.2.2.2.2.1
theorem k0_dev84_lt : ∀ (v2 : BitVec 32) (k0_hw1 : k0_chk1 v2), (k0_dev84 v2) < nD := fun v2 k0_hw1 => k0_hw1.2.1.2.2.2.2.2.2.2.2.2.1
theorem k0_dev86_lt : ∀ (v2 : BitVec 32) (k0_hw1 : k0_chk1 v2), (k0_dev86 v2) < nD := fun v2 k0_hw1 => k0_hw1.2.1.2.2.2.2.2.2.2.2.2.2.1
theorem k0_dev88_lt : ∀ (v2 : BitVec 32) (k0_hw1 : k0_chk1 v2), (k0_dev88 v2) < nD := fun v2 k0_hw1 => k0_hw1.2.1.2.2.2.2.2.2.2.2.2.2.2.1
theorem k0_dev90_lt : ∀ (v2 : BitVec 32) (k0_hw1 : k0_chk1 v2), (k0_dev90 v2) < nD := fun v2 k0_hw1 => k0_hw1.2.1.2.2.2.2.2.2.2.2.2.2.2.2.1
theorem k0_dev92_lt : ∀ (v2 : BitVec 32) (k0_hw1 : k0_chk1 v2), (k0_dev92 v2) < nD := fun v2 k0_hw1 => k0_hw1.2.1.2.2.2.2.2.2.2.2.2.2.2.2.2.1
theorem k0_dev94_lt : ∀ (v2 : BitVec 32) (k0_hw1 : k0_chk1 v2), (k0_dev94 v2) < nD := fun v2 k0_hw1 => k0_hw1.2.1.2.2.2.2.2.2.2.2.2.2.2.2.2.2.1
theorem k0_dev96_lt : ∀ (v2 : BitVec 32) (k0_hw1 : k0_chk1 v2), (k0_dev96 v2) < nD := fun v2 k0_hw1 => k0_hw1.2.1.2.2.2.2.2.2.2.2.2.2.2.2.2.2.2.1
theorem k0_dev98_lt : ∀ (v2 : BitVec 32) (k0_hw1 : k0_chk1 v2), (k0_dev98 v2) < nD := fun v2 k0_hw1 => k0_hw1.2.1.2.2.2.2.2.2.2.2.2.2.2.2.2.2.2.2.1
theorem k0_dev100_lt : ∀ (v2 : BitVec 32) (k0_hw1 : k0_chk1 v2), (k0_dev100 v2) < nD := fun v2 k0_hw1 => k0_hw1.2.1.2.2.2.2.2.2.2.2.2.2.2.2.2.2.2.2.2.1
theorem k0_dev102_lt : ∀ (v2 : BitVec 32) (k0_hw1 : k0_chk1 v2), (k0_dev102 v2) < nD := fun v2 k0_hw1 => k0_hw1.2.1.2.2.2.2.2.2.2.2.2.2.2.2.2.2.2.2.2.2.1
theorem k0_dev104_lt : ∀ (v2 : BitVec 32) (k0_hw1 : k0_chk1 v2), (k0_dev104 v2) < nD := fun v2 k0_hw1 => k0_hw1.2.1.2.2.2.2.2.2.2.2.2.2.2.2.2.2.2.2.2.2.2.1
theorem k0_dev106_lt : ∀ (v2 : BitVec 32) (k0_hw1 : k0_chk1 v2), (k0_dev106 v2) < nD := fun v2 k0_hw1 => k0_hw1.2.1.2.2.2.2.2.2.2.2.2.2.2.2.2.2.2.2.2.2.2.2.1
theorem k0_dev108_lt : ∀ (v2 : BitVec 32) (k0_hw1 : k0_chk1 v2), (k0_dev108 v2) < nD := fun v2 k0_hw1 => k0_hw1.2.1.2.2.2.2.2.2.2.2.2.2.2.2.2.2.2.2.2.2.2.2.2.1
theorem k0_dev110_lt : ∀ (v2 : BitVec 32) (k0_hw1 : k0_chk1 v2), (k0_dev110 v2) < nD := fun v2 k0_hw1 => k0_hw1.2.1.2.2.2.2.2.2.2.2.2.2.2.2.2.2.2.2.2.2.2.2.2.2.1
theorem k0_dev112_lt : ∀ (v2 : BitVec 32) (k0_hw1 : k0_chk1 v2), (k0_dev112 v2) < nD := fun v2 k0_hw1 => k0_hw1.2.1.2.2.2.2.2.2.2.2.2.2.2.2.2.2.2.2.2.2.2.2.2.2.2.1
theorem k0_dev114_lt : ∀ (v2 : BitVec 32) (k0_hw1 : k0_chk1 v2), (k0_dev114 v2) < nD := fun v2 k0_hw1 => k0_hw1.2.1.2.2.2.2.2.2.2.2.2.2.2.2.2.2.2.2.2.2.2.2.2.2.2.2.1
theorem k0_dev116_lt : ∀ (v2 : BitVec 32) (k0_hw1 : k0_chk1 v2), (k0_dev116 v2) < nD := fun v2 k0_hw1 => k0_hw1.2.1.2.2.2.2.2.2.2.2.2.2.2.2.2.2.2.2.2.2.2.2.2.2.2.2.2.1
theorem k0_dev118_lt : ∀ (v2 : BitVec 32) (k0_hw1 : k0_chk1 v2), (k0_dev118 v2) < nD := fun v2 k0_hw1 => k0_hw1.2.1.2.2.2.2.2.2.2.2.2.2.2.2.2.2.2.2.2.2.2.2.2.2.2.2.2.2.1
theorem k0_dev120_lt : ∀ (v2 : BitVec 32) (k0_hw1 : k0_chk1 v2), (k0_dev120 v2) < nD := fun v2 k0_hw1 => k0_hw1.2.1.2.2.2.2.2.2.2.2.2.2.2.2.2.2.2.2.2.2.2.2.2.2.2.2.2.2.2.1
theorem k0_dev122_lt : ∀ (v2 : BitVec 32) (k0_hw1 : k0_chk1 v2), (k0_dev122 v2) < nD := fun v2 k0_hw1 => k0_hw1.2.1.2.2.2.2.2.2.2.2.2.2.2.2.2.2.2.2.2.2.2.2.2.2.2.2.2.2.2.2.1
theorem k0_dev124_lt : ∀ (v2 : BitVec 32) (k0_hw1 : k0_chk1 v2), (k0_dev124 v2) < nD := fun v2 k0_hw1 => k0_hw1.2.1.2.2.2.2.2.2.2.2.2.2.2.2.2.2.2.2.2.2.2.2.2.2.2.2.2.2.2.2.2.1
theorem k0_dev126_lt : ∀ (v2 : BitVec 32) (k0_hw1 : k0_chk1 v2), (k0_dev126 v2) < nD := fun v2 k0_hw1 => k0_hw1.2.1.2.2.2.2.2.2.2.2.2.2.2.2.2.2.2.2.2.2.2.2.2.2.2.2.2.2.2.2.2.2.1
theorem k0_dev128_lt : ∀ (v2 : BitVec 32) (k0_hw1 : k0_chk1 v2), (k0_dev128 v2) < nD := fun v2 k0_hw1 => k0_hw1.2.1.2.2.2.2.2.2.2.2.2.2.2.2.2.2.2.2.2.2.2.2.2.2.2.2.2.2.2.2.2.2.2
theorem k0_dev130_lt : ∀ (v2 : BitVec 32) (k0_hw1 : k0_chk1 v2), (k0_dev130 v2) < nD := fun v2 k0_hw1 => k0_hw1.2.2.1.1
theorem k0_dev132_lt : ∀ (v2 : BitVec 32) (k0_hw1 : k0_chk1 v2), (k0_dev132 v2) < nD := fun v2 k0_hw1 => k0_hw1.2.2.1.2.1
theorem k0_dev134_lt : ∀ (v2 : BitVec 32) (k0_hw1 : k0_chk1 v2), (k0_dev134 v2) < nD := fun v2 k0_hw1 => k0_hw1.2.2.1.2.2.1
theorem k0_dev136_lt : ∀ (v2 : BitVec 32) (k0_hw1 : k0_chk1 v2), (k0_dev136 v2) < nD := fun v2 k0_hw1 => k0_hw1.2.2.1.2.2.2.1
theorem k0_dev138_lt : ∀ (v2 : BitVec 32) (k0_hw1 : k0_chk1 v2), (k0_dev138 v2) < nD := fun v2 k0_hw1 => k0_hw1.2.2.1.2.2.2.2.1
theorem k0_dev140_lt : ∀ (v2 : BitVec 32) (k0_hw1 : k0_chk1 v2), (k0_dev140 v2) < nD := fun v2 k0_hw1 => k0_hw1.2.2.1.2.2.2.2.2.1
theorem k0_dev142_lt : ∀ (v2 : BitVec 32) (k0_hw1 : k0_chk1 v2), (k0_dev142 v2) < nD := fun v2 k0_hw1 => k0_hw1.2.2.1.2.2.2.2.2.2.1
theorem k0_dev144_lt : ∀ (v2 : BitVec 32) (k0_hw1 : k0_chk1 v2), (k0_dev144 v2) < nD := fun v2 k0_hw1 => k0_hw1.2.2.1.2.2.2.2.2.2.2.1
theorem k0_dev146_lt : ∀ (v2 : BitVec 32) (k0_hw1 : k0_chk1 v2), (k0_dev146 v2) < nD := fun v2 k0_hw1 => k0_hw1.2.2.1.2.2.2.2.2.2.2.2.1
theorem k0_dev148_lt : ∀ (v2 : BitVec 32) (k0_hw1 : k0_chk1 v2), (k0_dev148 v2) < nD := fun v2 k0_hw1 => k0_hw1.2.2.1.2.2.2.2.2.2.2.2.2.1
theorem k0_dev150_lt : ∀ (v2 : BitVec 32) (k0_hw1 : k0_chk1 v2), (k0_dev150 v2) < nD := fun v2 k0_hw1 => k0_hw1.2.2.1.2.2.2.2.2.2.2.2.2.2.1
theorem k0_dev152_lt : ∀ (v2 : BitVec 32) (k0_hw1 : k0_chk1 v2), (k0_dev152 v2) < nD := fun v2 k0_hw1 => k0_hw1.2.2.1.2.2.2.2.2.2.2.2.2.2.2.1
theorem k0_dev154_lt : ∀ (v2 : BitVec 32) (k0_hw1 : k0_chk1 v2), (k0_dev154 v2) < nD := fun v2 k0_hw1 => k0_hw1.2.2.1.2.2.2.2.2.2.2.2.2.2.2.2.1
theorem k0_dev156_lt : ∀ (v2 : BitVec 32) (k0_hw1 : k0_chk1 v2), (k0_dev156 v2) < nD := fun v2 k0_hw1 => k0_hw1.2.2.1.2.2.2.2.2.2.2.2.2.2.2.2.2.1
theorem k0_dev158_lt : ∀ (v2 : BitVec 32) (k0_hw1 : k0_chk1 v2), (k0_dev158 v2) < nD := fun v2 k0_hw1 => k0_hw1.2.2.1.2.2.2.2.2.2.2.2.2.2.2.2.2.2.1
theorem k0_dev160_lt : ∀ (v2 : BitVec 32) (k0_hw1 : k0_chk1 v2), (k0_dev160 v2) < nD := fun v2 k0_hw1 => k0_hw1.2.2.1.2.2.2.2.2.2.2.2.2.2.2.2.2.2.2.1
theorem k0_dev162_lt : ∀ (v2 : BitVec 32) (k0_hw1 : k0_chk1 v2), (k0_dev162 v2) < nD := fun v2 k0_hw1 => k0_hw1.2.2.1.2.2.2.2.2.2.2.2.2.2.2.2.2.2.2.2.1
theorem k0_dev164_lt : ∀ (v2 : BitVec 32) (k0_hw1 : k0_chk1 v2), (k0_dev164 v2) < nD := fun v2 k0_hw1 => k0_hw1.2.2.1.2.2.2.2.2.2.2.2.2.2.2.2.2.2.2.2.2.1
theorem k0_dev166_lt : ∀ (v2 : BitVec 32) (k0_hw1 : k0_chk1 v2), (k0_dev166 v2) < nD := fun v2 k0_hw1 => k0_hw1.2.2.1.2.2.2.2.2.2.2.2.2.2.2.2.2.2.2.2.2.2.1
theorem k0_dev168_lt : ∀ (v2 : BitVec 32) (k0_hw1 : k0_chk1 v2), (k0_dev168 v2) < nD := fun v2 k0_hw1 => k0_hw1.2.2.1.2.2.2.2.2.2.2.2.2.2.2.2.2.2.2.2.2.2.2.1
theorem k0_dev170_lt : ∀ (v2 : BitVec 32) (k0_hw1 : k0_chk1 v2), (k0_dev170 v2) < nD := fun v2 k0_hw1 => k0_hw1.2.2.1.2.2.2.2.2.2.2.2.2.2.2.2.2.2.2.2.2.2.2.2.1
theorem k0_dev172_lt : ∀ (v2 : BitVec 32) (k0_hw1 : k0_chk1 v2), (k0_dev172 v2) < nD := fun v2 k0_hw1 => k0_hw1.2.2.1.2.2.2.2.2.2.2.2.2.2.2.2.2.2.2.2.2.2.2.2.2.1
theorem k0_dev174_lt : ∀ (v2 : BitVec 32) (k0_hw1 : k0_chk1 v2), (k0_dev174 v2) < nD := fun v2 k0_hw1 => k0_hw1.2.2.1.2.2.2.2.2.2.2.2.2.2.2.2.2.2.2.2.2.2.2.2.2.2.1
theorem k0_dev176_lt : ∀ (v2 : BitVec 32) (k0_hw1 : k0_chk1 v2), (k0_dev176 v2) < nD := fun v2 k0_hw1 => k0_hw1.2.2.1.2.2.2.2.2.2.2.2.2.2.2.2.2.2.2.2.2.2.2.2.2.2.2.1
theorem k0_dev178_lt : ∀ (v2 : BitVec 32) (k0_hw1 : k0_chk1 v2), (k0_dev178 v2) < nD := fun v2 k0_hw1 => k0_hw1.2.2.1.2.2.2.2.2.2.2.2.2.2.2.2.2.2.2.2.2.2.2.2.2.2.2.2.1
theorem k0_dev180_lt : ∀ (v2 : BitVec 32) (k0_hw1 : k0_chk1 v2), (k0_dev180 v2) < nD := fun v2 k0_hw1 => k0_hw1.2.2.1.2.2.2.2.2.2.2.2.2.2.2.2.2.2.2.2.2.2.2.2.2.2.2.2.2.1
theorem k0_dev182_lt : ∀ (v2 : BitVec 32) (k0_hw1 : k0_chk1 v2), (k0_dev182 v2) < nD := fun v2 k0_hw1 => k0_hw1.2.2.1.2.2.2.2.2.2.2.2.2.2.2.2.2.2.2.2.2.2.2.2.2.2.2.2.2.2.1
theorem k0_dev184_lt : ∀ (v2 : BitVec 32) (k0_hw1 : k0_chk1 v2), (k0_dev184 v2) < nD := fun v2 k0_hw1 => k0_hw1.2.2.1.2.2.2.2.2.2.2.2.2.2.2.2.2.2.2.2.2.2.2.2.2.2.2.2.2.2.2.1
theorem k0_dev186_lt : ∀ (v2 : BitVec 32) (k0_hw1 : k0_chk1 v2), (k0_dev186 v2) < nD := fun v2 k0_hw1 => k0_hw1.2.2.1.2.2.2.2.2.2.2.2.2.2.2.2.2.2.2.2.2.2.2.2.2.2.2.2.2.2.2.2.1
theorem k0_dev188_lt : ∀ (v2 : BitVec 32) (k0_hw1 : k0_chk1 v2), (k0_dev188 v2) < nD := fun v2 k0_hw1 => k0_hw1.2.2.1.2.2.2.2.2.2.2.2.2.2.2.2.2.2.2.2.2.2.2.2.2.2.2.2.2.2.2.2.2.1
theorem k0_dev190_lt : ∀ (v2 : BitVec 32) (k0_hw1 : k0_chk1 v2), (k0_dev190 v2) < nD := fun v2 k0_hw1 => k0_hw1.2.2.1.2.2.2.2.2.2.2.2.2.2.2.2.2.2.2.2.2.2.2.2.2.2.2.2.2.2.2.2.2.2.1
theorem k0_dev192_lt : ∀ (v2 : BitVec 32) (k0_hw1 : k0_chk1 v2), (k0_dev192 v2) < nD := fun v2 k0_hw1 => k0_hw1.2.2.1.2.2.2.2.2.2.2.2.2.2.2.2.2.2.2.2.2.2.2.2.2.2.2.2.2.2.2.2.2.2.2
theorem k0_dev194_lt : ∀ (v2 : BitVec 32) (k0_hw1 : k0_chk1 v2), (k0_dev194 v2) < nD := fun v2 k0_hw1 => k0_hw1.2.2.2.1
theorem k0_dev196_lt : ∀ (v2 : BitVec 32) (k0_hw1 : k0_chk1 v2), (k0_dev196 v2) < nD := fun v2 k0_hw1 => k0_hw1.2.2.2.2.1
theorem k0_dev198_lt : ∀ (v2 : BitVec 32) (k0_hw1 : k0_chk1 v2), (k0_dev198 v2) < nD := fun v2 k0_hw1 => k0_hw1.2.2.2.2.2.1
theorem k0_dev200_lt : ∀ (v2 : BitVec 32) (k0_hw1 : k0_chk1 v2), (k0_dev200 v2) < nD := fun v2 k0_hw1 => k0_hw1.2.2.2.2.2.2.1
theorem k0_dev202_lt : ∀ (v2 : BitVec 32) (k0_hw1 : k0_chk1 v2), (k0_dev202 v2) < nD := fun v2 k0_hw1 => k0_hw1.2.2.2.2.2.2.2.1
theorem k0_dev204_lt : ∀ (v2 : BitVec 32) (k0_hw1 : k0_chk1 v2), (k0_dev204 v2) < nD := fun v2 k0_hw1 => k0_hw1.2.2.2.2.2.2.2.2.1
theorem k0_dev206_lt : ∀ (v2 : BitVec 32) (k0_hw1 : k0_chk1 v2), (k0_dev206 v2) < nD := fun v2 k0_hw1 => k0_hw1.2.2.2.2.2.2.2.2.2.1
theorem k0_dev208_lt : ∀ (v2 : BitVec 32) (k0_hw1 : k0_chk1 v2), (k0_dev208 v2) < nD := fun v2 k0_hw1 => k0_hw1.2.2.2.2.2.2.2.2.2.2.1
theorem k0_dev210_lt : ∀ (v2 : BitVec 32) (k0_hw1 : k0_chk1 v2), (k0_dev210 v2) < nD := fun v2 k0_hw1 => k0_hw1.2.2.2.2.2.2.2.2.2.2.2.1
theorem k0_dev212_lt : ∀ (v2 : BitVec 32) (k0_hw1 : k0_chk1 v2), (k0_dev212 v2) < nD := fun v2 k0_hw1 => k0_hw1.2.2.2.2.2.2.2.2.2.2.2.2.1
theorem k0_dev214_lt : ∀ (v2 : BitVec 32) (k0_hw1 : k0_chk1 v2), (k0_dev214 v2) < nD := fun v2 k0_hw1 => k0_hw1.2.2.2.2.2.2.2.2.2.2.2.2.2.1
theorem k0_dev216_lt : ∀ (v2 : BitVec 32) (k0_hw1 : k0_chk1 v2), (k0_dev216 v2) < nD := fun v2 k0_hw1 => k0_hw1.2.2.2.2.2.2.2.2.2.2.2.2.2.2.1
theorem k0_dev218_lt : ∀ (v2 : BitVec 32) (k0_hw1 : k0_chk1 v2), (k0_dev218 v2) < nD := fun v2 k0_hw1 => k0_hw1.2.2.2.2.2.2.2.2.2.2.2.2.2.2.2.1
theorem k0_dev220_lt : ∀ (v2 : BitVec 32) (k0_hw1 : k0_chk1 v2), (k0_dev220 v2) < nD := fun v2 k0_hw1 => k0_hw1.2.2.2.2.2.2.2.2.2.2.2.2.2.2.2.2.1
theorem k0_dev222_lt : ∀ (v2 : BitVec 32) (k0_hw1 : k0_chk1 v2), (k0_dev222 v2) < nD := fun v2 k0_hw1 => k0_hw1.2.2.2.2.2.2.2.2.2.2.2.2.2.2.2.2.2.1
theorem k0_dev224_lt : ∀ (v2 : BitVec 32) (k0_hw1 : k0_chk1 v2), (k0_dev224 v2) < nD := fun v2 k0_hw1 => k0_hw1.2.2.2.2.2.2.2.2.2.2.2.2.2.2.2.2.2.2.1
theorem k0_dev226_lt : ∀ (v2 : BitVec 32) (k0_hw1 : k0_chk1 v2), (k0_dev226 v2) < nD := fun v2 k0_hw1 => k0_hw1.2.2.2.2.2.2.2.2.2.2.2.2.2.2.2.2.2.2.2.1
theorem k0_dev228_lt : ∀ (v2 : BitVec 32) (k0_hw1 : k0_chk1 v2), (k0_dev228 v2) < nD := fun v2 k0_hw1 => k0_hw1.2.2.2.2.2.2.2.2.2.2.2.2.2.2.2.2.2.2.2.2.1
theorem k0_dev230_lt : ∀ (v2 : BitVec 32) (k0_hw1 : k0_chk1 v2), (k0_dev230 v2) < nD := fun v2 k0_hw1 => k0_hw1.2.2.2.2.2.2.2.2.2.2.2.2.2.2.2.2.2.2.2.2.2.1
theorem k0_dev232_lt : ∀ (v2 : BitVec 32) (k0_hw1 : k0_chk1 v2), (k0_dev232 v2) < nD := fun v2 k0_hw1 => k0_hw1.2.2.2.2.2.2.2.2.2.2.2.2.2.2.2.2.2.2.2.2.2.2.1
theorem k0_dev234_lt : ∀ (v2 : BitVec 32) (k0_hw1 : k0_chk1 v2), (k0_dev234 v2) < nD := fun v2 k0_hw1 => k0_hw1.2.2.2.2.2.2.2.2.2.2.2.2.2.2.2.2.2.2.2.2.2.2.2.1
theorem k0_dev236_lt : ∀ (v2 : BitVec 32) (k0_hw1 : k0_chk1 v2), (k0_dev236 v2) < nD := fun v2 k0_hw1 => k0_hw1.2.2.2.2.2.2.2.2.2.2.2.2.2.2.2.2.2.2.2.2.2.2.2.2.1
theorem k0_dev238_lt : ∀ (v2 : BitVec 32) (k0_hw1 : k0_chk1 v2), (k0_dev238 v2) < nD := fun v2 k0_hw1 => k0_hw1.2.2.2.2.2.2.2.2.2.2.2.2.2.2.2.2.2.2.2.2.2.2.2.2.2.1
theorem k0_dev240_lt : ∀ (v2 : BitVec 32) (k0_hw1 : k0_chk1 v2), (k0_dev240 v2) < nD := fun v2 k0_hw1 => k0_hw1.2.2.2.2.2.2.2.2.2.2.2.2.2.2.2.2.2.2.2.2.2.2.2.2.2.2.1
theorem k0_dev242_lt : ∀ (v2 : BitVec 32) (k0_hw1 : k0_chk1 v2), (k0_dev242 v2) < nD := fun v2 k0_hw1 => k0_hw1.2.2.2.2.2.2.2.2.2.2.2.2.2.2.2.2.2.2.2.2.2.2.2.2.2.2.2

abbrev stage0_0 : Fin 1 → Memref sig .tc .smem S3 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .bf16⟩
  | .hbm, ⟨4, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Body.lean ====
/- The kernel's body as a loop. The program text unrolls the two rings into 240 transfers; here the
   transfers are numbered `n < 240` in the order the text starts them (first the reduce-scatter, then the
   all-gather; within a phase by hop, then by quarter, then by direction), and one step of each kind is
   written once, at a symbolic number. -/
module

public import proofs.«01_k».proof.Proof.Gen.KernelIdeal.Skeleton
public import proofs.«01_k».proof.Proof.Gen.KernelIdeal.Points

@[expose] public section

noncomputable section

namespace Cert.KernelIdeal.Ring

open Idealize.ShloMosaic Idealize.SL.Sem Cert.KernelIdeal
open Facts₀ Facts

variable {F : FTy → Type} [FloatOps F]

/-- The direction of transfer `n`: `false` to the right-hand neighbour, `true` to the left-hand one. -/
def dir (n : ℕ) : Bool := Nat.beq (n % 2) 1

/-- The first column of the quarter transfer `n` moves, within its half. -/
def bcol (n : ℕ) : ℕ := 256 * (n % 8 / 2)

/-- The first column of the quarter transfer `n` moves, within the whole matrix. -/
def mcol (n : ℕ) : ℕ := 1024 * (n % 2) + 256 * (n % 8 / 2)

theorem inbSlab (n : ℕ) :
    ∀ a, (![n % 120 / 8, 0, 256 * (n % 8 / 2)] : Fin 3 → ℕ) a + S1x128x256.size a ≤ S15x128x1024.size a := by
  have h1 : n % 120 / 8 < 15 := by omega
  have h2 : n % 8 / 2 < 4 := by omega
  intro a
  fin_cases a
  · show n % 120 / 8 + 1 ≤ 15; omega
  · show 0 + 128 ≤ 128; omega
  · show 256 * (n % 8 / 2) + 256 ≤ 1024; omega

theorem inbOwn (n : ℕ) :
    ∀ a, (![0, 256 * (n % 8 / 2)] : Fin 2 → ℕ) a + S128x256.size a ≤ S128x1024.size a := by
  have h2 : n % 8 / 2 < 4 := by omega
  intro a
  fin_cases a
  · show 0 + 128 ≤ 128; omega
  · show 256 * (n % 8 / 2) + 256 ≤ 1024; omega

theorem inbSem (n : ℕ) :
    ∀ a, (![n % 120 / 8, n % 8 / 2] : Fin 2 → ℕ) a + S1x1.size a ≤ S15x4.size a := by
  have h1 : n % 120 / 8 < 15 := by omega
  have h2 : n % 8 / 2 < 4 := by omega
  intro a
  fin_cases a
  · show n % 120 / 8 + 1 ≤ 15; omega
  · show n % 8 / 2 + 1 ≤ 4; omega

/-- The slab transfer `n` has in a buffer of fifteen slots. -/
def rSlab (n : ℕ) : Rect S15x128x1024 :=
  Rect.unit (s := S15x128x1024) ![n % 120 / 8, 0, 256 * (n % 8 / 2)] S1x128x256.size (inbSlab n)

/-- The quarter transfer `n` has in the buffer of a device's own reduced chunk. -/
def rOwn (n : ℕ) : Rect S128x1024 :=
  Rect.unit (s := S128x1024) ![0, 256 * (n % 8 / 2)] S128x256.size (inbOwn n)

theorem packSlab (n : ℕ) : (rSlab n).PackedRows (EltTy.packing .bf16) :=
  .inr ⟨by decide, rfl, .inl ⟨⟨0, rfl⟩, ⟨64, rfl⟩⟩⟩

theorem packOwn (n : ℕ) : (rOwn n).PackedRows (EltTy.packing .bf16) :=
  .inr ⟨by decide, rfl, .inl ⟨⟨0, rfl⟩, ⟨64, rfl⟩⟩⟩

/-- The row word of a chunk: the chunk number is the word's remainder by sixteen after adding sixty-four. -/
def rowOf (w : BitVec 32) : ℕ :=
  (Scalar.indexCast (Scalar.muli (Scalar.remsi (Scalar.addi w 64#32) 16#32) 128#32)).toNat

/-- The chunk word `s` hops behind the position `v` along direction `d`. -/
def hop (d : Bool) (v : BitVec 32) (s : ℕ) : BitVec 32 :=
  match d with
  | false => Scalar.subi v (BitVec.ofNat 32 s)
  | true => Scalar.addi v (BitVec.ofNat 32 s)

/-- The tile of rows `rowOf w` that transfer `n`'s quarter has in the whole matrix. -/
def rTile (n : ℕ) (w : BitVec 32)
    (h : ∀ a, (![rowOf w, 1024 * (n % 2) + 256 * (n % 8 / 2)] : Fin 2 → ℕ) a + S128x256.size a ≤ S2048x2048.size a) :
    Rect S2048x2048 :=
  Rect.unit (s := S2048x2048) ![rowOf w, 1024 * (n % 2) + 256 * (n % 8 / 2)] S128x256.size h

/-- The buffers and semaphores the body is called on. -/
structure Bufs where
  mt : Memref sig .tc .smem S3 .i32
  hmt : mt.IsWhole
  x : Memref sig .tc .vmem S2048x128 .bf16
  hx : x.IsWhole
  w : Memref sig .tc .vmem S128x2048 .bf16
  hw : w.IsWhole
  out : Memref sig .tc .vmem S2048x2048 .f32
  hout : out.IsWhole
  part : Memref sig .tc .vmem S2048x2048 .bf16
  hpart : part.IsWhole
  rv : Bool → Memref sig .tc .vmem S15x128x1024 .bf16
  hrv : ∀ d, (rv d).IsWhole
  sd : Bool → Memref sig .tc .vmem S15x128x1024 .bf16
  hsd : ∀ d, (sd d).IsWhole
  ag : Bool → Memref sig .tc .vmem S15x128x1024 .bf16
  hag : ∀ d, (ag d).IsWhole
  own : Bool → Memref sig .tc .vmem S128x1024 .bf16
  hown : ∀ d, (own d).IsWhole
  /-- The semaphore arrays, by phase (`true` the all-gather) and direction: the sender's, the receiver's. -/
  ss : Bool → Bool → DmaSems sig S15x4
  sr : Bool → Bool → DmaSems sig S15x4

/-- The phase of transfer `n`: `true` in the all-gather. -/
def phase (n : ℕ) : Bool := Nat.ble 120 n

/-- Transfer `n`'s one semaphore in an array. -/
def semAt (a : DmaSems sig S15x4) (n : ℕ) : DmaSems sig S_ :=
  (a.slice (Rect.unit (s := S15x4) ![n % 120 / 8, n % 8 / 2] S1x1.size (inbSem n))).squeeze S_ squeezes_S1x1_S_

/-- Transfer `n`'s slab of a buffer of fifteen slots, as the transfer reads or writes it. -/
def slab (m : Memref sig .tc .vmem S15x128x1024 .bf16) (n : ℕ) : Memref sig .tc .vmem S128x256 .bf16 :=
  (m.slice (rSlab n) (fun _ => rfl)).squeeze S128x256 squeezes_S1x128x256_S128x256

/-- Transfer `n`'s quarter of a device's own reduced chunk. -/
def ownAt (m : Memref sig .tc .vmem S128x1024 .bf16) (n : ℕ) : Memref sig .tc .vmem S128x256 .bf16 :=
  m.slice (rOwn n) (fun _ => rfl)

theorem exactSlab {m : Memref sig .tc .vmem S15x128x1024 .bf16} (h : m.IsWhole) (n : ℕ) :
    (slab m n).view.WordExact :=
  (h.wordExact_slice rfl _ (packSlab n).wholeWords).reshape _ _

theorem exactOwn {m : Memref sig .tc .vmem S128x1024 .bf16} (h : m.IsWhole) (n : ℕ) :
    (ownAt m n).view.WordExact :=
  h.wordExact_slice rfl _ (packOwn n).wholeWords

/-- The words the body reads from its table, with what it assumes of them. -/
structure Words where
  v0 : BitVec 32
  h3 : k0_chk3 v0
  v1 : BitVec 32
  h2 : k0_chk2 v1
  v2 : BitVec 32
  h1 : k0_chk1 v2

namespace Words
variable (W : Words)

/-- The neighbour in direction `d`. -/
def dest (d : Bool) : Dev nD :=
  match d with
  | false => ⟨k0_dev2 W.v1, k0_dev2_lt W.v1 W.h2⟩
  | true => ⟨k0_dev1 W.v2, k0_dev1_lt W.v2 W.h1⟩

theorem inb0 (n : ℕ) :
    ∀ a, (![rowOf W.v0, 1024 * (n % 2) + 256 * (n % 8 / 2)] : Fin 2 → ℕ) a + S128x256.size a ≤ S2048x2048.size a := by
  intro a
  have h := k0_off1_inb W.v0 W.h3 0
  fin_cases a
  · exact h
  · show 1024 * (n % 2) + 256 * (n % 8 / 2) + 256 ≤ 2048; omega

theorem inbHop (n s : ℕ) (hs : s < 16) :
    ∀ a, (![rowOf (hop (dir n) W.v0 s), 1024 * (n % 2) + 256 * (n % 8 / 2)] : Fin 2 → ℕ) a + S128x256.size a ≤ S2048x2048.size a := by
  intro a
  have h := k0_off9_inb W.v0 W.h3 ⟨s, hs⟩ 0
  have h' := k0_off10_inb W.v0 W.h3 ⟨s, hs⟩ 0
  fin_cases a
  · show rowOf (hop (dir n) W.v0 s) + 128 ≤ 2048
    cases dir n
    · exact h
    · exact h'
  · show 1024 * (n % 2) + 256 * (n % 8 / 2) + 256 ≤ 2048; omega

end Words

/-- A slab of a chunk of partial products, as stored. -/
def payFst (v : Vec F S128x256 .bf16) : FVec F S1x128x256 .bf16 :=
  shapeCast S1x128x256 v shapeCasts_S128x256_S1x128x256

/-- The received slab with this device's chunk added, as stored. -/
def paySum (v : Vec F S1x128x256 .bf16) (p : Vec F S128x256 .bf16) : FVec F S1x128x256 .bf16 :=
  shapeCast S1x128x256 (addf (shapeCast S128x256 v shapeCasts_S1x128x256_S128x256) p) shapeCasts_S128x256_S1x128x256

/-- The last sum of the reduce-scatter, in the wide type. -/
def payAcc (o : Vec F S128x256 .f32) (v : Vec F S1x128x256 .bf16) : FVec F S128x256 .f32 :=
  addf (shapeCast S128x256 o shapeCasts_S128x256_S128x256)
    (extf .f32 (shapeCast S128x256 v shapeCasts_S1x128x256_S128x256) bitsLt_bf16_f32)

/-- The same rounded to the narrow type. -/
def payOwn (o : Vec F S128x256 .f32) (v : Vec F S1x128x256 .bf16) : FVec F S128x256 .bf16 :=
  shapeCast S128x256 (truncf .bf16 (payAcc o v) bitsLt_bf16_f32) shapeCasts_S128x256_S128x256

/-- A gathered slab in the wide type. -/
def payExt (v : Vec F S1x128x256 .bf16) : FVec F S128x256 .f32 :=
  extf .f32 (shapeCast S128x256 v shapeCasts_S1x128x256_S128x256) bitsLt_bf16_f32

/-- The programs of the body. -/
abbrev Pr (F : FTy → Type) := Prog (TpuEff nD τ sig (Elt F) Λ₀ .tc) PUnit

variable (B : Bufs) (W : Words)

/-- The start of the body: the table, the handshake with both neighbours, the device's own product in the
    result and rounded in the buffer of partial products. -/
def start (k : Words → Pr F) : Pr F :=
  smemLoad B.mt (Rect.unit (s := S3) ![0] S1.size inb_S3_S1_0) numel1_S1 rfl >>= fun v0 =>
  .op (TpuEff.assume (k0_chk3 v0) (k0_chk3.dec v0)) fun h3 =>
  smemLoad B.mt (Rect.unit (s := S3) ![1] S1.size inb_S3_S1_1) numel1_S1 rfl >>= fun v1 =>
  .op (TpuEff.assume (k0_chk2 v1) (k0_chk2.dec v1)) fun h2 =>
  smemLoad B.mt (Rect.unit (s := S3) ![2] S1.size inb_S3_S1_2) numel1_S1 rfl >>= fun v2 =>
  .op (TpuEff.assume (k0_chk1 v2) (k0_chk1.dec v2)) fun h1 =>
  semSignalWord (⟨k0_dev1 v2, k0_dev1_lt v2 h1.down⟩ : Dev nD) ((SemArray.scalar (sig.barrier 0 rfl) : Sems sig S_).sem) 1#32 >>= fun _ =>
  semSignalWord (⟨k0_dev2 v1, k0_dev2_lt v1 h2.down⟩ : Dev nD) ((SemArray.scalar (sig.barrier 0 rfl) : Sems sig S_).sem) 1#32 >>= fun _ =>
  semWaitWord ((SemArray.scalar (sig.barrier 0 rfl) : Sems sig S_).sem) 2#32 >>= fun _ =>
  .op (.load B.x (Rect.unit (s := S2048x128) ![0, 0] S2048x128.size inb_S2048x128_S2048x128_0_0).toLoadRect (View.loadsAt_vmem h_S2048x128)) fun a =>
  .op (.load B.w (Rect.unit (s := S128x2048) ![0, 0] S128x2048.size inb_S128x2048_S128x2048_0_0).toLoadRect (View.loadsAt_vmem h_S128x2048)) fun b =>
  .op (.load B.out (Rect.unit (s := S2048x2048) ![0, 0] S2048x2048.size inb_S2048x2048_S2048x2048_0_0).toLoadRect (View.loadsAt_vmem h_S2048x2048)) fun _ =>
  .op (.store B.out (Rect.unit (s := S2048x2048) ![0, 0] S2048x2048.size inb_S2048x2048_S2048x2048_0_0) (Gen.k0_pay1 a b) Finset.univ (View.stores_vmem_bits_univ h_S2048x2048 rfl) (.inl rfl)) fun _ =>
  .op (.load B.out (Rect.unit (s := S2048x2048) ![0, 0] S2048x2048.size inb_S2048x2048_S2048x2048_0_0).toLoadRect (View.loadsAt_vmem h_S2048x2048)) fun o =>
  .op (.load B.part (Rect.unit (s := S2048x2048) ![0, 0] S2048x2048.size inb_S2048x2048_S2048x2048_0_0).toLoadRect (View.loadsAt_vmem h_S2048x2048)) fun _ =>
  .op (.store B.part (Rect.unit (s := S2048x2048) ![0, 0] S2048x2048.size inb_S2048x2048_S2048x2048_0_0) (Gen.k0_pay2 o) Finset.univ (View.stores_vmem h_S2048x2048 (B.hpart.storeExact_slice rfl _ packedbf16_S2048x2048_S2048x2048_0_0) (fun _ => rfl)) (.inl rfl)) fun _ =>
  k ⟨v0, h3.down, v1, h2.down, v2, h1.down⟩

/-- Wait for transfer `n` of the reduce-scatter to arrive. -/
def waitRS (n : ℕ) (k : Pr F) : Pr F :=
  .op (.waitDma2 (semAt (B.sr false (dir n)) n).sem (slab (B.sd (dir n)) n) (slab (B.rv (dir n)) n)
    (exactSlab (B.hsd _) n) (exactSlab (B.hrv _) n)) fun _ => k

/-- Start transfer `n` of the reduce-scatter. -/
def sendRS (n : ℕ) (k : Pr F) : Pr F :=
  .op (.enqueueDma (slab (B.sd (dir n)) n)
    (.remote (Dev.tc (W.dest (dir n))) (slab (B.rv (dir n)) n) (.dma (semAt (B.ss false (dir n)) n).sem))
    (.dma (semAt (B.sr false (dir n)) n).sem)
    (exactSlab (B.hsd _) n) (exactSlab (B.hrv _) n) ⟨⟨rfl, Or.inl rfl⟩, trivial⟩) fun _ => k

/-- Load transfer `n`'s slab of a buffer. -/
def loadSlab (m : Memref sig .tc .vmem S15x128x1024 .bf16) (n : ℕ) (k : Vec F S1x128x256 .bf16 → Pr F) : Pr F :=
  .op (.load m (rSlab n).toLoadRect (View.loadsAt_vmem h_S1x128x256)) k

/-- Store transfer `n`'s slab of a buffer. -/
def storeSlab {m : Memref sig .tc .vmem S15x128x1024 .bf16} (hm : m.IsWhole) (n : ℕ) (v : FVec F S1x128x256 .bf16)
    (k : Pr F) : Pr F :=
  .op (.store m (rSlab n) v Finset.univ
    (View.stores_vmem h_S1x128x256 (hm.storeExact_slice rfl _ (packSlab n)) (fun _ => rfl)) (.inl rfl)) fun _ => k

/-- Load a tile of the partial products. -/
def loadPart (n : ℕ) (w : BitVec 32)
    (h : ∀ a, (![rowOf w, 1024 * (n % 2) + 256 * (n % 8 / 2)] : Fin 2 → ℕ) a + S128x256.size a ≤ S2048x2048.size a)
    (k : Vec F S128x256 .bf16 → Pr F) : Pr F :=
  .op (.load B.part (rTile n w h).toLoadRect (View.loadsAt_vmem h_S128x256)) k

/-- Load a tile of the result. -/
def loadOut (n : ℕ) (w : BitVec 32)
    (h : ∀ a, (![rowOf w, 1024 * (n % 2) + 256 * (n % 8 / 2)] : Fin 2 → ℕ) a + S128x256.size a ≤ S2048x2048.size a)
    (k : Vec F S128x256 .f32 → Pr F) : Pr F :=
  .op (.load B.out (rTile n w h).toLoadRect (View.loadsAt_vmem h_S128x256)) k

/-- Store a tile of the result. -/
def storeOut (n : ℕ) (w : BitVec 32)
    (h : ∀ a, (![rowOf w, 1024 * (n % 2) + 256 * (n % 8 / 2)] : Fin 2 → ℕ) a + S128x256.size a ≤ S2048x2048.size a)
    (v : FVec F S128x256 .f32) (k : Pr F) : Pr F :=
  .op (.store B.out (rTile n w h) v Finset.univ (View.stores_vmem_bits_univ h_S128x256 rfl) (.inl rfl)) fun _ => k

/-- The first hop of the reduce-scatter. -/
def stepA (n : ℕ) (k : Pr F) : Pr F :=
  loadPart B n W.v0 (W.inb0 n) fun p => loadSlab (B.sd (dir n)) n fun _ =>
    storeSlab (B.hsd (dir n)) n (payFst p) (sendRS B W n k)

/-- A later hop of the reduce-scatter: transfer `n`, taking up transfer `n - 8`. -/
def stepB (n : ℕ) (k : Pr F) : Pr F :=
  waitRS B (n - 8) <| loadSlab (B.rv (dir n)) (n - 8) fun v =>
    loadPart B n (hop (dir n) W.v0 (n % 120 / 8)) (W.inbHop n _ (by omega)) fun p =>
      loadSlab (B.sd (dir n)) n fun _ => storeSlab (B.hsd (dir n)) n (paySum v p) (sendRS B W n k)

/-- The first hop of the all-gather: the last sum, stored in the result and sent. -/
def stepC (n : ℕ) (k : Pr F) : Pr F :=
  waitRS B (n - 8) <| loadOut B n (hop (dir n) W.v0 15) (W.inbHop n _ (by omega)) fun o =>
    loadSlab (B.rv (dir n)) (n - 8) fun v =>
      loadOut B n (hop (dir n) W.v0 15) (W.inbHop n _ (by omega)) fun _ =>
        storeOut B n (hop (dir n) W.v0 15) (W.inbHop n _ (by omega)) (payAcc o v) <|
          .op (.load (B.own (dir n)) (rOwn n).toLoadRect (View.loadsAt_vmem h_S128x256)) fun _ =>
          .op (.store (B.own (dir n)) (rOwn n) (payOwn o v) Finset.univ
            (View.stores_vmem h_S128x256 ((B.hown (dir n)).storeExact_slice rfl _ (packOwn n)) (fun _ => rfl)) (.inl rfl)) fun _ =>
          .op (.enqueueDma (ownAt (B.own (dir n)) n)
            (.remote (Dev.tc (W.dest (dir n))) (slab (B.ag (dir n)) n) (.dma (semAt (B.ss true (dir n)) n).sem))
            (.dma (semAt (B.sr true (dir n)) n).sem)
            (exactOwn (B.hown _) n) (exactSlab (B.hag _) n) ⟨⟨rfl, Or.inl rfl⟩, trivial⟩) fun _ => k

/-- Wait for transfer `n` of the all-gather to arrive, at its first hop and at a later one. -/
def waitAG0 (n : ℕ) (k : Pr F) : Pr F :=
  .op (.waitDma2 (semAt (B.sr true (dir n)) n).sem (ownAt (B.own (dir n)) n) (slab (B.ag (dir n)) n)
    (exactOwn (B.hown _) n) (exactSlab (B.hag _) n)) fun _ => k

def waitAG (n : ℕ) (k : Pr F) : Pr F :=
  .op (.waitDma2 (semAt (B.sr true (dir n)) n).sem (slab (B.ag (dir n)) (n - 8)) (slab (B.ag (dir n)) n)
    (exactSlab (B.hag _) (n - 8)) (exactSlab (B.hag _) n)) fun _ => k

/-- Start transfer `n` of the all-gather, at a later hop. -/
def sendAG (n : ℕ) (k : Pr F) : Pr F :=
  .op (.enqueueDma (slab (B.ag (dir n)) (n - 8))
    (.remote (Dev.tc (W.dest (dir n))) (slab (B.ag (dir n)) n) (.dma (semAt (B.ss true (dir n)) n).sem))
    (.dma (semAt (B.sr true (dir n)) n).sem)
    (exactSlab (B.hag _) (n - 8)) (exactSlab (B.hag _) n) ⟨⟨rfl, Or.inl rfl⟩, trivial⟩) fun _ => k

/-- Widen what transfer `n` brought and store it in the result. -/
def copyOut (n : ℕ) (k : Pr F) : Pr F :=
  loadSlab (B.ag (dir n)) n fun v =>
    loadOut B n (hop (dir n) W.v0 (n % 120 / 8)) (W.inbHop n _ (by omega)) fun _ =>
      storeOut B n (hop (dir n) W.v0 (n % 120 / 8)) (W.inbHop n _ (by omega)) (payExt v) k

/-- The second hop of the all-gather, and a later one: transfer `n`, taking up transfer `n - 8`. -/
def stepD0 (n : ℕ) (k : Pr F) : Pr F :=
  waitAG0 B (n - 8) <| sendAG B W n <| copyOut B W (n - 8) k

def stepD (n : ℕ) (k : Pr F) : Pr F :=
  waitAG B (n - 8) <| sendAG B W n <| copyOut B W (n - 8) k

/-- The arrival of the last hop. -/
def stepE (n : ℕ) (k : Pr F) : Pr F :=
  waitAG B (n - 8) <| copyOut B W (n - 8) k

/-- Wait until transfer `n` has read its source. -/
def doneRS (n : ℕ) (k : Pr F) : Pr F :=
  .op (.waitDma2 (semAt (B.ss false (dir n)) n).sem (slab (B.rv (dir n)) n) (slab (B.sd (dir n)) n)
    (exactSlab (B.hrv _) n) (exactSlab (B.hsd _) n)) fun _ => k

def doneAG0 (n : ℕ) (k : Pr F) : Pr F :=
  .op (.waitDma2 (semAt (B.ss true (dir n)) n).sem (slab (B.ag (dir n)) n) (ownAt (B.own (dir n)) n)
    (exactSlab (B.hag _) n) (exactOwn (B.hown _) n)) fun _ => k

def doneAG (n : ℕ) (k : Pr F) : Pr F :=
  .op (.waitDma2 (semAt (B.ss true (dir n)) n).sem (slab (B.ag (dir n)) n) (slab (B.ag (dir n)) (n - 8))
    (exactSlab (B.hag _) n) (exactSlab (B.hag _) (n - 8))) fun _ => k

/-- `m` steps in order, from number `n`. -/
def times (f : ℕ → Pr F → Pr F) : ℕ → ℕ → Pr F → Pr F
  | _, 0, k => k
  | n, m + 1, k => f n (times f (n + 1) m k)

/-- The bundle of the body's operands. -/
def bufs (arg0 : Memref sig .tc .smem S3 .i32) (harg0 : arg0.IsWhole) (arg1 : Memref sig .tc .vmem S2048x128 .bf16) (harg1 : arg1.IsWhole) (arg2 : Memref sig .tc .vmem S128x2048 .bf16) (harg2 : arg2.IsWhole) (arg3 : Memref sig .tc .vmem S2048x2048 .f32) (harg3 : arg3.IsWhole) (arg4 : Memref sig .tc .vmem S2048x2048 .bf16) (harg4 : arg4.IsWhole) (arg5 : Memref sig .tc .vmem S15x128x1024 .bf16) (harg5 : arg5.IsWhole) (arg6 : Memref sig .tc .vmem S15x128x1024 .bf16) (harg6 : arg6.IsWhole) (arg7 : Memref sig .tc .vmem S15x128x1024 .bf16) (harg7 : arg7.IsWhole) (arg8 : Memref sig .tc .vmem S15x128x1024 .bf16) (harg8 : arg8.IsWhole) (arg9 : Memref sig .tc .vmem S15x128x1024 .bf16) (harg9 : arg9.IsWhole) (arg10 : Memref sig .tc .vmem S15x128x1024 .bf16) (harg10 : arg10.IsWhole) (arg11 : Memref sig .tc .vmem S128x1024 .bf16) (harg11 : arg11.IsWhole) (arg12 : Memref sig .tc .vmem S128x1024 .bf16) (harg12 : arg12.IsWhole) (arg13 : DmaSems sig S15x4) (arg14 : DmaSems sig S15x4) (arg15 : DmaSems sig S15x4) (arg16 : DmaSems sig S15x4) (arg17 : DmaSems sig S15x4) (arg18 : DmaSems sig S15x4) (arg19 : DmaSems sig S15x4) (arg20 : DmaSems sig S15x4) : Bufs where
  mt := arg0
  hmt := harg0
  x := arg1
  hx := harg1
  w := arg2
  hw := harg2
  out := arg3
  hout := harg3
  part := arg4
  hpart := harg4
  rv := fun d => match d with | false => arg5 | true => arg6
  hrv := fun d => match d with | false => harg5 | true => harg6
  sd := fun d => match d with | false => arg7 | true => arg8
  hsd := fun d => match d with | false => harg7 | true => harg8
  ag := fun d => match d with | false => arg9 | true => arg10
  hag := fun d => match d with | false => harg9 | true => harg10
  own := fun d => match d with | false => arg11 | true => arg12
  hown := fun d => match d with | false => harg11 | true => harg12
  ss := fun p d => match p, d with
    | false, false => arg13 | false, true => arg15 | true, false => arg17 | true, true => arg19
  sr := fun p d => match p, d with
    | false, false => arg14 | false, true => arg16 | true, false => arg18 | true, true => arg20

end Cert.KernelIdeal.Ring
-- ==== Proof.Text.lean ====
module

public import proofs.«01_k».proof.Proof.Body
public import proofs.«01_k».proof.Proof.Gen.KernelIdeal.Launch
/-! # The printed body is the protocol's text

The kernel's body, as it is printed, is the start, then the macro-steps in order, then the waits for the sends. -/
@[expose] public section
noncomputable section
namespace Cert.KernelIdeal.Ring
open Idealize.ShloMosaic Idealize.SL.Sem Cert.KernelIdeal
open Facts₀ Facts
variable {F : FTy → Type} [FloatOps F]

/-- The whole body on the buffers `B`. -/
def whole (B : Bufs) : Pr F :=
  start B fun W =>
    times (stepA B W) 0 8 <| times (stepB B W) 8 112 <| times (stepC B W) 120 8 <|
    times (stepD0 B W) 128 8 <| times (stepD B W) 136 104 <| times (stepE B W) 240 8 <|
    times (doneRS B) 0 120 <| times (doneAG0 B) 120 8 <| times (doneAG B) 128 112 <| (.ret ⟨⟩ : Pr F)

set_option maxRecDepth 100000 in
set_option maxHeartbeats 4000000 in
/-- The printed body is `whole` of its arguments. -/
theorem body_eq (arg0 : Memref sig .tc .smem S3 .i32) (harg0 : arg0.IsWhole) (arg1 : Memref sig .tc .vmem S2048x128 .bf16) (harg1 : arg1.IsWhole) (arg2 : Memref sig .tc .vmem S128x2048 .bf16) (harg2 : arg2.IsWhole) (arg3 : Memref sig .tc .vmem S2048x2048 .f32) (harg3 : arg3.IsWhole) (arg4 : Memref sig .tc .vmem S2048x2048 .bf16) (harg4 : arg4.IsWhole) (arg5 : Memref sig .tc .vmem S15x128x1024 .bf16) (harg5 : arg5.IsWhole) (arg6 : Memref sig .tc .vmem S15x128x1024 .bf16) (harg6 : arg6.IsWhole) (arg7 : Memref sig .tc .vmem S15x128x1024 .bf16) (harg7 : arg7.IsWhole) (arg8 : Memref sig .tc .vmem S15x128x1024 .bf16) (harg8 : arg8.IsWhole) (arg9 : Memref sig .tc .vmem S15x128x1024 .bf16) (harg9 : arg9.IsWhole) (arg10 : Memref sig .tc .vmem S15x128x1024 .bf16) (harg10 : arg10.IsWhole) (arg11 : Memref sig .tc .vmem S128x1024 .bf16) (harg11 : arg11.IsWhole) (arg12 : Memref sig .tc .vmem S128x1024 .bf16) (harg12 : arg12.IsWhole) (arg13 : DmaSems sig S15x4) (arg14 : DmaSems sig S15x4) (arg15 : DmaSems sig S15x4) (arg16 : DmaSems sig S15x4) (arg17 : DmaSems sig S15x4) (arg18 : DmaSems sig S15x4) (arg19 : DmaSems sig S15x4) (arg20 : DmaSems sig S15x4) :
    cc0_body (F := F) arg0 harg0 arg1 harg1 arg2 harg2 arg3 harg3 arg4 harg4 arg5 harg5 arg6 harg6 arg7 harg7 arg8 harg8 arg9 harg9 arg10 harg10 arg11 harg11 arg12 harg12 arg13 arg14 arg15 arg16 arg17 arg18 arg19 arg20
      = whole (bufs arg0 harg0 arg1 harg1 arg2 harg2 arg3 harg3 arg4 harg4 arg5 harg5 arg6 harg6 arg7 harg7 arg8 harg8 arg9 harg9 arg10 harg10 arg11 harg11 arg12 harg12 arg13 arg14 arg15 arg16 arg17 arg18 arg19 arg20) := rfl

/-- The buffers the pipeline hands the body at the region's one point, and its scratch. -/
def BB : Bufs :=
  bufs (win0_0.stage (cfg0.slots Gen.t0_0 0)) (Gen.hstage0_0 0) (win0_1.stage (cfg0.slots Gen.t0_0 1)) (Gen.hstage0_1 0)
    (win0_2.stage (cfg0.slots Gen.t0_0 2)) (Gen.hstage0_2 0) (win0_3.stage (cfg0.slots Gen.t0_0 3)) (Gen.hstage0_3 0)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) (Memref.whole cc0_scratch5) (Memref.isWhole_whole _)
    (Memref.whole cc0_scratch6) (Memref.isWhole_whole _) (Memref.whole cc0_scratch7) (Memref.isWhole_whole _)
    (Memref.whole cc0_scratch8) (Memref.isWhole_whole _) cc0_scratch9 cc0_scratch10 cc0_scratch11 cc0_scratch12
    cc0_scratch13 cc0_scratch14 cc0_scratch15 cc0_scratch16

theorem bodyAt_eq : Gen.bodyAt0 (F := F) Gen.t0_0 = whole BB := body_eq ..

end Cert.KernelIdeal.Ring
-- ==== Proof.Geom.lean ====
/- The ring the table describes: where a device stands, who its neighbours are, which chunk of rows it works
   on at which hop, and that the words the body computes from the table say the same. -/
module

public import proofs.«01_k».proof.Proof.Body

@[expose] public section

noncomputable section

namespace Cert.KernelIdeal.Ring

open Idealize.ShloMosaic Idealize.SL.Sem Cert.KernelIdeal
open Facts₀ Facts

/-- The place of a device on the ring. -/
def pos (c : Dev nD) : ℕ := (![0, 15, 8, 7, 1, 14, 9, 6, 2, 13, 10, 5, 3, 12, 11, 4] : Fin 16 → ℕ) c

/-- The device at a place of the ring. -/
def perm (p : Fin 16) : Dev nD := (![0, 4, 8, 12, 15, 11, 7, 3, 2, 6, 10, 14, 13, 9, 5, 1] : Fin 16 → Fin 16) p

/-- The neighbour in a direction: `false` one place on, `true` one place back. -/
def nbr (d : Bool) (c : Dev nD) : Dev nD := perm ⟨(pos c + if d then 15 else 1) % 16, Nat.mod_lt _ (by decide)⟩

/-- The chunk of rows device `c` works on at hop `s` of direction `d`. -/
def chunk (d : Bool) (c : Dev nD) (s : ℕ) : ℕ := if d then (pos c + s) % 16 else (pos c + 240 - s) % 16

theorem pos_lt (c : Dev nD) : pos c < 16 := by revert c; decide
theorem nbr_nbr (d : Bool) (c : Dev nD) : nbr d (nbr (!d) c) = c := by revert d c; decide
theorem nbr_nbr' (d : Bool) (c : Dev nD) : nbr (!d) (nbr d c) = c := by revert d c; decide
theorem nbr_ne (c : Dev nD) : nbr true c ≠ nbr false c := by revert c; decide
theorem pos_nbr (d : Bool) (c : Dev nD) : pos (nbr d c) = (pos c + if d then 15 else 1) % 16 := by
  revert d c; decide
theorem perm_pos (c : Dev nD) : perm ⟨pos c, pos_lt c⟩ = c := by revert c; decide
theorem pos_perm (p : Fin 16) : pos (perm p) = p := by revert p; decide
theorem nbr_inj {d : Bool} {c c' : Dev nD} (h : nbr d c = nbr d c') : c = c' := by
  have := congrArg (nbr (!d)) h; rwa [nbr_nbr', nbr_nbr'] at this

theorem chunk_lt (d : Bool) (c : Dev nD) (s : ℕ) : chunk d c s < 16 := by
  unfold chunk; split <;> exact Nat.mod_lt _ (by decide)

/-- One hop on, the device behind has the same chunk. -/
theorem chunk_src (d : Bool) (c : Dev nD) (s : ℕ) (hs : s < 16) : chunk d (nbr (!d) c) s = chunk d c (s + 1) := by
  have := pos_lt c
  unfold chunk
  rw [pos_nbr]
  cases d <;> simp <;> omega

/-- The words of the table at device `c`. -/
def posW (c : Dev nD) : BitVec 32 := BitVec.ofNat 32 (pos c)
def rightW (c : Dev nD) : BitVec 32 := BitVec.ofNat 32 (nbr false c).val
def leftW (c : Dev nD) : BitVec 32 := BitVec.ofNat 32 (nbr true c).val

theorem chk3 (c : Dev nD) : k0_chk3 (posW c) := by
  revert c; decide +kernel
theorem chk2 (c : Dev nD) : k0_chk2 (rightW c) := by
  revert c; decide +kernel
theorem chk1 (c : Dev nD) : k0_chk1 (leftW c) := by
  revert c; decide +kernel

/-- The words with what the body assumes of them. -/
def WW (c : Dev nD) : Words := ⟨posW c, chk3 c, rightW c, chk2 c, leftW c, chk1 c⟩

theorem WW_v0 (c : Dev nD) : (WW c).v0 = posW c := rfl

theorem dest_WW (d : Bool) (c : Dev nD) : (WW c).dest d = nbr d c := by
  revert d c; decide +kernel

theorem rowOf_hop (d : Bool) (c : Dev nD) (s : ℕ) (hs : s < 16) : rowOf (hop d (posW c) s) = 128 * chunk d c s := by
  have : ∀ (d : Bool) (c : Dev nD) (s : Fin 16), rowOf (hop d (posW c) s) = 128 * chunk d c s := by decide +kernel
  exact this d c ⟨s, hs⟩

theorem rowOf_pos (d : Bool) (c : Dev nD) : rowOf (posW c) = 128 * chunk d c 0 := by
  revert d c; decide +kernel

end Cert.KernelIdeal.Ring
-- ==== Proof.Mem.lean ====
/- Loads and stores on memory held by what is read through it: through the whole of a memref, and through one
   transfer's slab of a buffer of fifteen slots. -/
module

public import proofs.«01_k».proof.Proof.Text
public import proofs.«01_k».proof.Proof.Geom
public import Idealize.ShloMosaic.Lib.Pipeline.RegionTalk
public import Idealize.ShloMosaic.Lib.MemrefSat
public import Idealize.ShloMosaic.Lib.Pipeline.Value

@[expose] public section

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal
open Facts₀ Facts

variable {F : FTy → Type} [FloatOps F]

/-- The ghost state: the pipeline's and the ring's, whose duties are marked with a direction. -/
abbrev UU : Type := UR sig nD τ × URounds (GSem nD τ sig) Bool

local notation "𝕄" => MT nD τ sig Unit (Elt F) ℕ UU ℕ

abbrev EP : Emb (UR sig nD τ) (MT nD τ sig Unit (Elt F) ℕ UU ℕ) := embL
abbrev ER : Emb (URounds (GSem nD τ sig) Bool) (MT nD τ sig Unit (Elt F) ℕ UU ℕ) := embR
abbrev 𝒱₀ : Variants := Variants.none

/-- A body program on device `c` ends in `Q`. -/
abbrev runs (c : Dev nD) (p : Pr F) (Q : PUnit → sProp 𝕄) : sProp 𝕄 :=
  wp frame (wpE (defs₀ (F := F)) 𝒱₀ (c : Thread nD τ) none) Set.univ p Q

section Rules

variable {sp : CoreSpace} {s : Shape} {e : EltTy} {c : Dev nD}

/-- A load of a rectangle reads the contents there. -/
theorem load_owns {Q : PUnit → sProp 𝕄} {m : Memref sig .tc sp s e} {r : Rect s} {hl : m.view.LoadsAt r.toLoadRect}
    {k : (r.shape.Idx → Elt F e) → Pr F} {q : PosShare TreeShare} {X : s.Idx → Elt F e} :
    (owns (c : Thread nD τ) m q X : sProp 𝕄)
      ⊢ iprop((owns (c : Thread nD τ) m q X -∗ runs c (k fun j => X (r.emb j)) Q) -∗ runs c (.op (.load m r.toLoadRect hl) k) Q) := by
  unfold owns
  iintro ⟨%f, %hf, H⟩ Hk
  iapply (wp_load_rect 𝒱₀ (c : Thread nD τ) none Set.univ (S := m.view.set) (View.set_slice_subset _ _)) $$ [H]
  · iexact H
  iintro H
  have hr : (m.access r).read (Elt F) f = fun j => X (r.emb j) := by subst hf; rfl
  rw [hr]
  iapply Hk
  iexists f
  isplitr; · ipureintro; exact hf
  iexact H

/-- A store of a rectangle leaves any contents that agree with the stored ones there and the old ones elsewhere. -/
theorem store_owns {Q : PUnit → sProp 𝕄} {m : Memref sig .tc sp s e} {r : Rect s} {w : r.shape.Idx → Elt F e}
    {hx : (m.access r).Stores Finset.univ} {hm} {k : PUnit → Pr F} {X : s.Idx → Elt F e} (Y : s.Idx → Elt F e)
    (hin : ∀ j, Y (r.emb j) = w j) (hout : ∀ i, i ∉ r.set → Y i = X i) :
    (owns (c : Thread nD τ) m fullShare X : sProp 𝕄)
      ⊢ iprop((owns (c : Thread nD τ) m fullShare Y -∗ runs c (k ⟨⟩) Q) -∗ runs c (.op (.store m r w Finset.univ hx hm) k) Q) := by
  unfold owns
  iintro ⟨%f, %hf, H⟩ Hk
  iapply (wp_store 𝒱₀ (c : Thread nD τ) none Set.univ (S := m.view.set) (View.set_slice_subset _ _)) $$ [H]
  · iexact H
  iintro H
  iapply Hk
  iexists _
  isplitr
  swap; · iexact H
  ipureintro
  subst hf
  funext i
  by_cases hi : i ∈ r.set
  · obtain ⟨j, -, rfl⟩ := Finset.mem_map.mp ((Rect.map_emb_univ r).symm ▸ hi)
    rw [hin]
    exact View.read_slice_write_emb (v := m.view) r f w (Finset.mem_univ j)
  · rw [hout i hi]
    exact View.read_slice_write_of_not_mem (v := m.view) r f w Finset.univ (by rw [Rect.map_emb_univ]; exact hi)

variable {m : Memref sig .tc .vmem S15x128x1024 .bf16} {n : ℕ}

theorem slab_set : (slab m n).view.set = (m.access (rSlab n)).set := by
  unfold slab
  rw [Memref.set_view_squeeze]

theorem slab_read (f : m.view.ty.Contents (Elt F)) :
    (slab m n).view.read (Elt F) f
      = shapeCast S128x256 ((m.access (rSlab n)).read (Elt F) f) shapeCasts_S1x128x256_S128x256 := rfl

/-- A load of a slab reads something that is the slab's contents once flattened. -/
theorem load_slab {Q : PUnit → sProp 𝕄} {hl} {k : Vec F S1x128x256 .bf16 → Pr F} {q : PosShare TreeShare} {X : Vec F S128x256 .bf16} :
    (owns (c : Thread nD τ) (slab m n) q X : sProp 𝕄)
      ⊢ iprop((∀ v : Vec F S1x128x256 .bf16, ⌜shapeCast S128x256 v shapeCasts_S1x128x256_S128x256 = X⌝ -∗
          owns (c : Thread nD τ) (slab m n) q X -∗ runs c (k v) Q) -∗ runs c (.op (.load m (rSlab n).toLoadRect hl) k) Q) := by
  unfold owns
  iintro ⟨%f, %hf, H⟩ Hk
  iapply (wp_load_rect 𝒱₀ (c : Thread nD τ) none Set.univ (S := (slab m n).view.set) (by rw [slab_set])) $$ [H]
  · iexact H
  iintro H
  ispecialize Hk $$ %((m.access (rSlab n)).read (Elt F) f)
  iapply Hk
  · ipureintro; exact (slab_read f).symm.trans hf
  iexists f
  isplitr; · ipureintro; exact hf
  iexact H

theorem shapeCast_cast {s t : Shape} {α : Type} (v : s.Idx → α) (h : s.ShapeCasts t) (h' : t.ShapeCasts s) :
    shapeCast s (shapeCast t v h) h' = v := shapeCast_shapeCast v h h'

/-- A store of a slab leaves what was stored, flattened. -/
theorem store_slab {Q : PUnit → sProp 𝕄} {w : Vec F S128x256 .bf16} {u : FVec F S1x128x256 .bf16} {hx} {hm} {k : PUnit → Pr F} {X : Vec F S128x256 .bf16}
    (hu : u = shapeCast S1x128x256 w shapeCasts_S128x256_S1x128x256) :
    (owns (c : Thread nD τ) (slab m n) fullShare X : sProp 𝕄)
      ⊢ iprop((owns (c : Thread nD τ) (slab m n) fullShare w -∗ runs c (k ⟨⟩) Q)
        -∗ runs c (.op (.store m (rSlab n) u Finset.univ hx hm) k) Q) := by
  subst hu
  unfold owns
  iintro ⟨%f, %hf, H⟩ Hk
  iapply (wp_store 𝒱₀ (c : Thread nD τ) none Set.univ (S := (slab m n).view.set) (by rw [slab_set]; exact subset_rfl)) $$ [H]
  · iexact H
  iintro H
  iapply Hk
  iexists _
  isplitr
  swap; · iexact H
  ipureintro
  exact (congrArg (fun v => shapeCast S128x256 v shapeCasts_S1x128x256_S128x256)
    (View.read_write_univ (v := m.access (rSlab n)) f _)).trans (shapeCast_cast w _ _)

end Rules

end Cert.KernelIdeal.Ring
-- ==== Proof.Contents.lean ====
/- What the buffers hold: the partial sums that travel on the ring, the reduced chunks that are gathered, and
   the result as it is filled in, all as functions of the operands of all the devices. -/
module

public import proofs.«01_k».proof.Proof.Geom
public import Idealize.ShloMosaic.Lib.Pointwise.Index

@[expose] public section

noncomputable section

namespace Cert.KernelIdeal.Ring

open Idealize.ShloMosaic Idealize.SL.Sem Cert.KernelIdeal
open Facts₀ Facts

variable {F : FTy → Type} [FloatOps F]

/-! ## Tiles -/

/-- The place in the whole matrix of the place `j` of the tile at chunk `ρ` and first column `col`. -/
def cell (ρ col : ℕ) (j : S128x256.Idx) : S2048x2048.Idx :=
  ix2 ⟨(128 * ρ + (j 0).val) % 2048, Nat.mod_lt _ (by decide)⟩ ⟨(col + (j 1).val) % 2048, Nat.mod_lt _ (by decide)⟩

theorem mcol_le (n : ℕ) : mcol n + 256 ≤ 2048 := by unfold mcol; omega

theorem cell_0 {ρ col : ℕ} (hρ : ρ < 16) (j : S128x256.Idx) : (cell ρ col j 0).val = 128 * ρ + (j 0).val := by
  have : (j 0).val < 128 := (j 0).isLt
  show (128 * ρ + (j 0).val) % 2048 = _
  omega

theorem cell_1 {ρ col : ℕ} (hc : col + 256 ≤ 2048) (j : S128x256.Idx) : (cell ρ col j 1).val = col + (j 1).val := by
  have : (j 1).val < 256 := (j 1).isLt
  show (col + (j 1).val) % 2048 = _
  omega

theorem rTile_emb {n : ℕ} {w : BitVec 32} {h} {ρ : ℕ} (hw : rowOf w = 128 * ρ) (hρ : ρ < 16) (j : S128x256.Idx) :
    (rTile n w h).emb j = cell ρ (mcol n) j := by
  funext a
  apply Fin.ext
  fin_cases a
  · show rowOf w + 1 * (j 0).val = _
    rw [hw, Nat.one_mul]
    exact (cell_0 hρ j).symm
  · show mcol n + 1 * (j 1).val = _
    rw [Nat.one_mul]
    exact (cell_1 (mcol_le n) j).symm

theorem mem_rTile {n : ℕ} {w : BitVec 32} {h} {ρ : ℕ} (hw : rowOf w = 128 * ρ) {i : S2048x2048.Idx}
    (h0 : 128 * ρ ≤ (i 0).val ∧ (i 0).val < 128 * ρ + 128) (h1 : mcol n ≤ (i 1).val ∧ (i 1).val < mcol n + 256) :
    i ∈ (rTile n w h).set := by
  refine Rect.mem_set_unit.mpr fun a => ?_
  fin_cases a
  · show rowOf w ≤ (i 0).val ∧ (i 0).val < rowOf w + 128
    rw [hw]; exact h0
  · exact h1

/-! ## The direction and column of a transfer eight earlier -/

theorem dir_mod (n : ℕ) : dir (n % 2) = dir n := by unfold dir; rw [Nat.mod_mod]
theorem dir_sub8 {n : ℕ} (h : 8 ≤ n) : dir (n - 8) = dir n := by
  unfold dir; rw [show (n - 8) % 2 = n % 2 by omega]
theorem mcol_sub8 {n : ℕ} (h : 8 ≤ n) : mcol (n - 8) = mcol n := by unfold mcol; omega

/-! ## What travels -/

variable (xs : Dev nD → Vec F S2048x128 .bf16) (ws : Dev nD → Vec F S128x2048 .bf16)

/-- A device's own product. -/
def prod (c : Dev nD) : FVec F S2048x2048 .f32 := Gen.k0_pay1 (xs c) (ws c)
/-- The same rounded. -/
def part (c : Dev nD) : FVec F S2048x2048 .bf16 := Gen.k0_pay2 (prod xs ws c)

/-- The tile of the rounded product a device adds at hop `s`. -/
def ptile (d : Bool) (col : ℕ) (c : Dev nD) (s : ℕ) : FVec F S128x256 .bf16 :=
  fun j => part xs ws c (cell (chunk d c s) col j)

/-- The partial sum a device sends at hop `s` of the reduce-scatter. -/
def rsum (d : Bool) (col : ℕ) : ℕ → Dev nD → FVec F S128x256 .bf16
  | 0, c => ptile xs ws d col c 0
  | s + 1, c => addf (rsum d col s (nbr (!d) c)) (ptile xs ws d col c (s + 1))

/-- The full sum of the chunk a device ends with. -/
def lastv (d : Bool) (col : ℕ) (c : Dev nD) : FVec F S128x256 .f32 :=
  addf (fun j => prod xs ws c (cell (chunk d c 15) col j)) (extf .f32 (rsum xs ws d col 14 (nbr (!d) c)) bitsLt_bf16_f32)

/-- The same rounded, as it is gathered. -/
def ownv (d : Bool) (col : ℕ) (c : Dev nD) : FVec F S128x256 .bf16 := truncf .bf16 (lastv xs ws d col c) bitsLt_bf16_f32

/-- What arrives at hop `s` of the all-gather. -/
def agv (d : Bool) (col : ℕ) : ℕ → Dev nD → FVec F S128x256 .bf16
  | 0, c => ownv xs ws d col (nbr (!d) c)
  | s + 1, c => agv d col s (nbr (!d) c)

/-- What device `c` sends in transfer `n`. -/
def sndV (c : Dev nD) (n : ℕ) : FVec F S128x256 .bf16 :=
  if n < 120 then rsum xs ws (dir n) (mcol n) (n / 8) c
  else if n < 128 then ownv xs ws (dir n) (mcol n) c
  else agv xs ws (dir n) (mcol n) ((n - 128) / 8) c

/-- What device `c` receives in transfer `n`. -/
def rcvV (c : Dev nD) (n : ℕ) : FVec F S128x256 .bf16 := sndV xs ws (nbr (!dir n) c) n

theorem sndV_first {c : Dev nD} {n : ℕ} (h : n < 8) : sndV xs ws c n = ptile xs ws (dir n) (mcol n) c 0 := by
  unfold sndV
  rw [if_pos (by omega), show n / 8 = 0 by omega]
  rfl

theorem sndV_sum {c : Dev nD} {n : ℕ} (h : 8 ≤ n) (h' : n < 120) :
    sndV xs ws c n = addf (rcvV xs ws c (n - 8)) (ptile xs ws (dir n) (mcol n) c (n / 8)) := by
  unfold rcvV sndV
  rw [if_pos h', if_pos (by omega), dir_sub8 h, mcol_sub8 h, show n / 8 = (n - 8) / 8 + 1 by omega]
  rfl

theorem lastv_eq {c : Dev nD} {n : ℕ} (h : 120 ≤ n) (h' : n < 128) :
    lastv xs ws (dir n) (mcol n) c = addf (fun j => prod xs ws c (cell (chunk (dir n) c 15) (mcol n) j))
      (extf .f32 (rcvV xs ws c (n - 8)) bitsLt_bf16_f32) := by
  unfold rcvV sndV
  rw [if_pos (by omega), dir_sub8 (by omega), mcol_sub8 (by omega), show (n - 8) / 8 = 14 by omega]
  rfl

theorem sndV_own {c : Dev nD} {n : ℕ} (h : 120 ≤ n) (h' : n < 128) :
    sndV xs ws c n = truncf .bf16 (lastv xs ws (dir n) (mcol n) c) bitsLt_bf16_f32 := by
  unfold sndV
  rw [if_neg (by omega), if_pos h']
  rfl

theorem rcvV_ag {c : Dev nD} {n : ℕ} (h : 120 ≤ n) :
    rcvV xs ws c n = agv xs ws (dir n) (mcol n) ((n - 120) / 8) c := by
  unfold rcvV sndV
  rw [if_neg (by omega)]
  by_cases h' : n < 128
  · rw [if_pos h', show (n - 120) / 8 = 0 by omega]; rfl
  · rw [if_neg h', show (n - 120) / 8 = (n - 128) / 8 + 1 by omega]; rfl

theorem sndV_ag {c : Dev nD} {n : ℕ} (h : 128 ≤ n) : sndV xs ws c n = rcvV xs ws c (n - 8) := by
  rw [rcvV_ag xs ws (by omega), dir_sub8 (by omega), mcol_sub8 (by omega)]
  unfold sndV
  rw [if_neg (by omega), if_neg (by omega), show n - 8 - 120 = n - 128 by omega]

/-! ## The result as it is filled in -/

/-- The hop at which chunk `ρ` is the one a device works on. -/
def offs (d : Bool) (c : Dev nD) (ρ : ℕ) : ℕ := if d then (ρ + 16 - pos c) % 16 else (pos c + 16 - ρ) % 16

theorem offs_lt (d : Bool) (c : Dev nD) (ρ : ℕ) : offs d c ρ < 16 := by
  unfold offs; split <;> exact Nat.mod_lt _ (by decide)

theorem chunk_offs (d : Bool) (c : Dev nD) {ρ : ℕ} (h : ρ < 16) : chunk d c (offs d c ρ) = ρ := by
  have := pos_lt c
  unfold chunk offs
  cases d <;> simp <;> omega

theorem offs_chunk (d : Bool) (c : Dev nD) {o : ℕ} (h : o < 16) : offs d c (chunk d c o) = o := by
  have := pos_lt c
  unfold chunk offs
  cases d <;> simp <;> omega

/-- What the tile of hop `o` ends with. -/
def finv (c : Dev nD) (d : Bool) (col o : ℕ) : FVec F S128x256 .f32 :=
  if o = 15 then lastv xs ws d col c else extf .f32 (agv xs ws d col o c) bitsLt_bf16_f32

/-- The step that fills in a place of the result. -/
def stamp (c : Dev nD) (i : S2048x2048.Idx) : ℕ :=
  120 + 8 * ((offs (dir ((i 1).val / 1024)) c ((i 0).val / 128) + 1) % 16) + 2 * ((i 1).val % 1024 / 256) + (i 1).val / 1024

/-- What a place of the result ends with. -/
def done (c : Dev nD) : FVec F S2048x2048 .f32 := fun i =>
  finv xs ws c (dir ((i 1).val / 1024)) (256 * ((i 1).val / 256)) (offs (dir ((i 1).val / 1024)) c ((i 0).val / 128))
    (ix2 ⟨(i 0).val % 128, Nat.mod_lt _ (by decide)⟩ ⟨(i 1).val % 256, Nat.mod_lt _ (by decide)⟩)

/-- The result before step `n`: what has been filled in, and the device's own product elsewhere. -/
def outv (n : ℕ) (c : Dev nD) : FVec F S2048x2048 .f32 := fun i =>
  if stamp c i < n then done xs ws c i else prod xs ws c i

theorem dir_cell {n ρ : ℕ} (j : S128x256.Idx) : dir ((cell ρ (mcol n) j 1).val / 1024) = dir n := by
  have hj : (j 1).val < 256 := (j 1).isLt
  rw [cell_1 (mcol_le n), ← dir_mod n]
  unfold mcol
  rw [show (1024 * (n % 2) + 256 * (n % 8 / 2) + (j 1).val) / 1024 = n % 2 by omega]

theorem stamp_cell {c : Dev nD} {n o : ℕ} (ho : o < 16) (hn : 120 ≤ n) (hs : (o + 1) % 16 = (n - 120) / 8) (j : S128x256.Idx) :
    stamp c (cell (chunk (dir n) c o) (mcol n) j) = n := by
  have hj0 : (j 0).val < 128 := (j 0).isLt
  have hj : (j 1).val < 256 := (j 1).isLt
  have hρ := chunk_lt (dir n) c o
  unfold stamp
  rw [dir_cell, cell_0 hρ, cell_1 (mcol_le n), show (128 * chunk (dir n) c o + (j 0).val) / 128 = chunk (dir n) c o by omega,
    offs_chunk _ _ ho, hs]
  have h1 : (mcol n + (j 1).val) / 1024 = n % 2 := by unfold mcol; omega
  have h2 : (mcol n + (j 1).val) % 1024 / 256 = n % 8 / 2 := by unfold mcol; omega
  rw [h1, h2]
  omega

theorem outv_before {c : Dev nD} {n o : ℕ} (ho : o < 16) (hn : 120 ≤ n) (hs : (o + 1) % 16 = (n - 120) / 8) (j : S128x256.Idx) :
    outv xs ws n c (cell (chunk (dir n) c o) (mcol n) j) = prod xs ws c (cell (chunk (dir n) c o) (mcol n) j) := by
  unfold outv
  rw [stamp_cell ho hn hs, if_neg (lt_irrefl n)]

theorem outv_after {c : Dev nD} {n o : ℕ} (ho : o < 16) (hn : 120 ≤ n) (hs : (o + 1) % 16 = (n - 120) / 8) (j : S128x256.Idx) :
    outv xs ws (n + 1) c (cell (chunk (dir n) c o) (mcol n) j) = finv xs ws c (dir n) (mcol n) o j := by
  have hj0 : (j 0).val < 128 := (j 0).isLt
  have hj : (j 1).val < 256 := (j 1).isLt
  have hρ := chunk_lt (dir n) c o
  unfold outv
  rw [stamp_cell ho hn hs, if_pos (Nat.lt_succ_self n)]
  unfold done
  have e0 : (128 * chunk (dir n) c o + (j 0).val) / 128 = chunk (dir n) c o := by omega
  have e1 : 256 * ((mcol n + (j 1).val) / 256) = mcol n := by unfold mcol; omega
  have e2 : (ix2 ⟨(cell (chunk (dir n) c o) (mcol n) j 0).val % 128, Nat.mod_lt _ (by decide)⟩
      ⟨(cell (chunk (dir n) c o) (mcol n) j 1).val % 256, Nat.mod_lt _ (by decide)⟩ : S128x256.Idx) = j := by
    funext a
    apply Fin.ext
    fin_cases a
    · show (cell (chunk (dir n) c o) (mcol n) j 0).val % 128 = (j 0).val
      rw [cell_0 hρ]; omega
    · show (cell (chunk (dir n) c o) (mcol n) j 1).val % 256 = (j 1).val
      rw [cell_1 (mcol_le n)]; unfold mcol; omega
  rw [e2, dir_cell, cell_0 hρ, cell_1 (mcol_le n), e0, e1, offs_chunk _ _ ho]

/-- The parts of a step number. -/
theorem parts_of {T q e n : ℕ} (hq : q < 4) (he : e < 2) (h : 120 + 8 * T + 2 * q + e = n) :
    e = n % 2 ∧ q = n % 8 / 2 ∧ T = (n - 120) / 8 := by omega

theorem outv_off {c : Dev nD} {n o : ℕ} {w : BitVec 32} {h} (hw : rowOf w = 128 * chunk (dir n) c o)
    (ho : o < 16) (hn : 120 ≤ n) (hs : (o + 1) % 16 = (n - 120) / 8) (i : S2048x2048.Idx)
    (hi : i ∉ (rTile n w h).set) : outv xs ws (n + 1) c i = outv xs ws n c i := by
  have hi0 : (i 0).val < 2048 := (i 0).isLt
  have hi1 : (i 1).val < 2048 := (i 1).isLt
  have hne : stamp c i ≠ n := by
    intro hst
    obtain ⟨hd, hq, hT⟩ := parts_of (by omega) (by omega) hst
    rw [hd, dir_mod] at hT
    refine hi (mem_rTile hw ?_ ?_)
    · have hl := offs_lt (dir n) c ((i 0).val / 128)
      have hof : offs (dir n) c ((i 0).val / 128) = o := by omega
      have := chunk_offs (dir n) c (ρ := (i 0).val / 128) (by omega)
      rw [hof] at this
      omega
    · unfold mcol
      omega
  unfold outv
  by_cases hlt : stamp c i < n
  · rw [if_pos hlt, if_pos (by omega)]
  · rw [if_neg hlt, if_neg (by omega)]

/-- Before step 120 the result is the device's own product; -/
theorem outv_start (c : Dev nD) {n : ℕ} (h : n ≤ 120) : outv xs ws n c = prod xs ws c := by
  funext i
  unfold outv
  rw [if_neg (by unfold stamp; omega)]

/-- after the last it is filled in everywhere. -/
theorem outv_end (c : Dev nD) : outv xs ws 248 c = done xs ws c := by
  funext i
  have hi1 : (i 1).val < 2048 := (i 1).isLt
  unfold outv
  rw [if_pos (by unfold stamp; omega)]

theorem finv_last (c : Dev nD) {n : ℕ} : finv xs ws c (dir n) (mcol n) 15 = lastv xs ws (dir n) (mcol n) c := if_pos rfl

theorem finv_ag (c : Dev nD) {n : ℕ} (h : 128 ≤ n) (h' : n < 248) :
    finv xs ws c (dir n) (mcol n) ((n - 128) / 8) = extf .f32 (rcvV xs ws c (n - 8)) bitsLt_bf16_f32 := by
  unfold finv
  rw [if_neg (by omega), rcvV_ag xs ws (by omega), dir_sub8 (by omega), mcol_sub8 (by omega), show n - 8 - 120 = n - 128 by omega]

end Cert.KernelIdeal.Ring
-- ==== Proof.Cells.lean ====
/- The semaphores of the transfers: each transfer has one at its sender and one at its receiver, all different,
   and the number of a semaphore tells which transfer it is of. -/
module

public import proofs.«01_k».proof.Proof.Mem
public import proofs.«01_k».proof.Proof.Contents

@[expose] public section

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal
open Facts₀ Facts

/-- Transfer `n`'s semaphore: the sender's (`false`) or the receiver's (`true`). -/
def flSem (b : Bool) (n : ℕ) : DmaSem sig :=
  (semAt ((if b then BB.sr else BB.ss) (phase n) (dir n)) n).sem

/-- Where it lies among the device's semaphores. -/
def flNum (b : Bool) (n : ℕ) : ℕ :=
  4 + 60 * (4 * (phase n).toNat + 2 * (dir n).toNat + b.toNat) + 4 * (n % 120 / 8) + n % 8 / 2

theorem semAt_val {base : ℕ} {h : base + S15x4.numel ≤ 484} (n : ℕ) :
    ((semAt (SemArray.consecutive base S15x4 h : DmaSems sig S15x4) n).sem : Fin 484).val
      = base + (4 * (n % 120 / 8) + n % 8 / 2) := by
  have hr : n % 120 / 8 < 15 := by omega
  have hq : n % 8 / 2 < 4 := by omega
  have key : ∀ j : S1x1.Idx, (Rect.unit (s := S15x4) ![n % 120 / 8, n % 8 / 2] S1x1.size (inbSem n)).emb j
      = Shape.pair (d := ![15, 4]) ⟨n % 120 / 8, hr⟩ ⟨n % 8 / 2, hq⟩ := by
    intro j
    have h0 : (j 0).val = 0 := Nat.lt_one_iff.mp (j 0).isLt
    have h1 : (j 1).val = 0 := Nat.lt_one_iff.mp (j 1).isLt
    funext a
    apply Fin.ext
    fin_cases a
    · show n % 120 / 8 + 1 * (j 0).val = n % 120 / 8
      omega
    · show n % 8 / 2 + 1 * (j 1).val = n % 8 / 2
      omega
  show base + (S15x4.rowMajor ((Rect.unit (s := S15x4) ![n % 120 / 8, n % 8 / 2] S1x1.size (inbSem n)).emb _)).val = _
  rw [key]
  have := Shape.rowMajor_pair_val (d := ![15, 4]) ⟨n % 120 / 8, hr⟩ ⟨n % 8 / 2, hq⟩
  refine congrArg (base + ·) (this.trans ?_)
  show n % 120 / 8 * 4 + n % 8 / 2 = _
  omega

theorem flSem_val (b : Bool) (n : ℕ) : (flSem b n).val = flNum b n := by
  unfold flSem flNum
  cases b <;> cases phase n <;> cases dir n <;>
    refine (semAt_val (h := ?_) n).trans (Nat.add_assoc _ _ _).symm <;> decide

/-- The transfer a semaphore's number is of, and the side. -/
def decSide (i : ℕ) : Bool := Nat.beq ((i - 4) / 60 % 2) 1
def decNum (i : ℕ) : ℕ :=
  120 * ((i - 4) / 240) + 8 * ((i - 4) % 60 / 4) + 2 * ((i - 4) % 4) + (i - 4) / 120 % 2

theorem phase_toNat {n : ℕ} (h : n < 240) : (phase n).toNat = n / 120 := by
  unfold phase
  cases hb : Nat.ble 120 n
  · have : ¬ 120 ≤ n := fun h => by rw [Nat.ble_eq_true_of_le h] at hb; cases hb
    show 0 = _; omega
  · have := Nat.le_of_ble_eq_true hb
    show 1 = _; omega

theorem dir_toNat (n : ℕ) : (dir n).toNat = n % 2 := by
  unfold dir
  cases hb : Nat.beq (n % 2) 1
  · have : n % 2 ≠ 1 := fun h => by rw [h] at hb; cases hb
    show 0 = _; omega
  · have := Nat.eq_of_beq_eq_true hb
    show 1 = _; omega

theorem beq_bool (b : Bool) : Nat.beq b.toNat 1 = b := by cases b <;> rfl

theorem dec_parts {p d b s q : ℕ} (hp : p < 2) (hd : d < 2) (hb : b < 2) (hs : s < 15) (hq : q < 4) {i : ℕ}
    (hi : i = 4 + 60 * (4 * p + 2 * d + b) + 4 * s + q) :
    (i - 4) / 60 % 2 = b ∧ 120 * ((i - 4) / 240) + 8 * ((i - 4) % 60 / 4) + 2 * ((i - 4) % 4) + (i - 4) / 120 % 2
      = 120 * p + 8 * s + 2 * q + d := by
  have h60 : (i - 4) / 60 = 4 * p + 2 * d + b := by omega
  have h60' : (i - 4) % 60 = 4 * s + q := by omega
  have h240 : (i - 4) / 240 = p := by omega
  have h120 : (i - 4) / 120 = 2 * p + d := by omega
  have h4 : (i - 4) % 4 = q := by omega
  rw [h60, h60', h240, h120, h4]
  refine ⟨?_, ?_⟩ <;> omega

theorem num_parts (n : ℕ) : 120 * (n / 120) + 8 * (n % 120 / 8) + 2 * (n % 8 / 2) + n % 2 = n := by omega

theorem dec_flSem (b : Bool) {n : ℕ} (h : n < 240) : decSide (flSem b n).val = b ∧ decNum (flSem b n).val = n := by
  rw [flSem_val]
  have hb : b.toNat < 2 := by cases b <;> decide
  have := dec_parts (p := n / 120) (d := n % 2) (b := b.toNat) (s := n % 120 / 8) (q := n % 8 / 2)
    (by omega) (by omega) hb (by omega) (by omega) (i := flNum b n)
    (by unfold flNum; rw [phase_toNat h, dir_toNat])
  refine ⟨?_, ?_⟩
  · unfold decSide; rw [this.1, beq_bool]
  · unfold decNum; rw [this.2, num_parts]

theorem flSem_ge (b : Bool) (n : ℕ) : 4 ≤ (flSem b n).val := by
  rw [flSem_val]; unfold flNum; omega

theorem flSem_inj {b b' : Bool} {n n' : ℕ} (h : n < 240) (h' : n' < 240) (e : flSem b n = flSem b' n') : b = b' ∧ n = n' := by
  have h1 := dec_flSem b h
  have h2 := dec_flSem b' h'
  rw [e] at h1
  exact ⟨h1.1.symm.trans h2.1, h1.2.symm.trans h2.2⟩

/-- The kernel's own semaphores: one at each side of each transfer. -/
abbrev SemIx : Type := Bool × Fin 240
abbrev osem : SemIx → SemLoc sig := fun k => .dma (flSem k.1 k.2.val)

/-- The barrier semaphore. -/
abbrev barS : Sem sig := (SemArray.scalar (sig.barrier 0 rfl) : Sems sig S_).sem
abbrev barCell (c : Dev nD) : GSem nD τ sig := ((c : Thread nD τ), .reg barS)
/-- Transfer `n`'s cells on device `c`: of its own sending, and of what it receives. -/
abbrev fl (b : Bool) (c : Dev nD) (n : ℕ) : GSem nD τ sig := ((c : Thread nD τ), .dma (flSem b n))

/-- The units one transfer moves. -/
def N : ℕ := (slab (BB.rv false) 0).view.dmaCredit
theorem N_pos : 0 < N := View.dmaCredit_pos _ (by decide)

/-- Where transfer `n` lands. -/
def dstM (n : ℕ) : Memref sig .tc .vmem S128x256 .bf16 := slab ((if phase n then BB.ag else BB.rv) (dir n)) n

theorem amount_dst (n : ℕ) (sm : DmaSem sig) : (dstM n).view.amount (.dma sm) = N := by
  unfold dstM
  cases phase n <;> cases dir n <;> rfl

theorem amount_slab_rv (n k : ℕ) (sm : DmaSem sig) : (slab (BB.rv (dir n)) k).view.amount (.dma sm) = N := by
  cases dir n <;> rfl
theorem amount_slab_sd (n k : ℕ) (sm : DmaSem sig) : (slab (BB.sd (dir n)) k).view.amount (.dma sm) = N := by
  cases dir n <;> rfl
theorem amount_slab_ag (n k : ℕ) (sm : DmaSem sig) : (slab (BB.ag (dir n)) k).view.amount (.dma sm) = N := by
  cases dir n <;> rfl
theorem amount_own (n k : ℕ) (sm : DmaSem sig) : (ownAt (BB.own (dir n)) k).view.amount (.dma sm) = N := by
  cases dir n <;> rfl

theorem credit_rv (n k : ℕ) : (slab (BB.rv (dir n)) k).view.dmaCredit = N := by cases dir n <;> rfl
theorem credit_sd (n k : ℕ) : (slab (BB.sd (dir n)) k).view.dmaCredit = N := by cases dir n <;> rfl
theorem credit_ag (n k : ℕ) : (slab (BB.ag (dir n)) k).view.dmaCredit = N := by cases dir n <;> rfl
theorem credit_own (n k : ℕ) : (ownAt (BB.own (dir n)) k).view.dmaCredit = N := by cases dir n <;> rfl

theorem phase_rs {n : ℕ} (h : n < 120) : phase n = false := by
  unfold phase
  cases hb : Nat.ble 120 n
  · rfl
  · have := Nat.le_of_ble_eq_true hb; omega
theorem phase_ag {n : ℕ} (h : 120 ≤ n) : phase n = true := Nat.ble_eq_true_of_le h

theorem dstM_rs {n : ℕ} (h : n < 120) : dstM n = slab (BB.rv (dir n)) n := by unfold dstM; rw [phase_rs h]; rfl
theorem dstM_ag {n : ℕ} (h : 120 ≤ n) : dstM n = slab (BB.ag (dir n)) n := by unfold dstM; rw [phase_ag h]; rfl

theorem flSem_snd_rs {n : ℕ} (h : n < 120) : (semAt (BB.ss false (dir n)) n).sem = flSem false n := by
  unfold flSem; rw [phase_rs h]; rfl
theorem flSem_snd_ag {n : ℕ} (h : 120 ≤ n) : (semAt (BB.ss true (dir n)) n).sem = flSem false n := by
  unfold flSem; rw [phase_ag h]; rfl
theorem flSem_rcv_rs {n : ℕ} (h : n < 120) : (semAt (BB.sr false (dir n)) n).sem = flSem true n := by
  unfold flSem; rw [phase_rs h]; rfl
theorem flSem_rcv_ag {n : ℕ} (h : 120 ≤ n) : (semAt (BB.sr true (dir n)) n).sem = flSem true n := by
  unfold flSem; rw [phase_ag h]; rfl

end Cert.KernelIdeal.Ring
-- ==== Proof.Proto.lean ====
/- The protocol: which payments each cell takes, of how many units, and what memory they hand over. -/
module

public import proofs.«01_k».proof.Proof.Cells

@[expose] public section

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal
open Facts₀ Facts

variable {F : FTy → Type} [FloatOps F]

local notation "𝕄" => MT nD τ sig Unit (Elt F) ℕ UU ℕ

variable (xs : Dev nD → Vec F S2048x128 .bf16) (ws : Dev nD → Vec F S128x2048 .bf16)

/-- A memref on device `c` at contents not said. -/
abbrev anyOn (c : Dev nD) {sp : Space} {s : Shape} {e : EltTy} (m : Memref sig .tc sp s e) (q : PosShare TreeShare) : sProp 𝕄 :=
  iprop(∃ X, owns (c : Thread nD τ) m q X)

/-- What the barrier of device `c` is paid from direction `d`: for every transfer `c` makes in that direction, the
    place where it lands, and that its receiver's semaphore is in use. -/
def barOne (c : Dev nD) (d : Bool) (n : ℕ) : sProp 𝕄 :=
  if dir n = d then iprop(anyOn (nbr d c) (dstM n) fullShare ∗ reached ER (fl true (nbr d c) n) 0) else iprop(emp)

def barPay (c : Dev nD) (d : Bool) : sProp 𝕄 := bigSep (Finset.Ico 0 240) (barOne (F := F) c d)

/-- What arrives. -/
def recvPay (c : Dev nD) (n : ℕ) : sProp 𝕄 := owns (c : Thread nD τ) (dstM n) fullShare (rcvV xs ws c n)

/-- Where transfer `n` is read from, at share and contents: the source comes back when it has been read. -/
def srcAt (c : Dev nD) (n : ℕ) (X : Vec F S128x256 .bf16) : sProp 𝕄 :=
  if n < 120 then owns (c : Thread nD τ) (slab (BB.sd (dir n)) n) fullShare X
  else if n < 128 then owns (c : Thread nD τ) (ownAt (BB.own (dir n)) n) fullShare X
  else owns (c : Thread nD τ) (slab (BB.ag (dir n)) (n - 8)) fullShare.left X

def sendPay (c : Dev nD) (n : ℕ) : sProp 𝕄 := srcAt c n (sndV xs ws c n)

/-- Each barrier cell is paid once from each direction, one unit each; each transfer's cells once, by the transfer. -/
def ring : Rounds.Schedule (GSem nD τ sig) Bool 𝕄 where
  duties g r := if r = 0 ∧ g.1.2 = .tc then (match g.2 with | .reg _ => {false, true} | .dma i => if 4 ≤ i.val then {false} else ∅) else ∅
  unitless _ := False
  amount g _ _ := match g.2 with | .reg _ => 1 | .dma _ => N
  payload g _ d := match g.2 with
    | .reg _ => barPay g.1.1 d
    | .dma i => if decSide i.val then recvPay xs ws g.1.1 (decNum i.val) else sendPay xs ws g.1.1 (decNum i.val)
  amount_pos g _ _ _ := by
    obtain ⟨t, s⟩ := g
    cases s
    · exact Nat.one_pos
    · exact N_pos

instance barOne_storable (c : Dev nD) (d : Bool) (n : ℕ) : BI.Storable (upEmb : UEmb _ 𝕄) (barOne (F := F) c d n) := by
  unfold barOne
  split <;> infer_instance

instance srcAt_storable (c : Dev nD) (n : ℕ) (X : Vec F S128x256 .bf16) : BI.Storable (upEmb : UEmb _ 𝕄) (srcAt c n X) := by
  unfold srcAt
  (repeat' split) <;> infer_instance

instance ring_payload_storable (g : GSem nD τ sig) (r : ℕ) (d : Bool) :
    BI.Storable (upEmb : UEmb _ 𝕄) ((ring xs ws).payload g r d) := by
  obtain ⟨t, s⟩ := g
  cases s with
  | reg s =>
    show BI.Storable upEmb (barPay t.1 d)
    unfold barPay
    infer_instance
  | dma i =>
    show BI.Storable upEmb (if decSide i.val then recvPay xs ws t.1 (decNum i.val) else sendPay xs ws t.1 (decNum i.val))
    unfold recvPay sendPay
    split <;> infer_instance

section Sched

variable (c : Dev nD)

theorem duties_bar : (ring xs ws).duties (barCell c) 0 = {false, true} := by dsimp only [ring]; exact if_pos ⟨rfl, rfl⟩
theorem duties_fl (b : Bool) (n : ℕ) : (ring xs ws).duties (fl b c n) 0 = {false} := by
  dsimp only [ring]; rw [if_pos ⟨rfl, rfl⟩]; exact if_pos (flSem_ge b n)
theorem duties_later (g : GSem nD τ sig) : ∀ r, 1 ≤ r → (ring xs ws).duties g r = ∅ :=
  fun r hr => by dsimp only [ring]; rw [if_neg (fun h => by omega)]

theorem amount_bar (d : Bool) : (ring xs ws).amount (barCell c) 0 d = 1 := rfl
theorem amount_fl (b : Bool) (n : ℕ) (d : Bool) : (ring xs ws).amount (fl b c n) 0 d = N := rfl

theorem expect_bar : (ring xs ws).expect (barCell c) 0 = 2 := by
  unfold Schedule.expect Schedule.amountOf; rw [duties_bar]; rfl
theorem expect_fl (b : Bool) (n : ℕ) : (ring xs ws).expect (fl b c n) 0 = N := by
  unfold Schedule.expect Schedule.amountOf; rw [duties_fl, Finset.sum_singleton, amount_fl]

theorem payload_bar (d : Bool) : (ring xs ws).payload (barCell c) 0 d = barPay c d := rfl
theorem payload_rcv {n : ℕ} (h : n < 240) (d : Bool) : (ring xs ws).payload (fl true c n) 0 d = recvPay xs ws c n := by
  show (if decSide (flSem true n).val then recvPay xs ws c (decNum (flSem true n).val) else sendPay xs ws c (decNum (flSem true n).val)) = _
  rw [(dec_flSem true h).1, (dec_flSem true h).2]; rfl
theorem payload_snd {n : ℕ} (h : n < 240) (d : Bool) : (ring xs ws).payload (fl false c n) 0 d = sendPay xs ws c n := by
  show (if decSide (flSem false n).val then recvPay xs ws c (decNum (flSem false n).val) else sendPay xs ws c (decNum (flSem false n).val)) = _
  rw [(dec_flSem false h).1, (dec_flSem false h).2]; rfl

theorem rest_bar : bigSep ((ring xs ws).duties (barCell c) 0 \ ∅) (fun u => (ring xs ws).payload (barCell c) 0 u)
    = iprop(barPay c false ∗ barPay c true) := by
  rw [Finset.sdiff_empty, duties_bar, bigSep_insert (by decide), bigSep_singleton, payload_bar, payload_bar]
  rfl
theorem rest_rcv {n : ℕ} (h : n < 240) : bigSep ((ring xs ws).duties (fl true c n) 0 \ ∅) (fun u => (ring xs ws).payload (fl true c n) 0 u)
    = recvPay xs ws c n := by
  rw [Finset.sdiff_empty, duties_fl, bigSep_singleton, payload_rcv _ _ _ h]
theorem rest_snd {n : ℕ} (h : n < 240) : bigSep ((ring xs ws).duties (fl false c n) 0 \ ∅) (fun u => (ring xs ws).payload (fl false c n) 0 u)
    = sendPay xs ws c n := by
  rw [Finset.sdiff_empty, duties_fl, bigSep_singleton, payload_snd _ _ _ h]

end Sched

/-! ## What each device owes; the levels -/

/-- The transfers from number `n` on, owed to the neighbours' semaphores. -/
def owing (n : ℕ) (c : Dev nD) : CellTallies nD τ sig Unit :=
  ∑ k ∈ Finset.Ico n 240, tallyAt (fl true (nbr (dir k) c) k) () N

theorem owing_step {n : ℕ} (h : n < 240) (c : Dev nD) :
    owing n c = owing (n + 1) c + tallyAt (fl true (nbr (dir n) c) n) () N := by
  unfold owing
  rw [show Finset.Ico n 240 = insert n (Finset.Ico (n + 1) 240) by
      ext x; simp only [Finset.mem_Ico, Finset.mem_insert]; omega,
    Finset.sum_insert (by rw [Finset.mem_Ico]; omega), add_comm]

theorem owing_end {n : ℕ} (h : 240 ≤ n) (c : Dev nD) : owing n c = 0 := by
  unfold owing
  rw [Finset.Ico_eq_empty (by omega), Finset.sum_empty]

/-- At launch a device owes every transfer and a unit to each neighbour's barrier. -/
def O₀ (c : Dev nD) : CellTallies nD τ sig Unit :=
  owing 0 c + tallyAt (barCell (nbr false c)) () 1 + tallyAt (barCell (nbr true c)) () 1

def L (g : GSem nD τ sig) : Finset Unit := if g.1.2 = .tc then {()} else ∅
/-- The barrier cells at 1, what a transfer of number `n` brings at `n + 2`, the rest at 0. -/
def lv (g : GSem nD τ sig) (_ : Unit) : ℕ := match g.2 with
  | .reg _ => 1
  | .dma i => if decSide i.val then decNum i.val + 2 else 0

theorem L_tc (c : Dev nD) (sm : SemLoc sig) : L ((c : Thread nD τ), sm) = {()} := if_pos rfl
theorem L_of_ne (g : GSem nD τ sig) (h : g.1.2 ≠ .tc) : L g = ∅ := if_neg h

theorem lv_rcv (c : Dev nD) {n : ℕ} (h : n < 240) (u : Unit) : lv (fl true c n) u = n + 2 := by
  show (if decSide (flSem true n).val then decNum (flSem true n).val + 2 else 0) = _
  rw [(dec_flSem true h).1, (dec_flSem true h).2]; rfl
theorem lv_snd (c : Dev nD) {n : ℕ} (h : n < 240) (u : Unit) : lv (fl false c n) u = 0 := by
  show (if decSide (flSem false n).val then decNum (flSem false n).val + 2 else 0) = _
  rw [(dec_flSem false h).1]; rfl

/-- What is owed from `n` on is owed to cells of what transfers from `n` on bring. -/
theorem owing_pos {n : ℕ} {c : Dev nD} {g : GSem nD τ sig} {u : Unit} (h : 0 < owing n c g u) :
    ∃ k, n ≤ k ∧ k < 240 ∧ g = fl true (nbr (dir k) c) k := by
  by_contra hne
  push Not at hne
  have hz : owing n c g u = 0 := by
    unfold owing
    rw [Finset.sum_apply, Finsupp.finset_sum_apply]
    refine Finset.sum_eq_zero fun k hk => ?_
    rw [Finset.mem_Ico] at hk
    rw [tallyAt_apply, if_neg (fun h' => hne k hk.1 hk.2 h'.1)]
  omega

/-- Owing only transfers from `n` on, a device may wait for a cell below level `n + 2`. -/
theorem mayWait_owing {n : ℕ} (c : Dev nD) (sm : SemLoc sig) (hlv : lv ((c : Thread nD τ), sm) () ≤ n + 1) :
    (levAts L lv : sProp 𝕄) ⊢ MayWait (c : Thread nD τ) sm () (owing n c) :=
  MayOwe.of_cut (L := L) (lev := lv) (n + 1) (fun p hp => by rw [Finset.mem_singleton.mp hp, L_tc]; exact Finset.mem_singleton_self _)
    (fun g u hg => by
      obtain ⟨k, -, -, rfl⟩ := owing_pos hg
      rw [L_tc]; exact Finset.mem_singleton_self _)
    (fun p hp => by rw [Finset.mem_singleton.mp hp]; exact hlv)
    (fun g u hg => by
      obtain ⟨k, hk, hk', rfl⟩ := owing_pos hg
      rw [lv_rcv _ hk']; omega)

end Cert.KernelIdeal.Ring
-- ==== Proof.Talk.lean ====
/- One wait and one transfer, at a symbolic number: what a device gives and what it has afterwards. -/
module

public import proofs.«01_k».proof.Proof.Proto

@[expose] public section

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal
open Facts₀ Facts

variable {F : FTy → Type} [FloatOps F]

local notation "𝕄" => MT nD τ sig Unit (Elt F) ℕ UU ℕ

variable (xs : Dev nD → Vec F S2048x128 .bf16) (ws : Dev nD → Vec F S128x2048 .bf16)

/-! ## The cells and their records -/

def barEmb : Dev nD ↪ GSem nD τ sig := ⟨fun c => barCell c, fun _ _ h => congrArg (fun g : GSem nD τ sig => g.1.1) h⟩

theorem osem_inj : Function.Injective osem := fun k k' h => by
  have h' : flSem k.1 k.2.val = flSem k'.1 k'.2.val := by injection h
  have := flSem_inj k.2.isLt k'.2.isLt h'
  exact Prod.ext this.1 (Fin.ext this.2)

def flEmb : Dev nD × SemIx ↪ GSem nD τ sig :=
  ⟨fun ck => ((ck.1 : Thread nD τ), osem ck.2), fun _ _ h =>
    Prod.ext (congrArg (fun g : GSem nD τ sig => g.1.1) h) (osem_inj (congrArg Prod.snd h))⟩

abbrev barCells : Finset (GSem nD τ sig) := Finset.univ.map barEmb
abbrev flCells : Finset (GSem nD τ sig) := Finset.univ.map flEmb

theorem bar_mem (c : Dev nD) : barCell c ∈ (barCells ∪ flCells : Finset (GSem nD τ sig)) :=
  Finset.mem_union_left _ (Finset.mem_map_of_mem barEmb (Finset.mem_univ c))
theorem fl_mem (b : Bool) (c : Dev nD) {n : ℕ} (h : n < 240) : fl b c n ∈ (barCells ∪ flCells : Finset (GSem nD τ sig)) :=
  Finset.mem_union_right _ (Finset.mem_map_of_mem flEmb (Finset.mem_univ (c, (b, (⟨n, h⟩ : Fin 240)))))

/-- Every cell follows the protocol, and the levels are as fixed. -/
def cx (K : GSem nD τ sig → ℕ) : sProp 𝕄 :=
  iprop((bigSep (barCells ∪ flCells) fun g => cellInv ER (ring xs ws) (K g) g) ∗ (levAts L lv : sProp 𝕄))

instance cx_persistent (K : GSem nD τ sig → ℕ) : BI.Persistent (cx xs ws K) := by unfold cx; infer_instance

theorem inv_at (K : GSem nD τ sig → ℕ) {g : GSem nD τ sig} (hg : g ∈ (barCells ∪ flCells : Finset (GSem nD τ sig))) :
    (bigSep (barCells ∪ flCells) fun g => (cellInv ER (ring xs ws) (K g) g : sProp 𝕄)) ⊢ cellInv ER (ring xs ws) (K g) g :=
  bigSep_elim hg
theorem cx_bar (K : GSem nD τ sig → ℕ) (c : Dev nD) : (cx xs ws K : sProp 𝕄) ⊢ cellInv ER (ring xs ws) (K (barCell c)) (barCell c) := by
  unfold cx
  iintro ⟨H, -⟩
  iapply (inv_at xs ws K (bar_mem c))
  iexact H
theorem cx_fl (K : GSem nD τ sig → ℕ) (b : Bool) (c : Dev nD) {n : ℕ} (h : n < 240) :
    (cx xs ws K : sProp 𝕄) ⊢ cellInv ER (ring xs ws) (K (fl b c n)) (fl b c n) := by
  unfold cx
  iintro ⟨H, -⟩
  iapply (inv_at xs ws K (fl_mem b c h))
  iexact H
theorem cx_lev (K : GSem nD τ sig → ℕ) : (cx xs ws K : sProp 𝕄) ⊢ (levAts L lv : sProp 𝕄) := by
  unfold cx
  iintro ⟨-, H⟩
  iexact H

/-! ## Waiting and sending -/

/-- Device `c` owes the transfers from `n` on. -/
def tide (c : Dev nD) (n : ℕ) : sProp 𝕄 := iprop(∃ W, owes (c : Thread nD τ) (owing n c) W)

/-- Before a wait on a cell of transfer `n`, and after. -/
def due (b : Bool) (c : Dev nD) (n : ℕ) : sProp 𝕄 := iprop(cred (tallyAt (fl b c n) () N) ∗ atPos ER (fl b c n) 0 ∅ 0)
def past (b : Bool) (c : Dev nD) (n : ℕ) : sProp 𝕄 := atPos ER (fl b c n) 1 ∅ 0

variable {c : Dev nD} (K : GSem nD τ sig → ℕ)

theorem cx_may (b : Bool) {n m : ℕ} (h : lv (fl b c n) () ≤ m + 1) :
    (cx xs ws K : sProp 𝕄) ⊢ MayWait (c : Thread nD τ) (.dma (flSem b n)) () (owing m c) := by
  unfold cx
  iintro ⟨-, H⟩
  iapply (mayWait_owing c (.dma (flSem b n)) h)
  iexact H

/-- Waiting for transfer `n` to arrive, while owing only later ones, brings what it carried. -/
theorem wait_rcv {Q : PUnit → sProp 𝕄} {sp sp' : Space} {s s' : Shape} {e e' : EltTy} {n m : ℕ} (hn : n < 240) (hm : n < m) {sem : DmaSem sig} (hsem : sem = flSem true n)
    {src : Memref sig .tc sp s e} {dst : Memref sig .tc sp' s' e'} (hN : dst.view.dmaCredit = N) {h1 h2} {k : PUnit → Pr F} {P : sProp 𝕄} (hP : recvPay xs ws c n = P) :
    iprop(cx xs ws K ∗ due true c n ∗ tide c m)
      ⊢ iprop(((past true c n ∗ tide c m ∗ P) -∗ runs c (k ⟨⟩) Q)
        -∗ runs c (.op (.waitDma2 sem src dst h1 h2) k) Q) := by
  subst hsem hP
  unfold due tide past
  iintro ⟨#Hcx, ⟨Hc, Ha⟩, ⟨%W, HO⟩⟩ Hk
  iapply (Rounds.wp_wait_rest_token 𝒱₀ ER (ring xs ws) (c : Thread nD τ) none (κ := K (fl true c n))
      (wpE_waitDma2_eq 𝒱₀ (c : Thread nD τ) none Set.univ) (Set.mem_univ _) () (O := owing m c) (W := W) (R := 0) (m := 0) (T := ∅)
      (by rw [Nat.zero_add, hN, expect_fl])) $$ [Hc HO Ha]
  · isplitr; · iapply (cx_fl xs ws K true c hn); iexact Hcx
    isplitl [Hc]; · rw [hN]; iexact Hc
    isplitl [HO]; · iexact HO
    isplitr
    · iapply (cx_may xs ws K true (by rw [lv_rcv c hn]; omega)); iexact Hcx
    iexact Ha
  iintro ⟨HO, Ha, -, Hp⟩
  iapply Hk
  isplitl [Ha]; · iexact Ha
  isplitl [HO]; · iexists _; iexact HO
  iapply (Entails.of_eq (rest_rcv xs ws c hn)); iexact Hp

/-- Waiting until transfer `n` has been read brings its source back. -/
theorem wait_snd {Q : PUnit → sProp 𝕄} {sp sp' : Space} {s s' : Shape} {e e' : EltTy} {n m : ℕ} (hn : n < 240) {sem : DmaSem sig} (hsem : sem = flSem false n)
    {src : Memref sig .tc sp s e} {dst : Memref sig .tc sp' s' e'} (hN : dst.view.dmaCredit = N) {h1 h2} {k : PUnit → Pr F} {P : sProp 𝕄} (hP : sendPay xs ws c n = P) :
    iprop(cx xs ws K ∗ due false c n ∗ tide c m)
      ⊢ iprop(((past false c n ∗ tide c m ∗ P) -∗ runs c (k ⟨⟩) Q)
        -∗ runs c (.op (.waitDma2 sem src dst h1 h2) k) Q) := by
  subst hsem hP
  unfold due tide past
  iintro ⟨#Hcx, ⟨Hc, Ha⟩, ⟨%W, HO⟩⟩ Hk
  iapply (Rounds.wp_wait_rest_token 𝒱₀ ER (ring xs ws) (c : Thread nD τ) none (κ := K (fl false c n))
      (wpE_waitDma2_eq 𝒱₀ (c : Thread nD τ) none Set.univ) (Set.mem_univ _) () (O := owing m c) (W := W) (R := 0) (m := 0) (T := ∅)
      (by rw [Nat.zero_add, hN, expect_fl])) $$ [Hc HO Ha]
  · isplitr; · iapply (cx_fl xs ws K false c hn); iexact Hcx
    isplitl [Hc]; · rw [hN]; iexact Hc
    isplitl [HO]; · iexact HO
    isplitr
    · iapply (cx_may xs ws K false (by rw [lv_snd c hn]; omega)); iexact Hcx
    iexact Ha
  iintro ⟨HO, Ha, -, Hp⟩
  iapply Hk
  isplitl [Ha]; · iexact Ha
  isplitl [HO]; · iexists _; iexact HO
  iapply (Entails.of_eq (rest_snd xs ws c hn)); iexact Hp

/-- What a device needs to start transfer `n`, its source apart. -/
def lane (c : Dev nD) (n : ℕ) : sProp 𝕄 :=
  iprop((anyOn (nbr (dir n) c) (dstM n) fullShare ∗ reached ER (fl true (nbr (dir n) c) n) 0)
    ∗ dutyTok ER (fl false c n) 0 false ∗ dutyTok ER (fl true (nbr (dir n) c) n) 0 false
    ∗ atPos ER (fl false c n) 0 ∅ 0 ∗ reached ER (fl false c n) 0)

/-- Starting transfer `n`. -/
theorem send {Q : PUnit → sProp 𝕄} {n : ℕ} (hn : n < 240) {src dst : Memref sig .tc .vmem S128x256 .bf16} {q : PosShare TreeShare}
    (hsrc : srcAt c n (sndV xs ws c n) = owns (c : Thread nD τ) src q (sndV xs ws c n)) (hdst : dst = dstM n)
    {sS sem : DmaSem sig} (hS : sS = flSem false n) (hsem : sem = flSem true n) {c' : Dev nD} (hc : c' = nbr (dir n) c)
    {hsc h1 h2 h3} {k : PUnit → Pr F} :
    iprop(cx xs ws K ∗ lane (F := F) c n ∗ owns (c : Thread nD τ) src q (sndV xs ws c n) ∗ tide c n)
      ⊢ iprop(((due false c n ∗ tide c (n + 1)) -∗ runs c (k ⟨⟩) Q)
        -∗ runs c (.op (.enqueueDma src (.remote (Dev.tc c') dst (.dma sS) hsc) (.dma sem) h1 h2 h3) k) Q) := by
  subst hdst hS hsem hc
  unfold due tide lane
  iintro ⟨#Hcx, ⟨⟨⟨%Y, Hd⟩, #Hr⟩, Ht, Ht', Ha, #Hr'⟩, Hs, ⟨%W, HO⟩⟩ Hk
  unfold owns
  icases Hs with ⟨%fs, %hfs, Hs⟩
  icases Hd with ⟨%fd, -, Hd⟩
  iapply (Rounds.wp_send_pointsTo 𝒱₀ ER (ring xs ws) (c : Thread nD τ) none (c' := (nbr (dir n) c : Thread nD τ)) (src := src) (dst := dstM n)
      (sS := .dma (flSem false n)) (sem := .dma (flSem true n)) (q := q) (fs := fs) (κ₁ := K (fl false c n)) (κ₂ := K (fl true (nbr (dir n) c) n))
      (r₁ := 0) (r₂ := 0) (d₁ := false) (d₂ := false) (fd := fd)
      (by rw [duties_fl]; exact Finset.mem_singleton_self _) (by rw [duties_fl]; exact Finset.mem_singleton_self _)
      () () N (amount_dst n _) (amount_fl xs ws c false n false) (amount_fl xs ws (nbr (dir n) c) true n false)
      (owing (n + 1) c) (owing_step hn c) (W := W)
      (by
        rw [payload_snd xs ws c hn, sendPay, hsrc, ← hfs]
        exact owns_intro _ _ _ _)
      (by
        rw [payload_rcv xs ws _ hn, recvPay, rcvV, nbr_nbr', ← hfs]
        refine (owns_intro _ _ _ _).trans (Entails.of_eq ?_)
        rw [View.read_write_univ])) $$ [Hs Hd HO Ht Ht']
  · isplitr; · iapply (cx_fl xs ws K false c hn); iexact Hcx
    isplitr; · iapply (cx_fl xs ws K true (nbr (dir n) c) hn); iexact Hcx
    isplitl [Hs]; · iexact Hs
    isplitl [Hd]; · iexact Hd
    isplitl [HO]; · iexact HO
    isplitl [Ht]; · iexact Ht
    isplitr; · iexact Hr'
    isplitl [Ht']; · iexact Ht'
    iexact Hr
  iintro ⟨Hc, HO⟩
  iapply Hk
  isplitl [Hc Ha]
  · isplitl [Hc]; · iexact Hc
    iexact Ha
  iexists _; iexact HO

end Cert.KernelIdeal.Ring
-- ==== Proof.Steps.lean ====
/- One macro-step of each kind, at a symbolic number: what it uses and what it leaves. -/
module

public import proofs.«01_k».proof.Proof.Talk

@[expose] public section

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal
open Facts₀ Facts

variable {F : FTy → Type} [FloatOps F]

local notation "𝕄" => MT nD τ sig Unit (Elt F) ℕ UU ℕ

section Own
variable {c : Dev nD} {m : Memref sig .tc .vmem S128x1024 .bf16} {n : ℕ}

/-- A load of a quarter of a device's own chunk, whose value is not used. -/
theorem load_own {Q : PUnit → sProp 𝕄} {hl} {k : Vec F S128x256 .bf16 → Pr F} {q : PosShare TreeShare} {X : Vec F S128x256 .bf16} :
    (owns (c : Thread nD τ) (ownAt m n) q X : sProp 𝕄)
      ⊢ iprop((∀ v : Vec F S128x256 .bf16, owns (c : Thread nD τ) (ownAt m n) q X -∗ runs c (k v) Q)
        -∗ runs c (.op (.load m (rOwn n).toLoadRect hl) k) Q) := by
  unfold owns
  iintro ⟨%f, %hf, H⟩ Hk
  iapply (wp_load_rect 𝒱₀ (c : Thread nD τ) none Set.univ (S := (ownAt m n).view.set) subset_rfl) $$ [H]
  · iexact H
  iintro H
  ispecialize Hk $$ %((m.access (rOwn n)).read (Elt F) f)
  iapply Hk
  iexists f
  isplitr; · ipureintro; exact hf
  iexact H

/-- A store of it leaves what was stored. -/
theorem store_own {Q : PUnit → sProp 𝕄} {w : Vec F S128x256 .bf16} {hx} {hm} {k : PUnit → Pr F} {X : Vec F S128x256 .bf16}
    (Y : Vec F S128x256 .bf16) (hY : w = Y) :
    (owns (c : Thread nD τ) (ownAt m n) fullShare X : sProp 𝕄)
      ⊢ iprop((owns (c : Thread nD τ) (ownAt m n) fullShare Y -∗ runs c (k ⟨⟩) Q)
        -∗ runs c (.op (.store m (rOwn n) w Finset.univ hx hm) k) Q) := by
  subst hY
  unfold owns
  iintro ⟨%f, %hf, H⟩ Hk
  iapply (wp_store 𝒱₀ (c : Thread nD τ) none Set.univ (S := (ownAt m n).view.set) subset_rfl) $$ [H]
  · iexact H
  iintro H
  iapply Hk
  iexists _
  isplitr
  swap; · iexact H
  ipureintro
  exact View.read_write_univ (v := m.access (rOwn n)) f _

end Own

variable (xs : Dev nD → Vec F S2048x128 .bf16) (ws : Dev nD → Vec F S128x2048 .bf16)

/-- What stays of the place where transfer `n` landed, once the device has read it. -/
def kept (c : Dev nD) (n : ℕ) : sProp 𝕄 :=
  if n < 120 then anyOn c (dstM n) fullShare else anyOn c (dstM n) fullShare.right

/-- The source of transfer `n` at contents not said. -/
def srcIs (c : Dev nD) (n : ℕ) : sProp 𝕄 := iprop(∃ X, srcAt c n X)

/-- The same while it is free to be written: the source of a later hop of the all-gather has yet to arrive. -/
def srcAny (c : Dev nD) (n : ℕ) : sProp 𝕄 := if n < 128 then srcIs c n else iprop(emp)

/-- All that transfer `n` needs from its sender. -/
def rdy (c : Dev nD) (n : ℕ) : sProp 𝕄 := iprop(srcAny c n ∗ lane c n)

/-- The device's rounded product, and its result before step `n`. -/
def prt (c : Dev nD) : sProp 𝕄 := owns (c : Thread nD τ) BB.part fullShare (part xs ws c)
def res (n : ℕ) (c : Dev nD) : sProp 𝕄 := owns (c : Thread nD τ) BB.out fullShare (outv xs ws n c)

theorem srcAt_rs {c : Dev nD} {n : ℕ} (h : n < 120) (X) :
    srcAt (F := F) c n X = owns (c : Thread nD τ) (slab (BB.sd (dir n)) n) fullShare X := if_pos h
theorem srcAt_own {c : Dev nD} {n : ℕ} (h : 120 ≤ n) (h' : n < 128) (X) :
    srcAt (F := F) c n X = owns (c : Thread nD τ) (ownAt (BB.own (dir n)) n) fullShare X := by
  unfold srcAt; rw [if_neg (by omega), if_pos h']
theorem srcAt_ag {c : Dev nD} {n : ℕ} (h : 128 ≤ n) (X) :
    srcAt (F := F) c n X = owns (c : Thread nD τ) (slab (BB.ag (dir n)) (n - 8)) fullShare.left X := by
  unfold srcAt; rw [if_neg (by omega), if_neg (by omega)]
theorem recvPay_rs {c : Dev nD} {n : ℕ} (h : n < 120) :
    recvPay xs ws c n = owns (c : Thread nD τ) (slab (BB.rv (dir n)) n) fullShare (rcvV xs ws c n) := by
  unfold recvPay; rw [dstM_rs h]
theorem recvPay_ag {c : Dev nD} {n : ℕ} (h : 120 ≤ n) :
    recvPay xs ws c n = owns (c : Thread nD τ) (slab (BB.ag (dir n)) n) fullShare (rcvV xs ws c n) := by
  unfold recvPay; rw [dstM_ag h]
theorem kept_rs {c : Dev nD} {n : ℕ} (h : n < 120) :
    kept (F := F) c n = anyOn c (slab (BB.rv (dir n)) n) fullShare := by
  unfold kept; rw [if_pos h, dstM_rs h]
theorem kept_ag {c : Dev nD} {n : ℕ} (h : 120 ≤ n) :
    kept (F := F) c n = anyOn c (slab (BB.ag (dir n)) n) fullShare.right := by
  unfold kept; rw [if_neg (by omega), dstM_ag h]

variable {c : Dev nD} (K : GSem nD τ sig → ℕ)

theorem tile_part {d : Bool} {n s : ℕ} {w : BitVec 32} {h} (hw : rowOf w = 128 * chunk d c s) :
    (fun j => part xs ws c ((rTile n w h).emb j)) = ptile xs ws d (mcol n) c s := by
  funext j
  exact congrArg (part xs ws c) (rTile_emb hw (chunk_lt d c s) j)

theorem srcAny_rs {n : ℕ} (h : n < 120) : srcAny (F := F) c n = anyOn c (slab (BB.sd (dir n)) n) fullShare := by
  unfold srcAny srcIs
  rw [if_pos (by omega)]
  simp only [srcAt_rs h]
theorem srcAny_own {n : ℕ} (h : 120 ≤ n) (h' : n < 128) : srcAny (F := F) c n = anyOn c (ownAt (BB.own (dir n)) n) fullShare := by
  unfold srcAny srcIs
  rw [if_pos h']
  simp only [srcAt_own h h']

theorem kept_sub8 {n : ℕ} (h : 8 ≤ n) (h' : n < 128) :
    kept (F := F) c (n - 8) = anyOn c (slab (BB.rv (dir n)) (n - 8)) fullShare := by
  rw [kept_rs (by omega), dir_sub8 h]
theorem recv_sub8 {n : ℕ} (h : 8 ≤ n) (h' : n < 128) :
    recvPay xs ws c (n - 8) = owns (c : Thread nD τ) (slab (BB.rv (dir n)) (n - 8)) fullShare (rcvV xs ws c (n - 8)) := by
  rw [recvPay_rs xs ws (by omega), dir_sub8 h]

/-- The last sum, from what was received and the device's own product. -/
theorem acc_eq {n : ℕ} (hn : 120 ≤ n) (hn' : n < 128) {o : Vec F S128x256 .f32}
    (ho : o = fun j => prod xs ws c (cell (chunk (dir n) c 15) (mcol n) j))
    {v : Vec F S1x128x256 .bf16} (hv : shapeCast S128x256 v shapeCasts_S1x128x256_S128x256 = rcvV xs ws c (n - 8)) :
    payAcc o v = lastv xs ws (dir n) (mcol n) c := by
  unfold payAcc
  rw [hv, ho, shapeCast_self, lastv_eq xs ws hn hn']

theorem own_eq {n : ℕ} (hn : 120 ≤ n) (hn' : n < 128) {o : Vec F S128x256 .f32}
    (ho : o = fun j => prod xs ws c (cell (chunk (dir n) c 15) (mcol n) j))
    {v : Vec F S1x128x256 .bf16} (hv : shapeCast S128x256 v shapeCasts_S1x128x256_S128x256 = rcvV xs ws c (n - 8)) :
    payOwn o v = sndV xs ws c n := by
  unfold payOwn
  rw [acc_eq xs ws hn hn' ho hv, shapeCast_self, sndV_own xs ws hn hn']

theorem tile_out {n : ℕ} (hn : 120 ≤ n) (hn' : n < 128) {w : BitVec 32} {h} (hw : rowOf w = 128 * chunk (dir n) c 15) :
    (fun j => outv xs ws n c ((rTile n w h).emb j)) = (fun j : S128x256.Idx => prod xs ws c (cell (chunk (dir n) c 15) (mcol n) j)) := by
  funext j
  exact (congrArg (outv xs ws n c) (rTile_emb hw (chunk_lt _ _ _) j)).trans (outv_before xs ws (o := 15) (by omega) hn (by omega) j)

theorem fst_eq {n : ℕ} (hn : n < 8) {p : Vec F S128x256 .bf16} (hp : p = ptile xs ws (dir n) (mcol n) c 0) :
    payFst p = shapeCast S1x128x256 (sndV xs ws c n) shapeCasts_S128x256_S1x128x256 := by
  rw [hp, sndV_first xs ws hn]; rfl

theorem sum_eq {n : ℕ} (hn : 8 ≤ n) (hn' : n < 120) {p : Vec F S128x256 .bf16} (hp : p = ptile xs ws (dir n) (mcol n) c (n / 8))
    {v : Vec F S1x128x256 .bf16} (hv : shapeCast S128x256 v shapeCasts_S1x128x256_S128x256 = rcvV xs ws c (n - 8)) :
    paySum v p = shapeCast S1x128x256 (sndV xs ws c n) shapeCasts_S128x256_S1x128x256 := by
  unfold paySum
  rw [hv, hp, sndV_sum xs ws hn hn']

theorem outv_tile {n o : ℕ} {w : BitVec 32} {h} (hw : rowOf w = 128 * chunk (dir n) c o) (ho : o < 16) (hn : 120 ≤ n)
    (hs : (o + 1) % 16 = (n - 120) / 8) (j : S128x256.Idx) :
    outv xs ws (n + 1) c ((rTile n w h).emb j) = finv xs ws c (dir n) (mcol n) o j :=
  (congrArg (outv xs ws (n + 1) c) (rTile_emb hw (chunk_lt _ _ _) j)).trans (outv_after xs ws ho hn hs j)

theorem rTile_sub8 {n : ℕ} (hn : 8 ≤ n) {w : BitVec 32} {h} {h'} : rTile (n - 8) w h = rTile n w h' := by
  unfold rTile
  have h1 : (n - 8) % 2 = n % 2 := by omega
  have h2 : (n - 8) % 8 / 2 = n % 8 / 2 := by omega
  simp only [h1, h2]

theorem inb_sub8 {n : ℕ} (hn : 8 ≤ n) {w : BitVec 32}
    (h : ∀ a, (![rowOf w, 1024 * ((n - 8) % 2) + 256 * ((n - 8) % 8 / 2)] : Fin 2 → ℕ) a + S128x256.size a ≤ S2048x2048.size a) :
    ∀ a, (![rowOf w, 1024 * (n % 2) + 256 * (n % 8 / 2)] : Fin 2 → ℕ) a + S128x256.size a ≤ S2048x2048.size a := by
  rw [show (n - 8) % 2 = n % 2 by omega, show (n - 8) % 8 / 2 = n % 8 / 2 by omega] at h
  exact h

/-- The first hop of the reduce-scatter. -/
theorem step_A {Q : PUnit → sProp 𝕄} {n : ℕ} (hn : n < 8) {k : Pr F} :
    iprop(cx xs ws K ∗ rdy c n ∗ prt xs ws c ∗ tide c n)
      ⊢ iprop(((due false c n ∗ prt xs ws c ∗ tide c (n + 1)) -∗ runs c k Q) -∗ runs c (stepA BB (WW c) n k) Q) := by
  unfold rdy prt stepA loadPart loadSlab storeSlab sendRS
  rw [srcAny_rs (show n < 120 by omega)]
  iintro ⟨#Hcx, ⟨⟨%X, Hs⟩, Hl⟩, Hp, Ht⟩ Hk
  iapply load_owns $$ [Hp]
  · iexact Hp
  iintro Hp
  iapply load_slab $$ [Hs]
  · iexact Hs
  iintro %v - Hs
  iapply (store_slab (fst_eq xs ws hn (tile_part xs ws (d := dir n) (s := 0) (rowOf_pos (dir n) c)))) $$ [Hs]
  · iexact Hs
  iintro Hs
  iapply (send xs ws K (show n < 240 by omega) (srcAt_rs (by omega) _) (dstM_rs (by omega)).symm
    (flSem_snd_rs (by omega)) (flSem_rcv_rs (by omega)) (dest_WW (dir n) c)) $$ [Hl Hs Ht]
  · isplitr; · iexact Hcx
    isplitl [Hl]; · iexact Hl
    isplitl [Hs]; · iexact Hs
    iexact Ht
  iintro ⟨Hd, Ht⟩
  iapply Hk
  isplitl [Hd]; · iexact Hd
  isplitl [Hp]; · iexact Hp
  iexact Ht

/-- A later hop of it. -/
theorem step_B {Q : PUnit → sProp 𝕄} {n : ℕ} (hn : 8 ≤ n) (hn' : n < 120) {k : Pr F} :
    iprop(cx xs ws K ∗ rdy c n ∗ due true c (n - 8) ∗ prt xs ws c ∗ tide c n)
      ⊢ iprop(((due false c n ∗ past true c (n - 8) ∗ kept c (n - 8) ∗ prt xs ws c ∗ tide c (n + 1)) -∗ runs c k Q)
        -∗ runs c (stepB BB (WW c) n k) Q) := by
  unfold rdy prt stepB loadPart loadSlab storeSlab sendRS waitRS
  rw [srcAny_rs hn', kept_sub8 hn (by omega)]
  iintro ⟨#Hcx, ⟨⟨%X, Hs⟩, Hl⟩, Hd, Hp, Ht⟩ Hk
  iapply (wait_rcv xs ws K (show n - 8 < 240 by omega) (show n - 8 < n by omega)
    (by rw [← flSem_rcv_rs (by omega), dir_sub8 hn]) (credit_rv (n - 8) (n - 8))
    (recv_sub8 xs ws (by omega) (by omega))) $$ [Hd Ht]
  · isplitr; · iexact Hcx
    isplitl [Hd]; · iexact Hd
    iexact Ht
  iintro ⟨Hpast, Ht, Hr⟩
  iapply load_slab $$ [Hr]
  · iexact Hr
  iintro %v %hv Hr
  iapply load_owns $$ [Hp]
  · iexact Hp
  iintro Hp
  iapply load_slab $$ [Hs]
  · iexact Hs
  iintro %_ - Hs
  iapply (store_slab (sum_eq xs ws hn hn' (tile_part xs ws (d := dir n) (s := n / 8) (by
      have h := rowOf_hop (dir n) c (n / 8) (by omega)
      rw [show n % 120 / 8 = n / 8 by omega]; exact h)) hv)) $$ [Hs]
  · iexact Hs
  iintro Hs
  iapply (send xs ws K (show n < 240 by omega) (srcAt_rs hn' _) (dstM_rs hn').symm
    (flSem_snd_rs hn') (flSem_rcv_rs hn') (dest_WW (dir n) c)) $$ [Hl Hs Ht]
  · isplitr; · iexact Hcx
    isplitl [Hl]; · iexact Hl
    isplitl [Hs]; · iexact Hs
    iexact Ht
  iintro ⟨Hd, Ht⟩
  iapply Hk
  isplitl [Hd]; · iexact Hd
  isplitl [Hpast]; · iexact Hpast
  isplitl [Hr]; · iexists _; iexact Hr
  isplitl [Hp]; · iexact Hp
  iexact Ht

/-- The first hop of the all-gather. -/
theorem step_C {Q : PUnit → sProp 𝕄} {n : ℕ} (hn : 120 ≤ n) (hn' : n < 128) {k : Pr F} :
    iprop(cx xs ws K ∗ rdy c n ∗ due true c (n - 8) ∗ res xs ws n c ∗ tide c n)
      ⊢ iprop(((due false c n ∗ past true c (n - 8) ∗ kept c (n - 8) ∗ res xs ws (n + 1) c ∗ tide c (n + 1)) -∗ runs c k Q)
        -∗ runs c (stepC BB (WW c) n k) Q) := by
  have hw := rowOf_hop (dir n) c 15 (by omega)
  unfold rdy res stepC loadOut storeOut loadSlab waitRS
  rw [srcAny_own hn hn', kept_sub8 (by omega) hn']
  iintro ⟨#Hcx, ⟨⟨%X, Hs⟩, Hl⟩, Hd, Ho, Ht⟩ Hk
  iapply (wait_rcv xs ws K (show n - 8 < 240 by omega) (show n - 8 < n by omega)
    (by rw [← flSem_rcv_rs (by omega), dir_sub8 (by omega)]) (credit_rv (n - 8) (n - 8))
    (recv_sub8 xs ws (by omega) (by omega))) $$ [Hd Ht]
  · isplitr; · iexact Hcx
    isplitl [Hd]; · iexact Hd
    iexact Ht
  iintro ⟨Hpast, Ht, Hr⟩
  iapply load_owns $$ [Ho]
  · iexact Ho
  iintro Ho
  iapply load_slab $$ [Hr]
  · iexact Hr
  iintro %v %hv Hr
  iapply load_owns $$ [Ho]
  · iexact Ho
  iintro Ho
  iapply (store_owns (outv xs ws (n + 1) c) (fun j =>
      (outv_tile xs ws hw (by omega) hn (by omega) j).trans
        (congrFun ((finv_last xs ws c).trans (acc_eq xs ws hn hn' (tile_out xs ws hn hn' hw) hv).symm) j))
    (outv_off xs ws hw (by omega) hn (by omega))) $$ [Ho]
  · iexact Ho
  iintro Ho
  iapply load_own $$ [Hs]
  · iexact Hs
  iintro %_ Hs
  iapply (store_own (sndV xs ws c n) (own_eq xs ws hn hn' (tile_out xs ws hn hn' hw) hv)) $$ [Hs]
  · iexact Hs
  iintro Hs
  iapply (send xs ws K (show n < 240 by omega) (srcAt_own hn hn' _) (dstM_ag hn).symm
    (flSem_snd_ag hn) (flSem_rcv_ag hn) (dest_WW (dir n) c)) $$ [Hl Hs Ht]
  · isplitr; · iexact Hcx
    isplitl [Hl]; · iexact Hl
    isplitl [Hs]; · iexact Hs
    iexact Ht
  iintro ⟨Hd, Ht⟩
  iapply Hk
  isplitl [Hd]; · iexact Hd
  isplitl [Hpast]; · iexact Hpast
  isplitl [Hr]; · iexists _; iexact Hr
  isplitl [Ho]; · iexact Ho
  iexact Ht

/-- Storing what has arrived in the all-gather. -/
theorem copy_out {Q : PUnit → sProp 𝕄} {n : ℕ} (hn : 128 ≤ n) (hn' : n < 248) {q : PosShare TreeShare} {k : Pr F} :
    iprop(owns (c : Thread nD τ) (slab (BB.ag (dir (n - 8))) (n - 8)) q (rcvV xs ws c (n - 8)) ∗ res xs ws n c)
      ⊢ iprop(((owns (c : Thread nD τ) (slab (BB.ag (dir (n - 8))) (n - 8)) q (rcvV xs ws c (n - 8)) ∗ res xs ws (n + 1) c) -∗ runs c k Q)
        -∗ runs c (copyOut BB (WW c) (n - 8) k) Q) := by
  have hd := dir_sub8 (show 8 ≤ n by omega)
  have hm := mcol_sub8 (show 8 ≤ n by omega)
  have hw : rowOf (hop (dir (n - 8)) (WW c).v0 ((n - 8) % 120 / 8)) = 128 * chunk (dir n) c ((n - 128) / 8) := by
    have h := rowOf_hop (dir (n - 8)) c ((n - 128) / 8) (by omega)
    rw [hd] at h
    rw [hd, show (n - 8) % 120 / 8 = (n - 128) / 8 by omega]; exact h
  have hb := inb_sub8 (show 8 ≤ n by omega) ((WW c).inbHop (n - 8) ((n - 8) % 120 / 8) (by omega))
  have hr := rTile_sub8 (show 8 ≤ n by omega) (w := hop (dir (n - 8)) (WW c).v0 ((n - 8) % 120 / 8))
    (h := (WW c).inbHop (n - 8) ((n - 8) % 120 / 8) (by omega)) (h' := hb)
  unfold res copyOut loadSlab loadOut storeOut
  iintro ⟨Hr, Ho⟩ Hk
  iapply load_slab $$ [Hr]
  · iexact Hr
  iintro %v %hv Hr
  iapply load_owns $$ [Ho]
  · iexact Ho
  iintro Ho
  iapply (store_owns (outv xs ws (n + 1) c) (fun j => by
      have h1 : outv xs ws (n + 1) c ((rTile (n - 8) (hop (dir (n - 8)) (WW c).v0 ((n - 8) % 120 / 8))
          ((WW c).inbHop (n - 8) ((n - 8) % 120 / 8) (by omega))).emb j) = finv xs ws c (dir n) (mcol n) ((n - 128) / 8) j :=
        (congrArg (outv xs ws (n + 1) c) ((rTile_emb (ρ := chunk (dir n) c ((n - 128) / 8)) hw (chunk_lt _ _ _) j).trans (by rw [hm]))).trans
          (outv_after xs ws (by omega) (by omega) (by omega) j)
      refine h1.trans (congrFun ((finv_ag xs ws c hn hn').trans ?_) j)
      unfold payExt
      rw [hv])
    (fun i hi => outv_off xs ws (h := hb) hw (by omega) (by omega) (by omega) i (by rw [← hr]; exact hi))) $$ [Ho]
  · iexact Ho
  iintro Ho
  iapply Hk
  isplitl [Hr]; · iexact Hr
  iexact Ho

theorem kept_late {n : ℕ} (h : 128 ≤ n) :
    kept (F := F) c (n - 8) = anyOn c (slab (BB.ag (dir (n - 8))) (n - 8)) fullShare.right := kept_ag (by omega)
theorem srcAt_late {n : ℕ} (h : 128 ≤ n) (X) :
    srcAt (F := F) c n X = owns (c : Thread nD τ) (slab (BB.ag (dir (n - 8))) (n - 8)) fullShare.left X := by
  rw [srcAt_ag h, dir_sub8 (by omega)]

theorem recv_late {n : ℕ} (h : 128 ≤ n) :
    recvPay xs ws c (n - 8) = owns (c : Thread nD τ) (slab (BB.ag (dir (n - 8))) (n - 8)) fullShare (rcvV xs ws c (n - 8)) :=
  recvPay_ag xs ws (by omega)

/-- A later hop of it, once the wait is over: what arrived is sent on from one half of the share and stored from the other. -/
theorem pass_on {Q : PUnit → sProp 𝕄} {n : ℕ} (hn : 128 ≤ n) (hn' : n < 240) {k : Pr F} :
    iprop(cx xs ws K ∗ rdy c n ∗ past true c (n - 8) ∗ tide c n
        ∗ owns (c : Thread nD τ) (slab (BB.ag (dir (n - 8))) (n - 8)) fullShare (rcvV xs ws c (n - 8)) ∗ res xs ws n c)
      ⊢ iprop(((due false c n ∗ past true c (n - 8) ∗ kept c (n - 8) ∗ res xs ws (n + 1) c ∗ tide c (n + 1)) -∗ runs c k Q)
        -∗ runs c (sendAG BB (WW c) n (copyOut BB (WW c) (n - 8) k)) Q) := by
  have hd := dir_sub8 (show 8 ≤ n by omega)
  unfold rdy sendAG
  rw [kept_late hn, ← sndV_ag xs ws hn]
  iintro ⟨#Hcx, ⟨-, Hl⟩, Hpast, Ht, Hr, Ho⟩ Hk
  icases (owns_halves (c : Thread nD τ) _ fullShare (sndV xs ws c n)).mp $$ Hr with ⟨Hr, Hr'⟩
  iapply (send xs ws K hn' (q := fullShare.left) (src := slab (BB.ag (dir n)) (n - 8)) (srcAt_ag hn _) (dstM_ag (show 120 ≤ n by omega)).symm
    (flSem_snd_ag (by omega)) (flSem_rcv_ag (by omega)) (dest_WW (dir n) c)) $$ [Hl Hr Ht]
  · isplitr; · iexact Hcx
    isplitl [Hl]; · iexact Hl
    isplitl [Hr]; · rw [hd]; iexact Hr
    iexact Ht
  iintro ⟨Hd, Ht⟩
  iapply (copy_out xs ws (q := fullShare.right) hn (show n < 248 by omega)) $$ [Hr' Ho]
  · rw [← sndV_ag xs ws hn]
    isplitl [Hr']; · iexact Hr'
    iexact Ho
  iintro ⟨Hr', Ho⟩
  iapply Hk
  isplitl [Hd]; · iexact Hd
  isplitl [Hpast]; · iexact Hpast
  isplitl [Hr']; · iexists _; iexact Hr'
  isplitl [Ho]; · iexact Ho
  iexact Ht

/-- The second hop of the all-gather. -/
theorem step_D0 {Q : PUnit → sProp 𝕄} {n : ℕ} (hn : 128 ≤ n) (hn' : n < 136) {k : Pr F} :
    iprop(cx xs ws K ∗ rdy c n ∗ due true c (n - 8) ∗ res xs ws n c ∗ tide c n)
      ⊢ iprop(((due false c n ∗ past true c (n - 8) ∗ kept c (n - 8) ∗ res xs ws (n + 1) c ∗ tide c (n + 1)) -∗ runs c k Q)
        -∗ runs c (stepD0 BB (WW c) n k) Q) := by
  unfold stepD0 waitAG0
  iintro ⟨#Hcx, Hy, Hd, Ho, Ht⟩ Hk
  iapply (wait_rcv xs ws K (show n - 8 < 240 by omega) (show n - 8 < n by omega) (flSem_rcv_ag (show 120 ≤ n - 8 by omega))
    (credit_ag (n - 8) (n - 8)) (recv_late xs ws hn)) $$ [Hd Ht]
  · isplitr; · iexact Hcx
    isplitl [Hd]; · iexact Hd
    iexact Ht
  iintro ⟨Hpast, Ht, Hr⟩
  iapply (pass_on xs ws K hn (show n < 240 by omega)) $$ [Hy Hpast Ht Hr Ho]
  · isplitr; · iexact Hcx
    isplitl [Hy]; · iexact Hy
    isplitl [Hpast]; · iexact Hpast
    isplitl [Ht]; · iexact Ht
    isplitl [Hr]; · iexact Hr
    iexact Ho
  iexact Hk

/-- A later hop of it. -/
theorem step_D {Q : PUnit → sProp 𝕄} {n : ℕ} (hn : 136 ≤ n) (hn' : n < 240) {k : Pr F} :
    iprop(cx xs ws K ∗ rdy c n ∗ due true c (n - 8) ∗ res xs ws n c ∗ tide c n)
      ⊢ iprop(((due false c n ∗ past true c (n - 8) ∗ kept c (n - 8) ∗ res xs ws (n + 1) c ∗ tide c (n + 1)) -∗ runs c k Q)
        -∗ runs c (stepD BB (WW c) n k) Q) := by
  unfold stepD waitAG
  iintro ⟨#Hcx, Hy, Hd, Ho, Ht⟩ Hk
  iapply (wait_rcv xs ws K (show n - 8 < 240 by omega) (show n - 8 < n by omega) (flSem_rcv_ag (show 120 ≤ n - 8 by omega))
    (credit_ag (n - 8) (n - 8)) (recv_late xs ws (show 128 ≤ n by omega))) $$ [Hd Ht]
  · isplitr; · iexact Hcx
    isplitl [Hd]; · iexact Hd
    iexact Ht
  iintro ⟨Hpast, Ht, Hr⟩
  iapply (pass_on xs ws K (show 128 ≤ n by omega) hn') $$ [Hy Hpast Ht Hr Ho]
  · isplitr; · iexact Hcx
    isplitl [Hy]; · iexact Hy
    isplitl [Hpast]; · iexact Hpast
    isplitl [Ht]; · iexact Ht
    isplitl [Hr]; · iexact Hr
    iexact Ho
  iexact Hk

/-- The arrival of its last hop. -/
theorem step_E {Q : PUnit → sProp 𝕄} {n : ℕ} (hn : 240 ≤ n) (hn' : n < 248) {k : Pr F} :
    iprop(cx xs ws K ∗ due true c (n - 8) ∗ res xs ws n c ∗ tide c 240)
      ⊢ iprop(((srcIs c n ∗ past true c (n - 8) ∗ kept c (n - 8) ∗ res xs ws (n + 1) c ∗ tide c 240) -∗ runs c k Q)
        -∗ runs c (stepE BB (WW c) n k) Q) := by
  have hl : 128 ≤ n := by omega
  have e : (srcIs c n : sProp 𝕄) = anyOn c (slab (BB.ag (dir (n - 8))) (n - 8)) fullShare.left := by
    unfold srcIs
    simp only [srcAt_late hl]
  unfold stepE waitAG
  rw [e, kept_late hl]
  iintro ⟨#Hcx, Hd, Ho, Ht⟩ Hk
  iapply (wait_rcv xs ws K (show n - 8 < 240 by omega) (show n - 8 < 240 by omega) (flSem_rcv_ag (show 120 ≤ n - 8 by omega))
    (credit_ag (n - 8) (n - 8)) (recv_late xs ws hl)) $$ [Hd Ht]
  · isplitr; · iexact Hcx
    isplitl [Hd]; · iexact Hd
    iexact Ht
  iintro ⟨Hpast, Ht, Hr⟩
  iapply (copy_out xs ws (q := fullShare) hl hn') $$ [Hr Ho]
  · isplitl [Hr]; · iexact Hr
    iexact Ho
  iintro ⟨Hr, Ho⟩
  icases (owns_halves (c : Thread nD τ) _ fullShare (rcvV xs ws c (n - 8))).mp $$ Hr with ⟨Hr, Hr'⟩
  iapply Hk
  isplitl [Hr]; · iexists _; iexact Hr
  isplitl [Hpast]; · iexact Hpast
  isplitl [Hr']; · iexists _; iexact Hr'
  isplitl [Ho]; · iexact Ho
  iexact Ht

/-! ## Waiting for the sends -/

theorem done_RS {Q : PUnit → sProp 𝕄} {n : ℕ} (hn : n < 120) {k : Pr F} :
    iprop(cx xs ws K ∗ due false c n ∗ tide c 240)
      ⊢ iprop(((past false c n ∗ tide c 240 ∗ srcIs c n) -∗ runs c k Q) -∗ runs c (doneRS BB n k) Q) := by
  unfold doneRS srcIs
  iintro H Hk
  iapply (wait_snd xs ws K (show n < 240 by omega) (flSem_snd_rs hn) (credit_sd n n) rfl) $$ [H]
  · iexact H
  iintro ⟨Hp, Ht, Hs⟩
  iapply Hk
  isplitl [Hp]; · iexact Hp
  isplitl [Ht]; · iexact Ht
  iexists _; unfold sendPay; iexact Hs

theorem done_AG0 {Q : PUnit → sProp 𝕄} {n : ℕ} (hn : 120 ≤ n) (hn' : n < 128) {k : Pr F} :
    iprop(cx xs ws K ∗ due false c n ∗ tide c 240)
      ⊢ iprop(((past false c n ∗ tide c 240 ∗ srcIs c n) -∗ runs c k Q) -∗ runs c (doneAG0 BB n k) Q) := by
  unfold doneAG0 srcIs
  iintro H Hk
  iapply (wait_snd xs ws K (show n < 240 by omega) (flSem_snd_ag hn) (credit_own n n) rfl) $$ [H]
  · iexact H
  iintro ⟨Hp, Ht, Hs⟩
  iapply Hk
  isplitl [Hp]; · iexact Hp
  isplitl [Ht]; · iexact Ht
  iexists _; unfold sendPay; iexact Hs

theorem done_AG {Q : PUnit → sProp 𝕄} {n : ℕ} (hn : 128 ≤ n) (hn' : n < 240) {k : Pr F} :
    iprop(cx xs ws K ∗ due false c n ∗ tide c 240)
      ⊢ iprop(((past false c n ∗ tide c 240 ∗ srcIs c n) -∗ runs c k Q) -∗ runs c (doneAG BB n k) Q) := by
  unfold doneAG srcIs
  iintro H Hk
  iapply (wait_snd xs ws K hn' (flSem_snd_ag (show 120 ≤ n by omega)) (credit_ag n (n - 8)) rfl) $$ [H]
  · iexact H
  iintro ⟨Hp, Ht, Hs⟩
  iapply Hk
  isplitl [Hp]; · iexact Hp
  isplitl [Ht]; · iexact Ht
  iexists _; unfold sendPay; iexact Hs

end Cert.KernelIdeal.Ring
-- ==== Proof.Loops.lean ====
/- The macro-steps one after another: what a device holds before each, and the whole run of them. -/
module

public import proofs.«01_k».proof.Proof.Steps
public import Idealize.SL.BI.BigOpNat

@[expose] public section

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal
open Facts₀ Facts

variable {F : FTy → Type} [FloatOps F]

local notation "𝕄" => MT nD τ sig Unit (Elt F) ℕ UU ℕ

variable (xs : Dev nD → Vec F S2048x128 .bf16) (ws : Dev nD → Vec F S128x2048 .bf16)

/-- A transfer that has arrived and been read, and one whose sending is over. -/
def got (c : Dev nD) (n : ℕ) : sProp 𝕄 := iprop(past true c n ∗ kept c n)
def fin (c : Dev nD) (n : ℕ) : sProp 𝕄 := iprop(past false c n ∗ srcIs c n)

/-- What device `c` holds before step `n`, while it still sends. -/
def St (c : Dev nD) (n : ℕ) : sProp 𝕄 :=
  iprop(bigSep (Finset.Ico n 240) (rdy c) ∗ bigSep (Finset.Ico 0 n) (due false c) ∗ bigSep (Finset.Ico (n - 8) 240) (due true c)
    ∗ bigSep (Finset.Ico 0 (n - 8)) (got c) ∗ (prt xs ws c ∗ res xs ws n c) ∗ tide c n)

/-- The same while it only receives. -/
def Se (c : Dev nD) (n : ℕ) : sProp 𝕄 :=
  iprop(bigSep (Finset.Ico 0 240) (due false c) ∗ bigSep (Finset.Ico (n - 8) 240) (due true c) ∗ bigSep (Finset.Ico 0 (n - 8)) (got c)
    ∗ bigSep (Finset.Ico 240 n) (srcIs c) ∗ prt xs ws c ∗ res xs ws n c ∗ tide c 240)

/-- The same while it waits for its sends, `R` what it does not touch. -/
def Sd (R : sProp 𝕄) (c : Dev nD) (n : ℕ) : sProp 𝕄 :=
  iprop(bigSep (Finset.Ico n 240) (due false c) ∗ bigSep (Finset.Ico 0 n) (fin c) ∗ tide c 240 ∗ R)

variable {c : Dev nD} (K : GSem nD τ sig → ℕ)

/-- A run of steps, each of which takes one state to the next. -/
theorem times_run {Q : PUnit → sProp 𝕄} {f : ℕ → Pr F → Pr F} (S : ℕ → sProp 𝕄) : ∀ (m a : ℕ)
    (_ : ∀ n, a ≤ n → n < a + m → ∀ k : Pr F, iprop(cx xs ws K ∗ S n) ⊢ iprop((S (n + 1) -∗ runs c k Q) -∗ runs c (f n k) Q)) (k : Pr F),
    iprop(cx xs ws K ∗ S a) ⊢ iprop((S (a + m) -∗ runs c k Q) -∗ runs c (times f a m k) Q)
  | 0, a, _, k => by
    iintro ⟨-, H⟩ Hk
    iapply Hk
    iexact H
  | m + 1, a, h, k => by
    have h0 := h a le_rfl (by omega) (times f (a + 1) m k)
    have ih := times_run S m (a + 1) (fun n hn hn' => h n (by omega) (by omega)) k
    rw [show a + 1 + m = a + (m + 1) by omega] at ih
    iintro ⟨#Hcx, H⟩ Hk
    iapply h0 $$ [H]
    · isplitr; · iexact Hcx
      iexact H
    iintro H
    iapply ih $$ [H]
    · isplitr; · iexact Hcx
      iexact H
    iexact Hk

theorem res_early {n : ℕ} (h : n < 120) : res xs ws (n + 1) c = res xs ws n c := by
  unfold res; rw [outv_start xs ws c (by omega), outv_start xs ws c (by omega)]

/-- A step that takes nothing up. -/
theorem lift_A {Q : PUnit → sProp 𝕄} {n : ℕ} (hn : n < 8) (k : Pr F) :
    iprop(cx xs ws K ∗ St xs ws c n) ⊢ iprop((St xs ws c (n + 1) -∗ runs c k Q) -∗ runs c (stepA BB (WW c) n k) Q) := by
  unfold St
  rw [bigSep_Ico_succ_bot (show n < 240 by omega), bigSep_Ico_succ_top (Nat.zero_le n), show n + 1 - 8 = n - 8 by omega,
    res_early xs ws (show n < 120 by omega)]
  iintro ⟨#Hcx, ⟨Hr, Hrs⟩, Hd, He, Hg, ⟨Hp, Ho⟩, Ht⟩ Hk
  iapply (step_A xs ws K hn) $$ [Hr Hp Ht]
  · isplitr; · iexact Hcx
    isplitl [Hr]; · iexact Hr
    isplitl [Hp]; · iexact Hp
    iexact Ht
  iintro ⟨Hd', Hp, Ht⟩
  iapply Hk
  isplitl [Hrs]; · iexact Hrs
  isplitl [Hd Hd']
  · isplitl [Hd']; · iexact Hd'
    iexact Hd
  isplitl [He]; · iexact He
  isplitl [Hg]; · iexact Hg
  isplitl [Hp Ho]
  · isplitl [Hp]; · iexact Hp
    iexact Ho
  iexact Ht

/-- A step that takes up the transfer eight before it, through the part `A` of what the device computes with. -/
theorem lift_mid {Q : PUnit → sProp 𝕄} {f : ℕ → Pr F → Pr F} {n : ℕ} (hn : 8 ≤ n) (hn' : n < 240) (k : Pr F) {A B R : sProp 𝕄}
    (hstep : iprop(cx xs ws K ∗ rdy c n ∗ due true c (n - 8) ∗ A ∗ tide c n)
      ⊢ iprop(((due false c n ∗ past true c (n - 8) ∗ kept c (n - 8) ∗ B ∗ tide c (n + 1)) -∗ runs c k Q) -∗ runs c (f n k) Q))
    (hA : iprop(prt xs ws c ∗ res xs ws n c) ⊢ iprop(A ∗ R)) (hB : iprop(B ∗ R) ⊢ iprop(prt xs ws c ∗ res xs ws (n + 1) c)) :
    iprop(cx xs ws K ∗ St xs ws c n) ⊢ iprop((St xs ws c (n + 1) -∗ runs c k Q) -∗ runs c (f n k) Q) := by
  unfold St
  rw [bigSep_Ico_succ_bot (show n < 240 by omega), bigSep_Ico_succ_top (Nat.zero_le n), show n + 1 - 8 = n - 8 + 1 by omega,
    bigSep_Ico_succ_bot (show n - 8 < 240 by omega), bigSep_Ico_succ_top (Nat.zero_le (n - 8))]
  iintro ⟨#Hcx, ⟨Hr, Hrs⟩, Hd, ⟨He, Hes⟩, Hg, Hc, Ht⟩ Hk
  icases hA $$ Hc with ⟨HA, HR⟩
  iapply hstep $$ [Hr He HA Ht]
  · isplitr; · iexact Hcx
    isplitl [Hr]; · iexact Hr
    isplitl [He]; · iexact He
    isplitl [HA]; · iexact HA
    iexact Ht
  iintro ⟨Hd', Hpast, Hkept, HB, Ht⟩
  iapply Hk
  isplitl [Hrs]; · iexact Hrs
  isplitl [Hd Hd']
  · isplitl [Hd']; · iexact Hd'
    iexact Hd
  isplitl [Hes]; · iexact Hes
  isplitl [Hg Hpast Hkept]
  · isplitl [Hpast Hkept]
    · unfold got
      isplitl [Hpast]; · iexact Hpast
      iexact Hkept
    iexact Hg
  isplitl [HB HR]
  · iapply hB
    isplitl [HB]; · iexact HB
    iexact HR
  iexact Ht

theorem lift_B {Q : PUnit → sProp 𝕄} {n : ℕ} (hn : 8 ≤ n) (hn' : n < 120) (k : Pr F) :
    iprop(cx xs ws K ∗ St xs ws c n) ⊢ iprop((St xs ws c (n + 1) -∗ runs c k Q) -∗ runs c (stepB BB (WW c) n k) Q) :=
  lift_mid xs ws K hn (by omega) k (R := res xs ws n c) (step_B xs ws K hn hn')
    (by iintro H; iexact H) (by rw [res_early xs ws hn'])

theorem swap_res (n : ℕ) : iprop(prt xs ws c ∗ res xs ws n c) ⊢ iprop(res xs ws n c ∗ prt xs ws c) := by
  iintro ⟨H, H'⟩
  isplitl [H']; · iexact H'
  iexact H
theorem swap_prt (n : ℕ) : iprop(res xs ws n c ∗ prt xs ws c) ⊢ iprop(prt xs ws c ∗ res xs ws n c) := by
  iintro ⟨H, H'⟩
  isplitl [H']; · iexact H'
  iexact H

theorem lift_C {Q : PUnit → sProp 𝕄} {n : ℕ} (hn : 120 ≤ n) (hn' : n < 128) (k : Pr F) :
    iprop(cx xs ws K ∗ St xs ws c n) ⊢ iprop((St xs ws c (n + 1) -∗ runs c k Q) -∗ runs c (stepC BB (WW c) n k) Q) :=
  lift_mid xs ws K (by omega) (by omega) k (step_C xs ws K hn hn') (swap_res xs ws n) (swap_prt xs ws (n + 1))

theorem lift_D0 {Q : PUnit → sProp 𝕄} {n : ℕ} (hn : 128 ≤ n) (hn' : n < 136) (k : Pr F) :
    iprop(cx xs ws K ∗ St xs ws c n) ⊢ iprop((St xs ws c (n + 1) -∗ runs c k Q) -∗ runs c (stepD0 BB (WW c) n k) Q) :=
  lift_mid xs ws K (by omega) (by omega) k (step_D0 xs ws K hn hn') (swap_res xs ws n) (swap_prt xs ws (n + 1))

theorem lift_D {Q : PUnit → sProp 𝕄} {n : ℕ} (hn : 136 ≤ n) (hn' : n < 240) (k : Pr F) :
    iprop(cx xs ws K ∗ St xs ws c n) ⊢ iprop((St xs ws c (n + 1) -∗ runs c k Q) -∗ runs c (stepD BB (WW c) n k) Q) :=
  lift_mid xs ws K (by omega) (by omega) k (step_D xs ws K hn hn') (swap_res xs ws n) (swap_prt xs ws (n + 1))

theorem lift_E {Q : PUnit → sProp 𝕄} {n : ℕ} (hn : 240 ≤ n) (hn' : n < 248) (k : Pr F) :
    iprop(cx xs ws K ∗ Se xs ws c n) ⊢ iprop((Se xs ws c (n + 1) -∗ runs c k Q) -∗ runs c (stepE BB (WW c) n k) Q) := by
  unfold Se
  rw [show n + 1 - 8 = n - 8 + 1 by omega, bigSep_Ico_succ_bot (show n - 8 < 240 by omega), bigSep_Ico_succ_top (Nat.zero_le (n - 8)),
    bigSep_Ico_succ_top hn]
  iintro ⟨#Hcx, Hd, ⟨He, Hes⟩, Hg, Hl, Hp, Ho, Ht⟩ Hk
  iapply (step_E xs ws K hn hn') $$ [He Ho Ht]
  · isplitr; · iexact Hcx
    isplitl [He]; · iexact He
    isplitl [Ho]; · iexact Ho
    iexact Ht
  iintro ⟨Hl', Hpast, Hkept, Ho, Ht⟩
  iapply Hk
  isplitl [Hd]; · iexact Hd
  isplitl [Hes]; · iexact Hes
  isplitl [Hg Hpast Hkept]
  · isplitl [Hpast Hkept]
    · unfold got
      isplitl [Hpast]; · iexact Hpast
      iexact Hkept
    iexact Hg
  isplitl [Hl Hl']
  · isplitl [Hl']; · iexact Hl'
    iexact Hl
  isplitl [Hp]; · iexact Hp
  isplitl [Ho]; · iexact Ho
  iexact Ht

theorem lift_done {Q : PUnit → sProp 𝕄} {f : ℕ → Pr F → Pr F} {R : sProp 𝕄} {n : ℕ} (hn : n < 240) (k : Pr F)
    (hstep : iprop(cx xs ws K ∗ due false c n ∗ tide c 240)
      ⊢ iprop(((past false c n ∗ tide c 240 ∗ srcIs c n) -∗ runs c k Q) -∗ runs c (f n k) Q)) :
    iprop(cx xs ws K ∗ Sd R c n) ⊢ iprop((Sd R c (n + 1) -∗ runs c k Q) -∗ runs c (f n k) Q) := by
  unfold Sd
  rw [bigSep_Ico_succ_bot hn, bigSep_Ico_succ_top (Nat.zero_le n)]
  iintro ⟨#Hcx, ⟨Hd, Hds⟩, Hf, Ht, HR⟩ Hk
  iapply hstep $$ [Hd Ht]
  · isplitr; · iexact Hcx
    isplitl [Hd]; · iexact Hd
    iexact Ht
  iintro ⟨Hp, Ht, Hs⟩
  iapply Hk
  isplitl [Hds]; · iexact Hds
  isplitl [Hf Hp Hs]
  · isplitl [Hp Hs]
    · unfold fin
      isplitl [Hp]; · iexact Hp
      iexact Hs
    iexact Hf
  isplitl [Ht]; · iexact Ht
  iexact HR

/-- All that a device holds when every wait is over. -/
def End (c : Dev nD) : sProp 𝕄 :=
  iprop(bigSep (Finset.Ico 0 240) (fin c) ∗ bigSep (Finset.Ico 0 240) (got c) ∗ bigSep (Finset.Ico 240 248) (srcIs c)
    ∗ prt xs ws c ∗ owns (c : Thread nD τ) BB.out fullShare (done xs ws c) ∗ ∃ W, owes (c : Thread nD τ) 0 W)

/-- The last of the steps leaves what the waits for the sends start from. -/
theorem turn : Se xs ws c 248 ⊢ Sd iprop(bigSep (Finset.Ico 0 240) (got c) ∗ bigSep (Finset.Ico 240 248) (srcIs c)
    ∗ prt xs ws c ∗ owns (c : Thread nD τ) BB.out fullShare (done xs ws c)) c 0 := by
  unfold Se Sd res
  rw [outv_end, show 248 - 8 = 240 by omega]
  iintro ⟨Hd, -, Hg, Hl, Hp, Ho, Ht⟩
  isplitl [Hd]; · iexact Hd
  isplitr
  · rw [Finset.Ico_self, bigSep_empty]; iempintro
  isplitl [Ht]; · iexact Ht
  isplitl [Hg]; · iexact Hg
  isplitl [Hl]; · iexact Hl
  isplitl [Hp]; · iexact Hp
  iexact Ho

theorem settle : Sd iprop(bigSep (Finset.Ico 0 240) (got c) ∗ bigSep (Finset.Ico 240 248) (srcIs c)
    ∗ prt xs ws c ∗ owns (c : Thread nD τ) BB.out fullShare (done xs ws c)) c 240 ⊢ End xs ws c := by
  unfold Sd End tide
  rw [owing_end le_rfl]
  iintro ⟨-, Hf, Ht, Hg, Hl, Hp, Ho⟩
  isplitl [Hf]; · iexact Hf
  isplitl [Hg]; · iexact Hg
  isplitl [Hl]; · iexact Hl
  isplitl [Hp]; · iexact Hp
  isplitl [Ho]; · iexact Ho
  iexact Ht

theorem St_Se : St xs ws c 240 ⊢ Se xs ws c 240 := by
  unfold St Se
  iintro ⟨-, Hd, He, Hg, ⟨Hp, Ho⟩, Ht⟩
  isplitl [Hd]; · iexact Hd
  isplitl [He]; · iexact He
  isplitl [Hg]; · iexact Hg
  isplitr
  · rw [Finset.Ico_self, bigSep_empty]; iempintro
  isplitl [Hp]; · iexact Hp
  isplitl [Ho]; · iexact Ho
  iexact Ht

/-- All the steps, from the handshake on. -/
theorem run_steps {Q : PUnit → sProp 𝕄} (k : Pr F) :
    iprop(cx xs ws K ∗ St xs ws c 0)
      ⊢ iprop((End xs ws c -∗ runs c k Q)
        -∗ runs c (times (stepA BB (WW c)) 0 8 <| times (stepB BB (WW c)) 8 112 <| times (stepC BB (WW c)) 120 8 <|
            times (stepD0 BB (WW c)) 128 8 <| times (stepD BB (WW c)) 136 104 <| times (stepE BB (WW c)) 240 8 <|
            times (doneRS BB) 0 120 <| times (doneAG0 BB) 120 8 <| times (doneAG BB) 128 112 k) Q) := by
  iintro ⟨#Hcx, H⟩ Hk
  iapply (times_run xs ws K (St xs ws c) 8 0 (fun n _ h k => lift_A xs ws K (by omega) k) _) $$ [H]
  · isplitr; · iexact Hcx
    iexact H
  iintro H
  iapply (times_run xs ws K (St xs ws c) 112 8 (fun n h h' k => lift_B xs ws K h (by omega) k) _) $$ [H]
  · isplitr; · iexact Hcx
    iexact H
  iintro H
  iapply (times_run xs ws K (St xs ws c) 8 120 (fun n h h' k => lift_C xs ws K h (by omega) k) _) $$ [H]
  · isplitr; · iexact Hcx
    iexact H
  iintro H
  iapply (times_run xs ws K (St xs ws c) 8 128 (fun n h h' k => lift_D0 xs ws K h (by omega) k) _) $$ [H]
  · isplitr; · iexact Hcx
    iexact H
  iintro H
  iapply (times_run xs ws K (St xs ws c) 104 136 (fun n h h' k => lift_D xs ws K h (by omega) k) _) $$ [H]
  · isplitr; · iexact Hcx
    iexact H
  iintro H
  iapply (times_run xs ws K (Se xs ws c) 8 240 (fun n h h' k => lift_E xs ws K h (by omega) k) _) $$ [H]
  · isplitr; · iexact Hcx
    iapply (St_Se xs ws); iexact H
  iintro H
  iapply (times_run xs ws K (Sd _ c) 120 0 (fun n h h' k => lift_done xs ws K (by omega) k (done_RS xs ws K (by omega))) _) $$ [H]
  · isplitr; · iexact Hcx
    iapply (turn xs ws); iexact H
  iintro H
  iapply (times_run xs ws K (Sd _ c) 8 120 (fun n h h' k => lift_done xs ws K (by omega) k (done_AG0 xs ws K h (by omega))) _) $$ [H]
  · isplitr; · iexact Hcx
    iexact H
  iintro H
  iapply (times_run xs ws K (Sd _ c) 112 128 (fun n h h' k => lift_done xs ws K (by omega) k (done_AG xs ws K h (by omega))) _) $$ [H]
  · isplitr; · iexact Hcx
    iexact H
  iintro H
  iapply Hk
  iapply (settle xs ws); iexact H

end Cert.KernelIdeal.Ring
-- ==== Proof.Start.lean ====
/- The start of the body: the table, the handshake with both neighbours, the device's own product; then the whole body. -/
module

public import proofs.«01_k».proof.Proof.Loops

@[expose] public section

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal
open Facts₀ Facts

variable {F : FTy → Type} [FloatOps F]

local notation "𝕄" => MT nD τ sig Unit (Elt F) ℕ UU ℕ

/-- The table on device `c`: its place in the ring and its neighbours. -/
def metaV (c : Dev nD) : Vec F S3 .i32 := fun i =>
  if (i 0).val = 0 then posW c else if (i 0).val = 1 then rightW c else leftW c

theorem meta_at (c : Dev nD) (k : ℕ) {h} (j : S1.Idx) :
    metaV (F := F) c ((Rect.unit (s := S3) ![k] S1.size h).emb j) = if k = 0 then posW c else if k = 1 then rightW c else leftW c := by
  have hv : ((Rect.unit (s := S3) ![k] S1.size h).emb j 0).val = k := by
    have hj : (j 0).val < 1 := (j 0).isLt
    show k + 1 * (j 0).val = k
    omega
  unfold metaV
  rw [hv]

section Rules
variable {c : Dev nD}

theorem load_word {Q : PUnit → sProp 𝕄} {m : Memref sig .tc .smem S3 .i32} {r : Rect S3} {h1 : r.shape.numel = 1} {hp} {k : BitVec 32 → Pr F}
    {q : PosShare TreeShare} {X : Vec F S3 .i32} {w : BitVec 32} (hX : ∀ j, X (r.emb j) = w) :
    (owns (c : Thread nD τ) m q X : sProp 𝕄)
      ⊢ iprop((owns (c : Thread nD τ) m q X -∗ runs c (k w) Q) -∗ runs c (smemLoad m r h1 hp >>= k) Q) := by
  have h := load_owns (F := F) (sp := .smem) (c := c) (Q := Q) (m := m) (r := r) (hl := View.loadsAt_rect (View.loads_smem_one hp h1)) (q := q) (X := X)
    (k := fun f => k (f (Shape.Idx.first (h1.symm ▸ Nat.one_pos))))
  simp only [hX] at h
  exact h

theorem whole_emb {s : Shape} {o : Fin s.rank → ℕ} (ho : ∀ a, o a = 0) {h} (j : s.Idx) : (Rect.unit (s := s) o s.size h).emb j = j := by
  funext a
  apply Fin.ext
  show o a + 1 * (j a).val = (j a).val
  rw [ho, Nat.zero_add, Nat.one_mul]

theorem whole_fun {s : Shape} {α : Type} {o : Fin s.rank → ℕ} (ho : ∀ a, o a = 0) {h} (X : s.Idx → α) :
    (fun j => X ((Rect.unit (s := s) o s.size h).emb j)) = X := funext fun j => congrArg X (whole_emb ho j)

theorem whole_mem {s : Shape} {o : Fin s.rank → ℕ} (ho : ∀ a, o a = 0) {h} (i : s.Idx) : i ∈ (Rect.unit (s := s) o s.size h).set := by
  refine Rect.mem_set_unit.mpr fun a => ?_
  rw [ho]
  have := (i a).isLt
  omega

theorem zero2 : ∀ a : Fin 2, (![0, 0] : Fin 2 → ℕ) a = 0 := by decide

end Rules

variable (xs : Dev nD → Vec F S2048x128 .bf16) (ws : Dev nD → Vec F S128x2048 .bf16)
variable {c : Dev nD} (K : GSem nD τ sig → ℕ)

/-- A place where transfer `n` lands on device `c`, and that its semaphore is in use. -/
def land (c : Dev nD) (n : ℕ) : sProp 𝕄 := iprop(anyOn c (dstM n) fullShare ∗ reached ER (fl true c n) 0)

/-- The same on the neighbour that `c` sends to. -/
def there (c : Dev nD) (n : ℕ) : sProp 𝕄 := iprop(anyOn (nbr (dir n) c) (dstM n) fullShare ∗ reached ER (fl true (nbr (dir n) c) n) 0)

theorem barOne_out (d : Bool) (n : ℕ) : (barOne (nbr d c) (!d) n : sProp 𝕄) = if dir n = !d then land c n else iprop(emp) := by
  unfold barOne land
  rw [nbr_nbr']

theorem land_one (n : ℕ) : (land c n : sProp 𝕄) ⊢ iprop(barOne (nbr true c) false n ∗ barOne (nbr false c) true n) := by
  rw [show (barOne (nbr true c) false n : sProp 𝕄) = _ from barOne_out true n, show (barOne (nbr false c) true n : sProp 𝕄) = _ from barOne_out false n]
  cases dir n
  · rw [if_pos (by decide), if_neg (by decide)]
    iintro H
    isplitl [H]; · iexact H
    iempintro
  · rw [if_neg (by decide), if_pos (by decide)]
    iintro H
    isplitr; · iempintro
    iexact H

theorem land_split : (bigSep (Finset.Ico 0 240) (land c) : sProp 𝕄) ⊢ iprop(barPay (nbr true c) false ∗ barPay (nbr false c) true) := by
  unfold barPay
  rw [← bigSep_sep']
  exact bigSep_mono fun n _ => land_one n

theorem there_one (n : ℕ) : iprop(barOne c false n ∗ barOne c true n) ⊢ (there c n : sProp 𝕄) := by
  unfold barOne there
  cases h : dir n
  · rw [if_pos rfl, if_neg (by decide)]
    iintro ⟨H, -⟩
    iexact H
  · rw [if_neg (by decide), if_pos rfl]
    iintro ⟨-, H⟩
    iexact H

theorem there_join : iprop(barPay c false ∗ barPay c true) ⊢ (bigSep (Finset.Ico 0 240) (there c) : sProp 𝕄) := by
  unfold barPay
  rw [← bigSep_sep']
  exact bigSep_mono fun n _ => there_one n

/-- Signalling the neighbour in direction `d`. -/
theorem signal_bar {Q : PUnit → sProp 𝕄} (d : Bool) {c' : Dev nD} (hc : c' = nbr d c) {O : CellTallies nD τ sig Unit} {W : Waits sig Unit} {k : PUnit → Pr F} :
    iprop(cx xs ws K ∗ owes (c : Thread nD τ) (O + tallyAt (barCell (nbr d c)) () 1) W ∗ dutyTok ER (barCell (nbr d c)) 0 (!d)
        ∗ barPay (nbr d c) (!d) ∗ reached ER (barCell (nbr d c)) 0)
      ⊢ iprop((owes (c : Thread nD τ) O W -∗ runs c (k ⟨⟩) Q) -∗ runs c (semSignalWord c' barS 1#32 >>= k) Q) := by
  subst hc
  iintro ⟨#Hcx, HO, Ht, Hp, #Hr⟩ Hk
  iapply (Rounds.wp_signal 𝒱₀ ER (ring xs ws) (c : Thread nD τ) none (dst := (nbr d c : Thread nD τ)) (sem := barS) (r := 0) (d := !d) (k' := 1)
    (κ := K (barCell (nbr d c))) (by rw [duties_bar]; cases d <;> decide) (amount_bar xs ws (nbr d c) _) () O rfl (W := W)) $$ [HO Ht Hp]
  · isplitr; · iapply (cx_bar xs ws K (nbr d c)); iexact Hcx
    isplitl [HO]; · iexact HO
    isplitl [Ht]; · iexact Ht
    isplitl [Hp]; · rw [payload_bar]; iexact Hp
    iexact Hr
  iexact Hk

/-- Waiting for both. -/
theorem wait_bar {Q : PUnit → sProp 𝕄} {W : Waits sig Unit} {k : PUnit → Pr F} :
    iprop(cx xs ws K ∗ cred (tallyAt (barCell c) () 2) ∗ owes (c : Thread nD τ) (owing 0 c) W ∗ atPos ER (barCell c) 0 ∅ 0)
      ⊢ iprop(((tide c 0 ∗ atPos ER (barCell c) 1 ∅ 0 ∗ barPay c false ∗ barPay c true) -∗ runs c (k ⟨⟩) Q)
        -∗ runs c (semWaitWord barS 2#32 >>= k) Q) := by
  unfold tide
  iintro ⟨#Hcx, Hc, HO, Ha⟩ Hk
  iapply (Rounds.wp_wait_rest_token 𝒱₀ ER (ring xs ws) (c : Thread nD τ) none (κ := K (barCell c)) (k' := 2)
      (wpE_semWait_eq 𝒱₀ (c : Thread nD τ) none Set.univ) (Set.mem_univ _) () (O := owing 0 c) (W := W) (R := 0) (m := 0) (T := ∅)
      (by rw [Nat.zero_add, expect_bar])) $$ [Hc HO Ha]
  · isplitr; · iapply (cx_bar xs ws K c); iexact Hcx
    isplitl [Hc]; · iexact Hc
    isplitl [HO]; · iexact HO
    isplitr
    · unfold cx
      icases Hcx with ⟨-, Hl⟩
      iapply (mayWait_owing c (.reg barS) le_rfl)
      iexact Hl
    iexact Ha
  iintro ⟨HO, Ha, -, Hp⟩
  iapply Hk
  isplitl [HO]; · iexists _; iexact HO
  isplitl [Ha]; · iexact Ha
  iapply (Entails.of_eq (rest_bar xs ws c)); iexact Hp

/-- What a device starts with for transfer `n`: its tokens, and its positions at its own semaphore. -/
def toks (c : Dev nD) (n : ℕ) : sProp 𝕄 :=
  iprop(dutyTok ER (fl false c n) 0 false ∗ dutyTok ER (fl true (nbr (dir n) c) n) 0 false
    ∗ atPos ER (fl false c n) 0 ∅ 0 ∗ reached ER (fl false c n) 0)

/-- What it starts with for the handshake. -/
def shake (c : Dev nD) : sProp 𝕄 :=
  iprop(dutyTok ER (barCell (nbr true c)) 0 false ∗ dutyTok ER (barCell (nbr false c)) 0 true
    ∗ reached ER (barCell (nbr true c)) 0 ∗ reached ER (barCell (nbr false c)) 0
    ∗ cred (tallyAt (barCell c) () 2) ∗ atPos ER (barCell c) 0 ∅ 0 ∗ ∃ W, owes (c : Thread nD τ) (O₀ c) W)

/-- The operands, which the body only reads. -/
def opnds (q₀ q₁ q₂ : PosShare TreeShare) (c : Dev nD) : sProp 𝕄 :=
  iprop(owns (c : Thread nD τ) BB.mt q₀ (metaV c) ∗ owns (c : Thread nD τ) BB.x q₁ (xs c) ∗ owns (c : Thread nD τ) BB.w q₂ (ws c))

/-- All that it starts with. -/
def Ini (c : Dev nD) : sProp 𝕄 :=
  iprop(anyOn c BB.out fullShare ∗ anyOn c BB.part fullShare ∗ shake c
    ∗ bigSep (Finset.Ico 0 240) (land c) ∗ bigSep (Finset.Ico 0 240) (srcAny c) ∗ bigSep (Finset.Ico 0 240) (toks c) ∗ bigSep (Finset.Ico 0 240) (due true c))

theorem rdy_one (n : ℕ) : iprop(srcAny c n ∗ there c n ∗ toks c n) ⊢ (rdy c n : sProp 𝕄) := by
  unfold rdy lane toks there
  iintro H
  iexact H

theorem rdy_join : iprop(bigSep (Finset.Ico 0 240) (srcAny c) ∗ bigSep (Finset.Ico 0 240) (there c) ∗ bigSep (Finset.Ico 0 240) (toks c))
    ⊢ (bigSep (Finset.Ico 0 240) (rdy c) : sProp 𝕄) := by
  rw [← bigSep_sep', ← bigSep_sep']
  exact bigSep_mono fun n _ => rdy_one n

/-- The whole body, on device `c`. -/
theorem run_body {Q : PUnit → sProp 𝕄} (q₀ q₁ q₂ : PosShare TreeShare) :
    iprop(cx xs ws K ∗ opnds xs ws q₀ q₁ q₂ c ∗ Ini c)
      ⊢ iprop(((opnds xs ws q₀ q₁ q₂ c ∗ atPos ER (barCell c) 1 ∅ 0 ∗ End xs ws c) -∗ Q ⟨⟩) -∗ runs c (whole BB) Q) := by
  unfold opnds Ini shake whole start
  iintro ⟨#Hcx, ⟨Hm, Hx, Hw⟩, ⟨⟨%Xo, Ho⟩, ⟨%Xp, Hp⟩, ⟨Ht1, Ht2, #Hr1, #Hr2, Hc, Ha, ⟨%W, HO⟩⟩, Hland, Hsrc, Htoks, Hdue⟩⟩ Hk
  icases land_split $$ Hland with ⟨Hb1, Hb2⟩
  iapply (load_word (X := metaV c) (w := posW c) (fun j => meta_at c 0 j)) $$ [Hm]
  · iexact Hm
  iintro Hm
  iapply (wp_assume 𝒱₀ (c : Thread nD τ) none Set.univ (chk3 c))
  iapply (load_word (X := metaV c) (w := rightW c) (fun j => meta_at c 1 j)) $$ [Hm]
  · iexact Hm
  iintro Hm
  iapply (wp_assume 𝒱₀ (c : Thread nD τ) none Set.univ (chk2 c))
  iapply (load_word (X := metaV c) (w := leftW c) (fun j => meta_at c 2 j)) $$ [Hm]
  · iexact Hm
  iintro Hm
  iapply (wp_assume 𝒱₀ (c : Thread nD τ) none Set.univ (chk1 c))
  unfold O₀
  iapply (signal_bar xs ws K true (dest_WW true c)) $$ [HO Ht1 Hb1]
  · isplitr; · iexact Hcx
    isplitl [HO]; · iexact HO
    isplitl [Ht1]; · iexact Ht1
    isplitl [Hb1]; · iexact Hb1
    iexact Hr1
  iintro HO
  iapply (signal_bar xs ws K false (dest_WW false c)) $$ [HO Ht2 Hb2]
  · isplitr; · iexact Hcx
    isplitl [HO]; · iexact HO
    isplitl [Ht2]; · iexact Ht2
    isplitl [Hb2]; · iexact Hb2
    iexact Hr2
  iintro HO
  iapply (wait_bar xs ws K) $$ [Hc HO Ha]
  · isplitr; · iexact Hcx
    isplitl [Hc]; · iexact Hc
    isplitl [HO]; · iexact HO
    iexact Ha
  iintro ⟨Ht, Ha, Hb⟩
  ihave Hthere := there_join $$ Hb
  iapply load_owns $$ [Hx]
  · iexact Hx
  iintro Hx
  iapply load_owns $$ [Hw]
  · iexact Hw
  iintro Hw
  iapply load_owns $$ [Ho]
  · iexact Ho
  iintro Ho
  iapply (store_owns (prod xs ws c) (fun j => by
      rw [whole_emb zero2]
      exact congrFun (congrArg₂ Gen.k0_pay1 (whole_fun (s := S2048x128) zero2 (xs c)).symm (whole_fun (s := S128x2048) zero2 (ws c)).symm) j) (fun i hi => absurd (whole_mem zero2 i) hi)) $$ [Ho]
  · iexact Ho
  iintro Ho
  iapply load_owns $$ [Ho]
  · iexact Ho
  iintro Ho
  iapply load_owns $$ [Hp]
  · iexact Hp
  iintro Hp
  iapply (store_owns (part xs ws c) (fun j => by
      rw [whole_emb zero2]
      exact congrFun (congrArg Gen.k0_pay2 (whole_fun (s := S2048x2048) zero2 (prod xs ws c)).symm) j) (fun i hi => absurd (whole_mem zero2 i) hi)) $$ [Hp]
  · iexact Hp
  iintro Hp
  iapply (run_steps xs ws K (.ret ⟨⟩)) $$ [Hsrc Hthere Htoks Hdue Ho Hp Ht]
  · isplitr; · iexact Hcx
    unfold St
    isplitl [Hsrc Hthere Htoks]
    · iapply rdy_join
      isplitl [Hsrc]; · iexact Hsrc
      isplitl [Hthere]; · iexact Hthere
      iexact Htoks
    isplitr
    · rw [Finset.Ico_self, bigSep_empty]; iempintro
    isplitl [Hdue]; · iexact Hdue
    isplitr
    · rw [show 0 - 8 = 0 from rfl, Finset.Ico_self, bigSep_empty]; iempintro
    isplitl [Hp Ho]
    · unfold prt res
      rw [outv_start xs ws c (Nat.zero_le _)]
      isplitl [Hp]; · iexact Hp
      iexact Ho
    iexact Ht
  iintro He
  unfold runs
  rw [wp_ret]
  imodintro
  iapply Hk
  isplitl [Hm Hx Hw]
  · isplitl [Hm]; · iexact Hm
    isplitl [Hx]; · iexact Hx
    iexact Hw
  isplitl [Ha]; · iexact Ha
  iexact He

end Cert.KernelIdeal.Ring
-- ==== Proof.Slabs.lean ====
/- The scratch buffers as the slabs the transfers move, and back. -/
module

public import proofs.«01_k».proof.Proof.Start

@[expose] public section

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal
open Facts₀ Facts

variable {F : FTy → Type} [FloatOps F]

local notation "𝕄" => MT nD τ sig Unit (Elt F) ℕ UU ℕ

/-! ## Numbers by direction -/

/-- The transfer of number `t` among those in direction `d` from `a` on. -/
abbrev nth (a : ℕ) (d : Bool) (t : ℕ) : ℕ := a + 2 * t + d.toNat

theorem dir_nth {a : ℕ} (ha : a % 2 = 0) (d : Bool) (t : ℕ) : dir (nth a d t) = d := by
  unfold dir nth
  cases d
  · rw [show (a + 2 * t + false.toNat) % 2 = 0 by simp; omega]; rfl
  · rw [show (a + 2 * t + true.toNat) % 2 = 1 by simp; omega]; rfl

theorem bigSep_two (a m : ℕ) (Φ : ℕ → sProp 𝕄) :
    bigSep (Finset.Ico a (a + 2 * m)) Φ = iprop(bigSep Finset.univ (fun t : Fin m => Φ (nth a false t)) ∗ bigSep Finset.univ (fun t : Fin m => Φ (nth a true t))) := by
  have inj : ∀ d, Function.Injective fun t : Fin m => nth a d t := fun d t t' h => by
    apply Fin.ext
    have h' : a + 2 * t.val + d.toNat = a + 2 * t'.val + d.toNat := h
    omega
  have hs : Finset.Ico a (a + 2 * m) = (Finset.univ : Finset (Fin m)).map ⟨_, inj false⟩ ∪ (Finset.univ : Finset (Fin m)).map ⟨_, inj true⟩ := by
    ext x
    simp only [Finset.mem_Ico, Finset.mem_union, Finset.mem_map, Finset.mem_univ, true_and, Function.Embedding.coeFn_mk]
    constructor
    · intro ⟨h1, h2⟩
      by_cases hx : (x - a) % 2 = 0
      · left; exact ⟨⟨(x - a) / 2, by omega⟩, show a + 2 * ((x - a) / 2) + 0 = x by omega⟩
      · right; exact ⟨⟨(x - a) / 2, by omega⟩, show a + 2 * ((x - a) / 2) + 1 = x by omega⟩
    · rintro (⟨t, rfl⟩ | ⟨t, rfl⟩)
      · have := t.isLt; show a ≤ a + 2 * t.val + 0 ∧ a + 2 * t.val + 0 < a + 2 * m; omega
      · have := t.isLt; show a ≤ a + 2 * t.val + 1 ∧ a + 2 * t.val + 1 < a + 2 * m; omega
  have hd : Disjoint ((Finset.univ : Finset (Fin m)).map ⟨_, inj false⟩) ((Finset.univ : Finset (Fin m)).map ⟨_, inj true⟩) := by
    rw [Finset.disjoint_left]
    intro x h1 h2
    obtain ⟨t, -, ht⟩ := Finset.mem_map.mp h1
    obtain ⟨t', -, ht'⟩ := Finset.mem_map.mp h2
    have e1 : a + 2 * t.val + 0 = x := ht
    have e2 : a + 2 * t'.val + 1 = x := ht'
    omega
  rw [hs, bigSep_union hd, bigSep_map, bigSep_map]
  rfl

/-! ## The slabs of a buffer in one direction -/

theorem mem_rSlab {n : ℕ} {i : S15x128x1024.Idx} :
    i ∈ (rSlab n).set ↔ (i 0).val = n % 120 / 8 ∧ 256 * (n % 8 / 2) ≤ (i 2).val ∧ (i 2).val < 256 * (n % 8 / 2) + 256 := by
  unfold rSlab
  rw [Rect.mem_set_unit]
  constructor
  · intro h
    have h0 : n % 120 / 8 ≤ (i 0).val ∧ (i 0).val < n % 120 / 8 + 1 := h 0
    have h2 : 256 * (n % 8 / 2) ≤ (i 2).val ∧ (i 2).val < 256 * (n % 8 / 2) + 256 := h 2
    omega
  · intro h a
    have h1 : (i 1).val < 128 := (i 1).isLt
    fin_cases a
    · show n % 120 / 8 ≤ (i 0).val ∧ (i 0).val < n % 120 / 8 + 1; omega
    · show 0 ≤ (i 1).val ∧ (i 1).val < 0 + 128; omega
    · exact h.2

theorem mem_rOwn {n : ℕ} {i : S128x1024.Idx} :
    i ∈ (rOwn n).set ↔ 256 * (n % 8 / 2) ≤ (i 1).val ∧ (i 1).val < 256 * (n % 8 / 2) + 256 := by
  unfold rOwn
  rw [Rect.mem_set_unit]
  constructor
  · intro h; exact h 1
  · intro h a
    have h0 : (i 0).val < 128 := (i 0).isLt
    fin_cases a
    · show 0 ≤ (i 0).val ∧ (i 0).val < 0 + 128; omega
    · exact h

theorem toNat_lt (d : Bool) : d.toNat < 2 := by cases d <;> decide

theorem nth_slot {a : ℕ} (ha : a % 120 = 0) (d : Bool) {t : ℕ} (ht : t < 60) : nth a d t % 120 / 8 = t / 4 ∧ nth a d t % 8 / 2 = t % 4 := by
  have := toNat_lt d
  unfold nth
  constructor
  · rw [show (a + 2 * t + d.toNat) % 120 = 2 * t + d.toNat by omega]; omega
  · omega

theorem slab_disj {a : ℕ} (ha : a % 120 = 0) (d : Bool) (t t' : Fin 60) (h : t ≠ t') :
    Disjoint (rSlab (nth a d t)).set (rSlab (nth a d t')).set := by
  rw [Finset.disjoint_left]
  intro i h1 h2
  rw [mem_rSlab, (nth_slot ha d t.isLt).1, (nth_slot ha d t.isLt).2] at h1
  rw [mem_rSlab, (nth_slot ha d t'.isLt).1, (nth_slot ha d t'.isLt).2] at h2
  exact h (Fin.ext (by omega))

theorem slab_cov {a : ℕ} (ha : a % 120 = 0) (d : Bool) :
    (Finset.univ : Finset (Fin 60)).biUnion (fun t => (rSlab (nth a d t)).set) = Finset.univ := by
  refine Finset.eq_univ_iff_forall.mpr fun i => ?_
  have h0 : (i 0).val < 15 := (i 0).isLt
  have h2 : (i 2).val < 1024 := (i 2).isLt
  have ht : 4 * (i 0).val + (i 2).val / 256 < 60 := by omega
  refine Finset.mem_biUnion.mpr ⟨⟨4 * (i 0).val + (i 2).val / 256, ht⟩, Finset.mem_univ _, ?_⟩
  rw [mem_rSlab, (nth_slot ha d ht).1, (nth_slot ha d ht).2]
  omega

theorem nth_quarter {a : ℕ} (ha : a % 8 = 0) (d : Bool) {t : ℕ} (ht : t < 4) : nth a d t % 8 / 2 = t := by
  have := toNat_lt d
  unfold nth
  omega

theorem own_disj {a : ℕ} (ha : a % 8 = 0) (d : Bool) (t t' : Fin 4) (h : t ≠ t') :
    Disjoint (rOwn (nth a d t)).set (rOwn (nth a d t')).set := by
  rw [Finset.disjoint_left]
  intro i h1 h2
  rw [mem_rOwn, nth_quarter ha d t.isLt] at h1
  rw [mem_rOwn, nth_quarter ha d t'.isLt] at h2
  exact h (Fin.ext (by omega))

theorem own_cov {a : ℕ} (ha : a % 8 = 0) (d : Bool) :
    (Finset.univ : Finset (Fin 4)).biUnion (fun t => (rOwn (nth a d t)).set) = Finset.univ := by
  refine Finset.eq_univ_iff_forall.mpr fun i => ?_
  have h2 : (i 1).val < 1024 := (i 1).isLt
  have ht : (i 1).val / 256 < 4 := by omega
  refine Finset.mem_biUnion.mpr ⟨⟨(i 1).val / 256, ht⟩, Finset.mem_univ _, ?_⟩
  rw [mem_rOwn, nth_quarter ha d ht]
  omega

/-! ## Owned at contents not said -/

section Any
variable {c : Dev nD}

theorem any_sat {sp : Space} {s : Shape} {e : EltTy} (m : Memref sig .tc sp s e) (q : PosShare TreeShare) :
    (ownsSat (c : Thread nD τ) m q (fun _ => True) : sProp 𝕄) = anyOn c m q :=
  BI.Entails.antisymm (ownsSat_true (c : Thread nD τ) m q).1 (ownsSat_true (c : Thread nD τ) m q).2

theorem any_slab (m : Memref sig .tc .vmem S15x128x1024 .bf16) (n : ℕ) (q : PosShare TreeShare) :
    (anyOn c (slab m n) q : sProp 𝕄) = anyOn c (m.slice (rSlab n) (fun _ => rfl)) q := by
  rw [← any_sat, ← any_sat]
  unfold ownsSat
  rw [slab_set]
  rfl

theorem any_rects {s : Shape} {e : EltTy} {T : Type} [Fintype T] [DecidableEq T] (m : Memref sig .tc .vmem s e) (r : T → Rect s) (hr : ∀ t a, (r t).stride a = 1)
    (hd : ∀ t t', t ≠ t' → Disjoint (r t).set (r t').set) (hcov : (Finset.univ : Finset T).biUnion (fun t => (r t).set) = Finset.univ) (q : PosShare TreeShare) :
    (anyOn c m q : sProp 𝕄) ⊢ bigSep Finset.univ fun t => anyOn c (m.slice (r t) (hr t)) q := by
  iintro ⟨%X, H⟩
  iapply (show (owns (c : Thread nD τ) m q X : sProp 𝕄) ⊢ bigSep Finset.univ fun t => anyOn c (m.slice (r t) (hr t)) q from
    (owns_rects (c : Thread nD τ) m q r hr hd hcov X).trans (bigSep_mono fun t _ => exists_intro (Φ := fun Y => owns (c : Thread nD τ) (m.slice (r t) (hr t)) q Y) _))
  iexact H

theorem any_of_rects {s : Shape} {e : EltTy} {T : Type} [Fintype T] [DecidableEq T] (m : Memref sig .tc .vmem s e) (r : T → Rect s) (hr : ∀ t a, (r t).stride a = 1)
    (hd : ∀ t t', t ≠ t' → Disjoint (r t).set (r t').set) (hcov : (Finset.univ : Finset T).biUnion (fun t => (r t).set) = Finset.univ) (q : PosShare TreeShare) :
    bigSep Finset.univ (fun t => anyOn c (m.slice (r t) (hr t)) q) ⊢ (anyOn c m q : sProp 𝕄) := by
  rw [bigSep_congr (s := Finset.univ) (fun t _ => (any_sat (F := F) (c := c) (m.slice (r t) (hr t)) q).symm)]
  iintro H
  iapply (ownsSat_any (c : Thread nD τ) m q)
  iapply (ownsSat_of_rects (c : Thread nD τ) m q r hr hd hcov (fun _ _ => True))
  iexact H

/-- A buffer of fifteen slots is its slabs in one direction. -/
theorem slabs {a : ℕ} (ha : a % 120 = 0) (d : Bool) (m : Memref sig .tc .vmem S15x128x1024 .bf16) (q : PosShare TreeShare) :
    (anyOn c m q : sProp 𝕄) = bigSep Finset.univ fun t : Fin 60 => anyOn c (slab m (nth a d t)) q := by
  rw [bigSep_congr (s := Finset.univ) (fun (t : Fin 60) _ => any_slab (F := F) (c := c) m (nth a d t) q)]
  exact BI.Entails.antisymm (any_rects m _ (fun _ _ => rfl) (slab_disj ha d) (slab_cov ha d) q) (any_of_rects m _ (fun _ _ => rfl) (slab_disj ha d) (slab_cov ha d) q)

/-- The buffer of a device's own chunk is its quarters. -/
theorem quarters {a : ℕ} (ha : a % 8 = 0) (d : Bool) (m : Memref sig .tc .vmem S128x1024 .bf16) (q : PosShare TreeShare) :
    (anyOn c m q : sProp 𝕄) = bigSep Finset.univ fun t : Fin 4 => anyOn c (ownAt m (nth a d t)) q :=
  BI.Entails.antisymm (any_rects m _ (fun _ _ => rfl) (own_disj ha d) (own_cov ha d) q) (any_of_rects m _ (fun _ _ => rfl) (own_disj ha d) (own_cov ha d) q)

theorem any_halves {s : Shape} {e : EltTy} (m : Memref sig .tc .vmem s e) :
    (anyOn c m fullShare : sProp 𝕄) = iprop(anyOn c m fullShare.left ∗ anyOn c m fullShare.right) := by
  rw [← any_sat, ← any_sat, ← any_sat]
  exact BI.Entails.antisymm (ownsSat_halves (c : Thread nD τ) m fullShare (fun _ => True)).1 (ownsSat_halves (c : Thread nD τ) m fullShare (fun _ => True)).2

end Any

/-! ## All the scratch -/

variable {c : Dev nD}

/-- Both of a pair of buffers. -/
def both {s : Shape} {e : EltTy} (c : Dev nD) (m : Bool → Memref sig .tc .vmem s e) (q : PosShare TreeShare) : sProp 𝕄 :=
  iprop(anyOn c (m false) q ∗ anyOn c (m true) q)

theorem both_slabs {a : ℕ} (ha : a % 120 = 0) {b : ℕ} (hb : b = a + 120) (m : Bool → Memref sig .tc .vmem S15x128x1024 .bf16) (q : PosShare TreeShare) :
    (both c m q : sProp 𝕄) = bigSep (Finset.Ico a b) fun n => anyOn c (slab (m (dir n)) n) q := by
  subst hb
  unfold both
  rw [bigSep_two a 60, slabs ha false, slabs ha true]
  simp only [dir_nth (show a % 2 = 0 by omega)]

/-- The same when the slab of transfer `n` is the one eight before. -/
theorem both_slabs8 (m : Bool → Memref sig .tc .vmem S15x128x1024 .bf16) (q : PosShare TreeShare) :
    (both c m q : sProp 𝕄) = bigSep (Finset.Ico 128 248) fun n => anyOn c (slab (m (dir n)) (n - 8)) q := by
  unfold both
  rw [show Finset.Ico 128 248 = Finset.Ico 128 (128 + 2 * 60) from rfl, bigSep_two 128 60, slabs (a := 120) (by decide) false, slabs (a := 120) (by decide) true]
  simp only [dir_nth (show 128 % 2 = 0 by decide)]
  have e : ∀ (d : Bool) (t : Fin 60), nth 128 d t - 8 = nth 120 d t := fun d t => by unfold nth; omega
  simp only [e]

theorem both_quarters (m : Bool → Memref sig .tc .vmem S128x1024 .bf16) (q : PosShare TreeShare) :
    (both c m q : sProp 𝕄) = bigSep (Finset.Ico 120 128) fun n => anyOn c (ownAt (m (dir n)) n) q := by
  unfold both
  rw [show Finset.Ico 120 128 = Finset.Ico 120 (120 + 2 * 4) from rfl, bigSep_two 120 4, quarters (a := 120) (by decide) false, quarters (a := 120) (by decide) true]
  simp only [dir_nth (show 120 % 2 = 0 by decide)]

theorem Ico_join {a b e : ℕ} (hab : a ≤ b) (hbe : b ≤ e) (Φ : ℕ → sProp 𝕄) :
    bigSep (Finset.Ico a e) Φ = iprop(bigSep (Finset.Ico a b) Φ ∗ bigSep (Finset.Ico b e) Φ) := by
  rw [← Finset.Ico_union_Ico_eq_Ico hab hbe, bigSep_union (Finset.Ico_disjoint_Ico_consecutive a b e)]
  rfl

theorem Ico_congr {a b : ℕ} {Φ Ψ : ℕ → sProp 𝕄} (h : ∀ n, a ≤ n → n < b → Φ n = Ψ n) : bigSep (Finset.Ico a b) Φ = bigSep (Finset.Ico a b) Ψ :=
  bigSep_congr fun n hn => h n (Finset.mem_Ico.mp hn).1 (Finset.mem_Ico.mp hn).2

theorem four_swap (A B C D : sProp 𝕄) : iprop((A ∗ B) ∗ (C ∗ D)) ⊢ iprop((A ∗ C) ∗ (B ∗ D)) := by
  iintro ⟨⟨H1, H2⟩, ⟨H3, H4⟩⟩
  isplitl [H1 H3]
  · isplitl [H1]; · iexact H1
    iexact H3
  isplitl [H2]; · iexact H2
  iexact H4

theorem both_halves {s : Shape} {e : EltTy} (m : Bool → Memref sig .tc .vmem s e) :
    (both c m fullShare : sProp 𝕄) = iprop(both c m fullShare.left ∗ both c m fullShare.right) := by
  unfold both
  rw [any_halves (c := c) (m false), any_halves (c := c) (m true)]
  exact BI.Entails.antisymm (four_swap _ _ _ _) (four_swap _ _ _ _)

/-- The scratch buffers the transfers use. -/
def scratch (c : Dev nD) : sProp 𝕄 := iprop(both c BB.rv fullShare ∗ both c BB.sd fullShare ∗ both c BB.ag fullShare ∗ both c BB.own fullShare)

/-- Dealt out: the landing places, and the sources. -/
theorem scratch_deal : (scratch c : sProp 𝕄) ⊢ iprop(bigSep (Finset.Ico 0 240) (fun n => anyOn c (dstM n) fullShare) ∗ bigSep (Finset.Ico 0 240) (srcAny c)) := by
  unfold scratch
  rw [both_slabs (a := 0) (by decide) (b := 120) rfl, both_slabs (a := 0) (by decide) (b := 120) rfl, both_slabs (a := 120) (by decide) (b := 240) rfl, both_quarters,
    Ico_join (show 0 ≤ 120 by decide) (show 120 ≤ 240 by decide), Ico_join (show 0 ≤ 120 by decide) (show 120 ≤ 240 by decide) (srcAny c),
    Ico_join (show 120 ≤ 128 by decide) (show 128 ≤ 240 by decide) (srcAny c),
    Ico_congr (Φ := fun n => anyOn c (dstM n) fullShare) (a := 0) (fun n _ h => by rw [dstM_rs h]),
    Ico_congr (Φ := fun n => anyOn c (dstM n) fullShare) (a := 120) (fun n h _ => by rw [dstM_ag h]),
    Ico_congr (Φ := srcAny c) (a := 0) (b := 120) (fun n _ h => srcAny_rs h),
    Ico_congr (Φ := srcAny c) (a := 120) (b := 128) (fun n h h' => srcAny_own h h'),
    Ico_congr (Φ := srcAny c) (a := 128) (b := 240) (Ψ := fun _ => iprop(emp)) (fun n h _ => by unfold srcAny; rw [if_neg (by omega)])]
  iintro ⟨Hrv, Hsd, Hag, Hown⟩
  isplitl [Hrv Hag]
  · isplitl [Hrv]; · iexact Hrv
    iexact Hag
  isplitl [Hsd]; · iexact Hsd
  isplitl [Hown]; · iexact Hown
  iapply (Entails.of_eq (BI.bigSep_emp_const (s := Finset.Ico 128 240)).symm)
  iempintro

/-- Gathered up again. -/
theorem scratch_gather : iprop(bigSep (Finset.Ico 0 240) (srcIs c) ∗ bigSep (Finset.Ico 0 240) (kept c) ∗ bigSep (Finset.Ico 240 248) (srcIs c)) ⊢ (scratch c : sProp 𝕄) := by
  unfold scratch
  rw [both_halves BB.ag,
    both_slabs (a := 0) (by decide) (b := 120) rfl, both_slabs (a := 0) (by decide) (b := 120) rfl, both_slabs8, both_slabs (a := 120) (by decide) (b := 240) rfl, both_quarters,
    Ico_join (show 0 ≤ 120 by decide) (show 120 ≤ 240 by decide) (srcIs c), Ico_join (show 0 ≤ 120 by decide) (show 120 ≤ 240 by decide) (kept c),
    Ico_join (show 120 ≤ 128 by decide) (show 128 ≤ 240 by decide) (srcIs c),
    Ico_join (show 128 ≤ 240 by decide) (show 240 ≤ 248 by decide) (fun n => anyOn c (slab (BB.ag (dir n)) (n - 8)) fullShare.left),
    Ico_congr (Φ := kept c) (a := 0) (b := 120) (fun n _ h => kept_rs h),
    Ico_congr (Φ := kept c) (a := 120) (b := 240) (fun n h _ => kept_ag h),
    Ico_congr (Φ := srcIs c) (a := 0) (b := 120) (fun n _ h => by unfold srcIs; simp only [srcAt_rs h]; rfl),
    Ico_congr (Φ := srcIs c) (a := 120) (b := 128) (fun n h h' => by unfold srcIs; simp only [srcAt_own h h']; rfl),
    Ico_congr (Φ := srcIs c) (a := 128) (b := 240) (fun n h _ => by unfold srcIs; simp only [srcAt_ag h]; rfl),
    Ico_congr (Φ := srcIs c) (a := 240) (b := 248) (fun n h _ => by unfold srcIs; simp only [srcAt_ag (show 128 ≤ n by omega)]; rfl)]
  iintro ⟨⟨Hsd, Hown, Hl⟩, ⟨Hrv, Hr⟩, Hl'⟩
  isplitl [Hrv]; · iexact Hrv
  isplitl [Hsd]; · iexact Hsd
  isplitl [Hl Hl' Hr]
  · isplitl [Hl Hl']
    · isplitl [Hl]; · iexact Hl
      iexact Hl'
    iexact Hr
  iexact Hown

end Cert.KernelIdeal.Ring
-- ==== Proof.Region.lean ====
/- The kernel as a region of @main: the operands staged in, the body, the result staged out. -/
module

public import proofs.«01_k».proof.Proof.Slabs
public import proofs.«01_k».proof.Proof.Gen.KernelIdeal.Launch
public import Idealize.ShloMosaic.Lib.Pipeline.RegionTalk
public import Idealize.ShloMosaic.Lib.Pipeline.Frame

@[expose] public section

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal
open Facts₀ Facts

variable {F : FTy → Type} [FloatOps F]

local notation "𝕄" => MT nD τ sig Unit (Elt F) ℕ UU ℕ

/-! ## The transfers' semaphores as one family -/

theorem bigSep_fin_Ico (m : ℕ) (Φ : ℕ → sProp 𝕄) : bigSep Finset.univ (fun t : Fin m => Φ t.val) = bigSep (Finset.Ico 0 m) Φ := by
  have h : Finset.Ico 0 m = (Finset.univ : Finset (Fin m)).map Fin.valEmbedding := by
    ext x
    simp only [Finset.mem_Ico, Finset.mem_map, Finset.mem_univ, true_and, Fin.valEmbedding_apply]
    exact ⟨fun hx => ⟨⟨x, hx.2⟩, rfl⟩, fun ⟨t, ht⟩ => ht ▸ ⟨Nat.zero_le _, t.isLt⟩⟩
  rw [h, bigSep_map]
  rfl

theorem bigSep_bool (Φ : Bool → sProp 𝕄) : bigSep Finset.univ Φ = iprop(Φ false ∗ Φ true) := by
  rw [bigSep_univ_eq_bigSepL [false, true] (by decide) (by decide)]
  rfl

theorem bigSep_sems (Φ : Bool → ℕ → sProp 𝕄) :
    bigSep Finset.univ (fun k : SemIx => Φ k.1 k.2.val) = iprop(bigSep (Finset.Ico 0 240) (Φ false) ∗ bigSep (Finset.Ico 0 240) (Φ true)) := by
  rw [bigSep_univ_prod, bigSep_bool]
  exact congrArg₂ (fun A B => iprop(A ∗ B)) (bigSep_fin_Ico 240 (Φ false)) (bigSep_fin_Ico 240 (Φ true))

theorem ownSems_eq (c : Dev nD) : (Pipeline.ownSems0 (Ix := Unit) (Name := ℕ) (U := UU) (Lvl := ℕ) (Val := Elt F) (τ := τ) osem c : sProp 𝕄)
    = iprop(bigSep (Finset.Ico 0 240) (fun n => semVal (fl false c n) 0) ∗ bigSep (Finset.Ico 0 240) (fun n => semVal (fl true c n) 0)) :=
  bigSep_sems (F := F) (fun b n => semVal (fl b c n) 0)

variable (xs : Dev nD → Vec F S2048x128 .bf16) (ws : Dev nD → Vec F S128x2048 .bf16)
variable {c : Dev nD} (K : GSem nD τ sig → ℕ)

/-! ## Opening and closing the cells -/

theorem open_one (b : Bool) {n : ℕ} (h : n < 240) :
    iprop(cx xs ws K ∗ (openTok ER (fl b c n) ∗ semVal (fl b c n) 0))
      ⊢ (|={Set.univ}=> iprop(atPos ER (fl b c n) 0 ∅ 0 ∗ reached ER (fl b c n) 0) : sProp 𝕄) := by
  iintro ⟨#Hcx, Ho, Hs⟩
  iapply (Rounds.cell_open ER (ring xs ws) (g := fl b c n) (Set.mem_univ (K (fl b c n))))
  isplitr; · iapply (cx_fl xs ws K b c h); iexact Hcx
  isplitl [Ho] <;> iassumption

theorem open_all (b : Bool) :
    iprop(cx xs ws K ∗ bigSep (Finset.Ico 0 240) (fun n => iprop(openTok ER (fl b c n) ∗ semVal (fl b c n) 0)))
      ⊢ (|={Set.univ}=> bigSep (Finset.Ico 0 240) (fun n => iprop(atPos ER (fl b c n) 0 ∅ 0 ∗ reached ER (fl b c n) 0)) : sProp 𝕄) :=
  (bigSep_with_persistent (R := cx xs ws K) fun _ hn => open_one xs ws K b (Finset.mem_Ico.mp hn).2).trans (BI.bigSep_fupd _ _)

theorem close_one (b : Bool) {n : ℕ} (h : n < 240) :
    iprop(cx xs ws K ∗ past b c n) ⊢ (|={Set.univ}=> semVal (fl b c n) 0 : sProp 𝕄) := by
  unfold past
  iintro ⟨#Hcx, Ha⟩
  iapply (Rounds.cell_close ER (ring xs ws) (Set.mem_univ (K (fl b c n))) id (R := 0 + 1) (duties_later xs ws (fl b c n)))
  isplitr; · iapply (cx_fl xs ws K b c h); iexact Hcx
  iexact Ha

theorem close_all (b : Bool) :
    iprop(cx xs ws K ∗ bigSep (Finset.Ico 0 240) (past b c)) ⊢ (|={Set.univ}=> bigSep (Finset.Ico 0 240) (fun n => semVal (fl b c n) 0) : sProp 𝕄) :=
  (bigSep_with_persistent (R := cx xs ws K) fun _ hn => close_one xs ws K b (Finset.mem_Ico.mp hn).2).trans (BI.bigSep_fupd _ _)

theorem close_bar : iprop(cx xs ws K ∗ atPos ER (barCell c) 1 ∅ 0) ⊢ (|={Set.univ}=> semVal (barCell c) 0 : sProp 𝕄) := by
  iintro ⟨#Hcx, Ha⟩
  iapply (Rounds.cell_close ER (ring xs ws) (Set.mem_univ (K (barCell c))) id (R := 0 + 1) (duties_later xs ws (barCell c)))
  isplitr; · iapply (cx_bar xs ws K c); iexact Hcx
  iexact Ha

/-! ## Into the region -/

/-- What a device starts with for the handshake, what it owes apart. -/
def greet (c : Dev nD) : sProp 𝕄 :=
  iprop(dutyTok ER (barCell (nbr true c)) 0 false ∗ dutyTok ER (barCell (nbr false c)) 0 true
    ∗ reached ER (barCell (nbr true c)) 0 ∗ reached ER (barCell (nbr false c)) 0
    ∗ cred (tallyAt (barCell c) () 2) ∗ atPos ER (barCell c) 0 ∅ 0)

/-- What it is dealt at launch for transfer `n`. -/
def dealt (c : Dev nD) (n : ℕ) : sProp 𝕄 :=
  iprop((dutyTok ER (fl false c n) 0 false ∗ dutyTok ER (fl true (nbr (dir n) c) n) 0 false) ∗ cred (tallyAt (fl true c n) () N))

/-- What it keeps from launch until the region. -/
def Tk (c : Dev nD) : sProp 𝕄 :=
  iprop((∃ K, cx xs ws K) ∗ greet c ∗ bigSep (Finset.Ico 0 240) (dealt c)
    ∗ bigSep (Finset.Ico 0 240) (fun n => openTok ER (fl false c n)) ∗ bigSep (Finset.Ico 0 240) (fun n => openTok ER (fl true c n)))

/-- What the opened cells make of it. -/
def Xk (c : Dev nD) : sProp 𝕄 :=
  iprop((∃ K, cx xs ws K) ∗ greet c ∗ bigSep (Finset.Ico 0 240) (toks c) ∗ bigSep (Finset.Ico 0 240) (due true c)
    ∗ bigSep (Finset.Ico 0 240) (fun n => reached ER (fl true c n) 0))

theorem sort_one (n : ℕ) :
    iprop(dealt c n ∗ (atPos ER (fl false c n) 0 ∅ 0 ∗ reached ER (fl false c n) 0) ∗ (atPos ER (fl true c n) 0 ∅ 0 ∗ reached ER (fl true c n) 0))
      ⊢ (iprop(toks c n ∗ due true c n ∗ reached ER (fl true c n) 0) : sProp 𝕄) := by
  unfold dealt toks due
  iintro ⟨⟨⟨H1, H2⟩, H3⟩, ⟨H4, #H5⟩, H6, #H7⟩
  isplitl [H1 H2 H4]
  · isplitl [H1]; · iexact H1
    isplitl [H2]; · iexact H2
    isplitl [H4]; · iexact H4
    iexact H5
  isplitl [H3 H6]
  · isplitl [H3]; · iexact H3
    iexact H6
  iexact H7

theorem sort_all :
    iprop(bigSep (Finset.Ico 0 240) (dealt c)
        ∗ bigSep (Finset.Ico 0 240) (fun n => iprop(atPos ER (fl false c n) 0 ∅ 0 ∗ reached ER (fl false c n) 0))
        ∗ bigSep (Finset.Ico 0 240) (fun n => iprop(atPos ER (fl true c n) 0 ∅ 0 ∗ reached ER (fl true c n) 0)))
      ⊢ (iprop(bigSep (Finset.Ico 0 240) (toks c) ∗ bigSep (Finset.Ico 0 240) (due true c) ∗ bigSep (Finset.Ico 0 240) (fun n => reached ER (fl true c n) 0)) : sProp 𝕄) := by
  rw [← bigSep_sep', ← bigSep_sep', ← bigSep_sep', ← bigSep_sep']
  exact bigSep_mono fun n _ => sort_one n

theorem zip_open (b : Bool) :
    iprop(bigSep (Finset.Ico 0 240) (fun n => openTok ER (fl b c n)) ∗ bigSep (Finset.Ico 0 240) (fun n => semVal (fl b c n) 0))
      ⊢ (bigSep (Finset.Ico 0 240) (fun n => iprop(openTok ER (fl b c n) ∗ semVal (fl b c n) 0)) : sProp 𝕄) := by
  rw [← bigSep_sep']

theorem enter (c : Dev nD) : iprop(Tk xs ws c ∗ Pipeline.ownSems0 osem c ∗ levAts L lv) ⊢ (|={Set.univ}=> Xk xs ws c : sProp 𝕄) := by
  rw [ownSems_eq]
  unfold Tk Xk
  iintro ⟨⟨⟨%K, #Hcx⟩, Hg, Hd, Ho, Ho'⟩, ⟨Hs, Hs'⟩, -⟩
  imod (open_all xs ws K false) $$ [Ho Hs] with H
  · isplitr; · iexact Hcx
    iapply (zip_open false)
    isplitl [Ho] <;> iassumption
  imod (open_all xs ws K true) $$ [Ho' Hs'] with H'
  · isplitr; · iexact Hcx
    iapply (zip_open true)
    isplitl [Ho'] <;> iassumption
  imodintro
  isplitr; · iexists K; iexact Hcx
  isplitl [Hg]; · iexact Hg
  iapply sort_all
  isplitl [Hd]; · iexact Hd
  isplitl [H] <;> iassumption

/-! ## The scoped buffers -/

theorem any_one {A : Type} (Φ : A → sProp 𝕄) : (iprop(∃ X f, ⌜f = X⌝ ∗ Φ f) : sProp 𝕄) ⊢ iprop(∃ f, Φ f) := by
  iintro ⟨%X, %f, -, H⟩
  iexists f; iexact H
theorem any_two {A : Type} (Φ : A → sProp 𝕄) : (iprop(∃ f, Φ f) : sProp 𝕄) ⊢ iprop(∃ X f, ⌜f = X⌝ ∗ Φ f) := by
  iintro ⟨%f, H⟩
  iexists f; iexists f
  isplitr; · ipureintro; rfl
  iexact H

theorem any_whole (b : Ref sig .tc) : (anyOn c (Memref.whole b) fullShare : sProp 𝕄) = iprop(∃ f : Buf (Elt F) ((c : Thread nD τ).loc b), ((c : Thread nD τ).loc b) ↦{fullShare} f) := by
  unfold anyOn owns
  simp only [Memref.view_whole, View.read_whole, View.set_whole]
  exact BI.Entails.antisymm (any_one _) (any_two _)

theorem rest_eq : (Pipeline.scopedRest (Ix := Unit) (Name := ℕ) (U := UU) (Lvl := ℕ) (Val := Elt F) spec0 c : sProp 𝕄)
    ⊢ iprop(anyOn c BB.part fullShare ∗ scratch c) := by
  rw [Gen.scopedRest0_eq, ← any_whole, ← any_whole, ← any_whole, ← any_whole, ← any_whole, ← any_whole, ← any_whole, ← any_whole, ← any_whole]
  unfold scratch both
  iintro ⟨H0, H1, H2, H3, H4, H5, H6, H7, H8⟩
  isplitl [H0]; · iexact H0
  isplitl [H1 H2]
  · isplitl [H1]; · iexact H1
    iexact H2
  isplitl [H3 H4]
  · isplitl [H3]; · iexact H3
    iexact H4
  isplitl [H5 H6]
  · isplitl [H5]; · iexact H5
    iexact H6
  isplitl [H7]; · iexact H7
  iexact H8

theorem eq_rest : (iprop(anyOn c BB.part fullShare ∗ scratch c) : sProp 𝕄)
    ⊢ (Pipeline.scopedRest (Ix := Unit) (Name := ℕ) (U := UU) (Lvl := ℕ) (Val := Elt F) spec0 c : sProp 𝕄) := by
  rw [Gen.scopedRest0_eq, ← any_whole, ← any_whole, ← any_whole, ← any_whole, ← any_whole, ← any_whole, ← any_whole, ← any_whole, ← any_whole]
  unfold scratch both
  iintro ⟨H0, ⟨H1, H2⟩, ⟨H3, H4⟩, ⟨H5, H6⟩, H7, H8⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-! ## The body between its states -/

/-- Before the body, the operands and the result's buffer apart. -/
def Before (c : Dev nD) : sProp 𝕄 := iprop(Xk xs ws c ∗ (anyOn c BB.part fullShare ∗ scratch c) ∗ ∃ r, prngReg c r)
/-- After it. -/
def After (c : Dev nD) : sProp 𝕄 :=
  iprop((anyOn c BB.part fullShare ∗ scratch c) ∗ (∃ r, prngReg c r) ∗ Pipeline.ownSems0 osem c ∗ semVal (barCell c) 0)

theorem land_zip : iprop(bigSep (Finset.Ico 0 240) (fun n => anyOn c (dstM n) fullShare) ∗ bigSep (Finset.Ico 0 240) (fun n => reached ER (fl true c n) 0))
    ⊢ (bigSep (Finset.Ico 0 240) (land c) : sProp 𝕄) := by
  rw [← bigSep_sep']
  exact BI.Entails.refl _

theorem fin_unzip : (bigSep (Finset.Ico 0 240) (fin c) : sProp 𝕄) ⊢ iprop(bigSep (Finset.Ico 0 240) (past false c) ∗ bigSep (Finset.Ico 0 240) (srcIs c)) := by
  rw [← bigSep_sep']
  exact BI.Entails.refl _
theorem got_unzip : (bigSep (Finset.Ico 0 240) (got c) : sProp 𝕄) ⊢ iprop(bigSep (Finset.Ico 0 240) (past true c) ∗ bigSep (Finset.Ico 0 240) (kept c)) := by
  rw [← bigSep_sep']
  exact BI.Entails.refl _

theorem prt_any : (prt xs ws c : sProp 𝕄) ⊢ anyOn c BB.part fullShare := by
  unfold prt
  iintro H
  iexists _; iexact H

theorem whole_run :
    iprop(Before xs ws c ∗ (∃ W, owes (c : Thread nD τ) (O₀ c) W) ∗ opnds xs ws fullShare fullShare fullShare c ∗ anyOn c BB.out fullShare)
      ⊢ (runs c (whole BB) fun _ => iprop(After c ∗ (∃ W, owes (c : Thread nD τ) (0 : CellTallies nD τ sig Unit) W)
        ∗ opnds xs ws fullShare fullShare fullShare c ∗ owns (c : Thread nD τ) BB.out fullShare (done xs ws c)) : sProp 𝕄) := by
  unfold Before Xk greet After
  rw [ownSems_eq]
  iintro ⟨⟨⟨⟨%K, #Hcx⟩, ⟨Hg1, Hg2, #Hg3, #Hg4, Hg5, Hg6⟩, Ht, Hd, Hr⟩, ⟨Hp, Hs⟩, Hprng⟩, HO, Hop, Hout⟩
  icases scratch_deal $$ Hs with ⟨Hdst, Hsrc⟩
  iapply (wp_fupd frame (wpE (defs₀ (F := F)) 𝒱₀ (c : Thread nD τ) none) (E := Set.univ) (whole BB) _)
  iapply (run_body xs ws K fullShare fullShare fullShare) $$ [Hg1 Hg2 Hg5 Hg6 Ht Hd Hr Hp HO Hop Hout Hdst Hsrc]
  · isplitr; · iexact Hcx
    isplitl [Hop]; · iexact Hop
    unfold Ini shake
    isplitl [Hout]; · iexact Hout
    isplitl [Hp]; · iexact Hp
    isplitl [Hg1 Hg2 Hg5 Hg6 HO]
    · isplitl [Hg1]; · iexact Hg1
      isplitl [Hg2]; · iexact Hg2
      isplitr; · iexact Hg3
      isplitr; · iexact Hg4
      isplitl [Hg5]; · iexact Hg5
      isplitl [Hg6]; · iexact Hg6
      iexact HO
    isplitl [Hdst Hr]
    · iapply land_zip
      isplitl [Hdst] <;> iassumption
    isplitl [Hsrc]; · iexact Hsrc
    isplitl [Ht]; · iexact Ht
    iexact Hd
  unfold End
  iintro ⟨Hop, Ha, Hf, Hg, Hl, Hp, Ho, HO⟩
  icases fin_unzip $$ Hf with ⟨Hf, Hf'⟩
  icases got_unzip $$ Hg with ⟨Hg, Hg'⟩
  imod (close_all xs ws K false) $$ [Hf] with Hz
  · isplitr; · iexact Hcx
    iexact Hf
  imod (close_all xs ws K true) $$ [Hg] with Hz'
  · isplitr; · iexact Hcx
    iexact Hg
  imod (close_bar xs ws K) $$ [Ha] with Hb
  · isplitr; · iexact Hcx
    iexact Ha
  imodintro
  isplitl [Hp Hf' Hg' Hl Hprng Hz Hz' Hb]
  · isplitl [Hp Hf' Hg' Hl]
    · isplitl [Hp]; · iapply (prt_any xs ws); iexact Hp
      iapply scratch_gather
      isplitl [Hf']; · iexact Hf'
      isplitl [Hg']; · iexact Hg'
      iexact Hl
    isplitl [Hprng]; · iexact Hprng
    isplitl [Hz Hz']
    · isplitl [Hz] <;> iassumption
    iexact Hb
  isplitl [HO]; · iexact HO
  isplitl [Hop]; · iexact Hop
  iexact Ho

end Cert.KernelIdeal.Ring
-- ==== Proof.Stage.lean ====
/- The region's proof data: what its windows hold around the body, and what a device keeps and owes across it. -/
module

public import proofs.«01_k».proof.Proof.Region
public import proofs.«01_k».proof.Proof.Gen.KernelIdeal.Points
public import proofs.«01_k».proof.Proof.Gen.KernelIdeal.Regions
public import Idealize.ShloMosaic.Lib.Pipeline.TalkSched

@[expose] public section

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal
open Facts₀ Facts

variable {F : FTy → Type} [FloatOps F]

local notation "𝕄" => MT nD τ sig Unit (Elt F) ℕ UU ℕ

variable (V : Dev nD → Valuation τ sig (Elt F))

/-- The operands as the region finds them. -/
abbrev xsOf (c : Dev nD) : Vec F S2048x128 .bf16 := V c main_arg0
abbrev wsOf (c : Dev nD) : Vec F S128x2048 .bf16 := V c main_arg1

/-- What else a device holds before the body, and after it; -/
def phiAt (c : Dev nD) : ℕ → sProp 𝕄
  | 0 => Before (xsOf V) (wsOf V) c
  | _ + 1 => After c
/-- and what it owes. -/
def owedAt (c : Dev nD) : ℕ → CellTallies nD τ sig Unit
  | 0 => O₀ c
  | _ + 1 => 0

/-- The proof data: the arrays at entry, the buffers after the body, the debts. -/
def dat0 (c : Dev nD) : Dat τ (Elt F) Unit ℕ UU ℕ cfg0 c where
  A w := V c (Proc.devRef .tc (Pipeline.arrRef spec0 w))
  after w _ := match w with
    | ⟨0, _⟩ => V c main_v16
    | ⟨1, _⟩ => xsOf V c
    | ⟨2, _⟩ => wsOf V c
    | ⟨3, _⟩ => done (xsOf V) (wsOf V) c
  Φ t := phiAt V c t.val
  q _ := fullShare
  owed t := owedAt c t.val

def pdats : (p : Fin 1) → (c : Dev nD) → Dat τ (Elt F) Unit ℕ UU ℕ (Pipeline.pin (pcfgs (F := F)) Gen.adm p) c
  | 0 => dat0 V

variable {V} {c : Dev nD}

theorem phi_first : (dat0 V c).Φ Gen.t0_0.castSucc = Before (xsOf V) (wsOf V) c := rfl
theorem phi_last : (dat0 V c).Φ Gen.t0_0.succ = After c := rfl
theorem phi_end : (dat0 V c).Φ (Fin.last cfg0.N) = After c := by
  show phiAt V c (Fin.last cfg0.N).val = _
  rw [Fin.val_last, show cfg0.N = 1 from Gen.N_0]; rfl
theorem owed_first : (dat0 V c).owed Gen.t0_0.castSucc = O₀ c := rfl
theorem owed_last : (dat0 V c).owed Gen.t0_0.succ = 0 := rfl
theorem owed_end : (dat0 V c).owed (Fin.last cfg0.N) = 0 := by
  show owedAt c (Fin.last cfg0.N).val = _
  rw [Fin.val_last, show cfg0.N = 1 from Gen.N_0]; rfl

theorem found_0 (d) : (dat0 V c).before (0 : Fin 4) Gen.t0_0 d = V c main_v16 := by
  unfold Dat.before; rw [if_pos (Gen.fetch0_0 _)]
  show (win0_0.blk Gen.t0_0).view.read (Elt F) (V c main_v16) = _
  exact Memref.read_access_unit_zero (Elt F) main_v16 (funext fun _ => Nat.zero_mul _) _ _
theorem found_1 (d) : (dat0 V c).before (1 : Fin 4) Gen.t0_0 d = V c main_arg0 := by
  unfold Dat.before; rw [if_pos (Gen.fetch0_1 _)]
  show (win0_1.blk Gen.t0_0).view.read (Elt F) (V c main_arg0) = _
  exact Memref.read_access_unit_zero (Elt F) main_arg0 (funext fun _ => Nat.zero_mul _) _ _
theorem found_2 (d) : (dat0 V c).before (2 : Fin 4) Gen.t0_0 d = V c main_arg1 := by
  unfold Dat.before; rw [if_pos (Gen.fetch0_2 _)]
  show (win0_2.blk Gen.t0_0).view.read (Elt F) (V c main_arg1) = _
  exact Memref.read_access_unit_zero (Elt F) main_arg1 (funext fun _ => Nat.zero_mul _) _ _

theorem anyOn_of {s : Shape} {sp : CoreSpace} {e : EltTy} {m : Memref sig .tc sp s e} {X : Vec F s e} : (owns (c : Thread nD τ) m fullShare X : sProp 𝕄) ⊢ anyOn c m fullShare := by
  iintro H
  iexists X; iexact H

theorem finish :
    iprop(After c ∗ (∃ W, owes (c : Thread nD τ) (0 : CellTallies nD τ sig Unit) W) ∗ opnds (xsOf V) (wsOf V) fullShare fullShare fullShare c
        ∗ owns (c : Thread nD τ) BB.out fullShare (done (xsOf V) (wsOf V) c))
      ⊢ (iprop(After c ∗ (dat0 V c).owesAt () Gen.t0_0.succ
        ∗ owns (c : Thread nD τ) BB.mt fullShare (metaV c) ∗ owns (c : Thread nD τ) BB.x fullShare (xsOf V c)
        ∗ owns (c : Thread nD τ) BB.w fullShare (wsOf V c) ∗ owns (c : Thread nD τ) BB.out fullShare (done (xsOf V) (wsOf V) c)) : sProp 𝕄) := by
  unfold opnds
  iintro ⟨HA, ⟨%W, HO⟩, ⟨H0, H1, H2⟩, H3⟩
  isplitl [HA]; · iexact HA
  isplitl [HO]; · iapply (TalkSites.owesAt_intro (dat0 V c) () Gen.t0_0.succ 0 owed_last rfl W); iexact HO
  isplitl [H0]; · iexact H0
  isplitl [H1]; · iexact H1
  isplitl [H2]; · iexact H2
  iexact H3

theorem after_0 : (dat0 V c).after (0 : Fin 4) Gen.t0_0 = V c main_v16 := rfl
theorem after_1 : (dat0 V c).after (1 : Fin 4) Gen.t0_0 = xsOf V c := rfl
theorem after_2 : (dat0 V c).after (2 : Fin 4) Gen.t0_0 = wsOf V c := rfl
theorem after_3 : (dat0 V c).after (3 : Fin 4) Gen.t0_0 = done (xsOf V) (wsOf V) c := rfl

theorem row_eq : defs₀ (F := F) .tc cfg0.body (cfg0.bodyArgs Gen.t0_0 (cfg0.slots Gen.t0_0)) = whole BB := by
  rw [← bodyAt_eq]
  exact rfl

set_option maxRecDepth 8000 in
theorem body_ok (hV : V c main_v16 = metaV c) : BodyObligation (dat0 V c) (defs₀ (F := F)) 𝒱₀ () Set.univ := fun t => by
  obtain rfl : t = Gen.t0_0 := Gen.fin_N0 t
  rw [Gen.bigSep_W0, Gen.bigSep_W0, phi_first, phi_last, row_eq]
  dsimp only [cfg0]
  rw [after_0, after_1, after_2, after_3]
  rw [hV]
  iintro ⟨HB, HO, ⟨%d0, H0⟩, ⟨%d1, H1⟩, ⟨%d2, H2⟩, ⟨%d3, H3⟩⟩
  ihave HO' := (TalkSites.owesAt_elim (dat0 V c) () Gen.t0_0.castSucc (O₀ c) owed_first) $$ HO
  ihave Hout := anyOn_of $$ H3
  iapply (wp_mono frame (wpE (defs₀ (F := F)) 𝒱₀ (c : Thread nD τ) none) (E := Set.univ) (p := whole BB) (fun _ => finish))
  iapply (whole_run (xsOf V) (wsOf V))
  isplitl [HB]; · iexact HB
  isplitl [HO']; · iexact HO'
  isplitr [Hout]
  · unfold opnds
    isplitl [H0]; · rw [found_0, hV]; iexact H0
    isplitl [H1]; · rw [found_1]; iexact H1
    rw [found_2]; iexact H2
  iexact Hout

end Cert.KernelIdeal.Ring
-- ==== Proof.Seg.lean ====
/- The kernel as a segment of @main: entered with the operands held, left with the result at what the ring computes. -/
module

public import proofs.«01_k».proof.Proof.Stage

@[expose] public section

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal
open Facts₀ Facts

variable {F : FTy → Type} [FloatOps F]

local notation "𝕄" => MT nD τ sig Unit (Elt F) ℕ UU ℕ

variable (V : Dev nD → Valuation τ sig (Elt F))

/-- The buffers the region's windows are on, and the others. -/
abbrev arrs : Finset (DevRef τ sig) := Pipeline.arrRefs (τ := τ) spec0
def others : Finset (DevRef τ sig) := Pipeline.ucRefs τ sig \ arrs

/-- The buffers after the region: the result written. -/
def VV (c : Dev nD) : Valuation τ sig (Elt F) := Function.update (V c) main_v17 (done (xsOf V) (wsOf V) c)

theorem scoped_of_ge : ∀ i : DmaSem sig, 4 ≤ i.val → (SemLoc.dma i : SemLoc sig).isScoped .tc = true := by decide +kernel
theorem sem_lt : ∀ (w : Fin 4) (s : Fin (spec0 w).nbuf), ((spec0 w).sem s).val < 4 := by decide +kernel

theorem semFacts : Pipeline.OwnSemFacts spec0 osem where
  isScoped k := scoped_of_ge _ (flSem_ge k.1 k.2.val)
  inj := osem_inj
  disj k w s h := by
    have h' : flSem k.1 k.2.val = (spec0 w).sem s := by injection h
    have := flSem_ge k.1 k.2.val
    rw [h'] at this
    exact absurd this (Nat.not_le.mpr (sem_lt w s))

theorem arr_sub : arrs ⊆ Pipeline.ucRefs τ sig := by decide +kernel

theorem result_mem : (Proc.devRef .tc main_v17 : DevRef τ sig) ∈ arrs := by decide +kernel

theorem low_lv (c : Dev nD) : ∀ i : DmaSem sig, i.val < 4 → lv ((c : Thread nD τ), .dma i) () = 0 := fun i h => by
  show (if decSide i.val then decNum i.val + 2 else 0) = 0
  revert i
  decide +kernel
theorem staging_low (c : Dev nD) (w : Fin 4) (s : Fin (spec0 w).nbuf) : lv ((c : Thread nD τ), .dma ((spec0 w).sem s)) () = 0 :=
  low_lv c _ (sem_lt w s)

variable {V} {c : Dev nD}

theorem VV_of_ne {b : DevRef τ sig} (h : b ≠ main_v17) : VV V c b = V c b := by
  unfold VV; exact Function.update_of_ne h _ _
theorem VV_result : VV V c main_v17 = done (xsOf V) (wsOf V) c := by
  unfold VV; exact Function.update_self ..

theorem O₀_cut {g : GSem nD τ sig} {u : Unit} (h : 0 < O₀ c g u) : u ∈ L g ∧ 0 < lv g u := by
  unfold O₀ at h
  rw [Pi.add_apply, Finsupp.add_apply, Pi.add_apply, Finsupp.add_apply] at h
  have bar : ∀ d : Dev nD, 0 < (tallyAt (barCell d) () 1 : CellTallies nD τ sig Unit) g u → u ∈ L g ∧ 0 < lv g u := fun d hd => by
    rw [tallyAt_apply] at hd
    split at hd
    · next hg => obtain ⟨rfl, -⟩ := hg; exact ⟨by rw [L_tc]; exact Finset.mem_singleton_self _, by show 0 < 1; decide⟩
    · exact absurd hd (Nat.lt_irrefl 0)
  rcases Nat.add_pos_iff_pos_or_pos.mp h with h | h
  · rcases Nat.add_pos_iff_pos_or_pos.mp h with h | h
    · obtain ⟨k, -, hk, rfl⟩ := owing_pos h
      exact ⟨by rw [L_tc]; exact Finset.mem_singleton_self _, by rw [lv_rcv _ hk]; omega⟩
    · exact bar _ h
  · exact bar _ h

theorem cut (t : Fin (cfg0.N + 1)) (g : GSem nD τ sig) (u : Unit) (h : 0 < (dat0 V c).owed t g u) : u ∈ L g ∧ 0 < lv g u := by
  obtain ⟨t, ht⟩ := t
  cases t with
  | zero => exact O₀_cut h
  | succ t => exact absurd h (Nat.lt_irrefl 0)

theorem at_entry (w : Fin 4) : (dat0 V c).arrAt w 0 = V c (Proc.devRef .tc (Pipeline.arrRef spec0 w)) := rfl

theorem at_exit_in (w : Fin 4) (h : (win0 w).isOut = false) : (dat0 V c).arrAt w cfg0.N = V c (Proc.devRef .tc (Pipeline.arrRef spec0 w)) :=
  (dat0 V c).arrAt_in w h cfg0.N

theorem at_exit_out : (dat0 V c).arrAt (3 : Fin 4) cfg0.N = done (xsOf V) (wsOf V) c := by
  rw [show cfg0.N = (Gen.t0_0 : Fin cfg0.N).val + 1 from Gen.N_0, Dat.arrAt_succ, if_pos (Gen.flush0_3 _)]
  exact Memref.write_access_unit_zero_univ (Elt F) main_v17 (funext fun _ => Nat.zero_mul _) _ _ _

theorem at_exit (w : Fin 4) : (dat0 V c).arrAt w cfg0.N = VV V c (Proc.devRef .tc (Pipeline.arrRef spec0 w)) := by
  fin_cases w
  · exact (at_exit_in 0 rfl).trans (VV_of_ne (by decide)).symm
  · exact (at_exit_in 1 rfl).trans (VV_of_ne (by decide)).symm
  · exact (at_exit_in 2 rfl).trans (VV_of_ne (by decide)).symm
  · exact at_exit_out.trans VV_result.symm

theorem VV_others (b : DevRef τ sig) (h : b ∈ others \ (∅ : Finset (DevRef τ sig))) : VV V c b = V c b :=
  VV_of_ne fun e => (Finset.mem_sdiff.mp (Finset.mem_sdiff.mp h).1).2 (e ▸ result_mem)

theorem held_none (W : Valuation τ sig (Elt F)) : (StableHlo.held (c : Thread nD τ) (∅ : Finset (DevRef τ sig)) W : sProp 𝕄) = BI.emp := by
  unfold StableHlo.held
  exact BI.bigSep_empty

theorem into : iprop(Pipeline.scopedRest (Pipeline.pin (pcfgs (F := F)) Gen.adm 0).spec c ∗ (∃ r, prngReg c r)
      ∗ StableHlo.held (c.tc : Thread nD τ) (∅ : Finset (DevRef τ sig)) (V c) ∗ Xk (xsOf V) (wsOf V) c)
    ⊢ ((pdats V 0 c).Φ 0 : sProp 𝕄) := by
  rw [show (pdats V 0 c).Φ 0 = Before (xsOf V) (wsOf V) c from rfl]
  unfold Before
  iintro ⟨Hs, Hp, -, HX⟩
  isplitl [HX]; · iexact HX
  isplitl [Hs]; · iapply rest_eq; iexact Hs
  iexact Hp

theorem outof : ((pdats V 0 c).Φ (Fin.last (Pipeline.pin (pcfgs (F := F)) Gen.adm 0).N) : sProp 𝕄)
    ⊢ iprop(Pipeline.scopedRest (Pipeline.pin (pcfgs (F := F)) Gen.adm 0).spec c ∗ (∃ r, prngReg c r)
      ∗ StableHlo.held (c.tc : Thread nD τ) (∅ : Finset (DevRef τ sig)) (VV V c) ∗ Pipeline.ownSems0 osem c ∗ semVal (barCell c) 0) := by
  rw [show (pdats V 0 c).Φ (Fin.last (Pipeline.pin (pcfgs (F := F)) Gen.adm 0).N) = After c from phi_end, held_none]
  unfold After
  iintro ⟨Hs, Hp, Ho, Hb⟩
  isplitl [Hs]; · iapply eq_rest; iexact Hs
  isplitl [Hp]; · iexact Hp
  isplitr; · iempintro
  isplitl [Ho]; · iexact Ho
  iexact Hb

theorem bar_kept : (semVal (barCell c) 0 : sProp 𝕄) ⊢ (|={Set.univ}=> semVal (barCell c) 0 : sProp 𝕄) := by
  iintro H
  imodintro; iexact H

variable (V)

set_option backward.isDefEq.respectTransparency.types false in
/-- The kernel's record. -/
def reg (hV : ∀ c, V c main_v16 = metaV c) : Pipeline.RegionSeg (pcfgs (F := F)) Gen.adm (pdats V) () defs₀ 𝒱₀ L lv 0 :=
  Pipeline.RegionSeg.ofTalk (pcfgs (F := F)) Gen.adm (pdats V) () defs₀ 𝒱₀ L lv 0 osem semFacts
    ∅ others (Finset.empty_subset _) Gen.launch0.toP rfl (fun c => (body_ok (hV c)).loose)
    (fun _ => 0) O₀ (fun _ => (zero_add _).symm) (fun _ => owed_end) (fun _ => rfl) (fun _ w => by unfold Dat.share; split <;> rfl)
    V (VV V) (fun _ b hb => VV_others b hb)
    (Tk (xsOf V) (wsOf V)) (fun c => semVal (barCell c) 0) (Xk (xsOf V) (wsOf V)) (fun c => semVal (barCell c) 0)
    (enter (xsOf V) (wsOf V)) (fun _ => into) (fun _ => outof) (fun _ => bar_kept)
    (fun _ => 0)
    ⟨fun _ _ _ => by rw [L_tc]; exact Finset.mem_singleton_self _,
      fun _ w s => Nat.le_of_eq (staging_low _ w s), fun _ t g i h => cut t g i h⟩
    (fun _ => iprop(emp))
    (fun _ w => at_entry w) (fun _ w => at_exit w)

theorem held_all (c : Dev nD) (W : Valuation τ sig (Elt F)) :
    (StableHlo.held (c : Thread nD τ) (Pipeline.ucRefs τ sig) W : sProp 𝕄)
      = iprop(StableHlo.held (c : Thread nD τ) arrs W ∗ StableHlo.held (c : Thread nD τ) others W) :=
  StableHlo.held_sub_split (c : Thread nD τ) arr_sub W

/-- From the buffers held whole and what the launch dealt, into the record; -/
theorem reg_pre (hV : ∀ c, V c main_v16 = metaV c) (c : Dev nD) :
    iprop(StableHlo.held (c : Thread nD τ) (Pipeline.ucRefs τ sig) (V c) ∗ (∃ r, prngReg c r) ∗ Tk (xsOf V) (wsOf V) c ∗ ∃ W, owes (c : Thread nD τ) (O₀ c) W)
      ⊢ ((reg V hV).pre c : sProp 𝕄) := by
  show _ ⊢ iprop(StableHlo.held (c.tc : Thread nD τ) arrs (V c) ∗ (∃ r, prngReg c r)
    ∗ (StableHlo.held (c.tc : Thread nD τ) others (V c) ∗ emp) ∗ Tk (xsOf V) (wsOf V) c ∗ ∃ Wd, owes (c : Thread nD τ) (0 + O₀ c) Wd)
  rw [held_all, zero_add]
  iintro ⟨⟨Ha, Ho⟩, Hp, HT, HO⟩
  isplitl [Ha]; · iexact Ha
  isplitl [Hp]; · iexact Hp
  isplitl [Ho]
  · isplitl [Ho]; · iexact Ho
    iempintro
  isplitl [HT]; · iexact HT
  iexact HO

/-- and out of it. -/
theorem reg_post (hV : ∀ c, V c main_v16 = metaV c) (c : Dev nD) :
    ((reg V hV).post c : sProp 𝕄)
      ⊢ iprop(StableHlo.held (c : Thread nD τ) (Pipeline.ucRefs τ sig) (VV V c) ∗ semVal (barCell c) 0 ∗ ∃ W, owes (c : Thread nD τ) (0 : CellTallies nD τ sig Unit) W) := by
  show iprop(StableHlo.held (c.tc : Thread nD τ) arrs (VV V c) ∗ (∃ r, prngReg c r)
    ∗ (StableHlo.held (c.tc : Thread nD τ) others (VV V c) ∗ emp) ∗ semVal (barCell c) 0 ∗ ∃ Wd, owes (c : Thread nD τ) (0 : CellTallies nD τ sig Unit) Wd) ⊢ _
  rw [held_all]
  iintro ⟨Ha, -, ⟨Ho, -⟩, Hb, HO⟩
  isplitl [Ha Ho]
  · isplitl [Ha] <;> iassumption
  isplitl [Hb]; · iexact Hb
  iexact HO

end Cert.KernelIdeal.Ring
-- ==== Proof.Fund.lean ====
/- Funding the protocol at launch: any cells it may have. -/
module

public import proofs.«01_k».proof.Proof.Talk

@[expose] public section

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal
open Facts₀ Facts

variable {F : FTy → Type} [FloatOps F]

local notation "𝕄" => MT nD τ sig Unit (Elt F) ℕ UU ℕ

variable (xs : Dev nD → Vec F S2048x128 .bf16) (ws : Dev nD → Vec F S128x2048 .bf16)

/-- The cells' invariants, positions, rights and tokens, from the counters in hand and the launch's ghost state. -/
theorem fund_any {S Sd : Finset (GSem nD τ sig)} (h : Disjoint S Sd) (T : Finset (GSem nD τ sig × ℕ × Bool)) :
    (iprop(bigSep S (fun g => semVal g 0) ∗ BI.own (ER (launchOf S Sd T))) : sProp 𝕄)
      ⊢ |={Set.univ}=> iprop(∃ κ : GSem nD τ sig → ℕ, (bigSep (S ∪ Sd) fun g => cellInv ER (ring xs ws) (κ g) g) ∗ bigSep S (fun g => reached ER g 0)
        ∗ bigSep S (fun g => atPos ER g 0 ∅ 0) ∗ bigSep Sd (fun g => openTok ER g) ∗ bigSep T (fun x => dutyTok ER x.1 x.2.1 x.2.2)) := by
  iintro H
  imod (Rounds.fund_launch ER (ring xs ws) h (fun g _ h => h) T) $$ [H] with ⟨%κ, -, Hinv, Hr, Hat, Hopen, Htok⟩
  · iexact H
  imodintro
  iexists κ
  isplitl [Hinv]; · iexact Hinv
  isplitl [Hr]; · iexact Hr
  isplitl [Hat]; · iexact Hat
  isplitl [Hopen]; · iexact Hopen
  iexact Htok

end Cert.KernelIdeal.Ring
-- ==== Proof.Deal.lean ====
/- The launch: what each device is dealt of the protocol's ghost state and of the credit for what the others owe it. -/
module

public import proofs.«01_k».proof.Proof.Region
public import proofs.«01_k».proof.Proof.Fund

@[expose] public section

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal
open Facts₀ Facts

variable {F : FTy → Type} [FloatOps F]

local notation "𝕄" => MT nD τ sig Unit (Elt F) ℕ UU ℕ

/-! ## Cells are told apart -/

theorem fl_ne_bar (b : Bool) (c d : Dev nD) (n : ℕ) : fl b c n ≠ barCell d := fun h => by
  have := congrArg Prod.snd h
  cases this

theorem cells_disjoint : Disjoint (barCells : Finset (GSem nD τ sig)) flCells := by
  rw [Finset.disjoint_left]
  rintro g h₁ h₂
  obtain ⟨d, -, rfl⟩ := Finset.mem_map.mp h₁
  obtain ⟨⟨c, b, n⟩, -, h⟩ := Finset.mem_map.mp h₂
  exact fl_ne_bar b c d n.val h

theorem dev_of {c d : Dev nD} {s s' : SemLoc sig} (h : (((c : Thread nD τ), s) : GSem nD τ sig) = ((d : Thread nD τ), s')) : c = d :=
  congrArg (fun g : GSem nD τ sig => g.1.1) h
theorem fl_eq_num {b b' : Bool} {c d : Dev nD} {n k : ℕ} (hn : n < 240) (hk : k < 240) (h : fl b c n = fl b' d k) : n = k := by
  have h' : (SemLoc.dma (flSem b n) : SemLoc sig) = .dma (flSem b' k) := congrArg Prod.snd h
  injection h' with h'
  exact (flSem_inj hn hk h').2

/-! ## The duties' tokens -/

def barTok : Dev nD × Bool ↪ GSem nD τ sig × ℕ × Bool :=
  ⟨fun x => (barCell x.1, 0, x.2), fun x y h =>
    Prod.ext (dev_of (congrArg Prod.fst h)) (congrArg (fun t : GSem nD τ sig × ℕ × Bool => t.2.2) h)⟩
def flTok : Dev nD × SemIx ↪ GSem nD τ sig × ℕ × Bool :=
  ⟨fun x => (flEmb x, 0, false), fun _ _ h => flEmb.injective (congrArg Prod.fst h)⟩

theorem toks_disjoint : Disjoint (Finset.univ.map barTok) (Finset.univ.map flTok) := by
  rw [Finset.disjoint_left]
  rintro g h₁ h₂
  obtain ⟨⟨d, e⟩, -, rfl⟩ := Finset.mem_map.mp h₁
  obtain ⟨⟨c, b, n⟩, -, h⟩ := Finset.mem_map.mp h₂
  exact fl_ne_bar b c d n.val (congrArg Prod.fst h)

def allToks : Finset (GSem nD τ sig × ℕ × Bool) := Finset.univ.map barTok ∪ Finset.univ.map flTok

/-- Whose barrier a device signals, by direction; whose cell its transfer completes on. -/
def barTo : Dev nD × Bool ≃ Dev nD × Bool where
  toFun x := (nbr (!x.2) x.1, x.2)
  invFun x := (nbr x.2 x.1, x.2)
  left_inv x := Prod.ext (nbr_nbr x.2 x.1) rfl
  right_inv x := Prod.ext (nbr_nbr' x.2 x.1) rfl
def flTo : Dev nD × SemIx ≃ Dev nD × SemIx where
  toFun x := (if x.2.1 then nbr (dir x.2.2.val) x.1 else x.1, x.2)
  invFun x := (if x.2.1 then nbr (!dir x.2.2.val) x.1 else x.1, x.2)
  left_inv x := by
    obtain ⟨c, b, n⟩ := x
    cases b
    · rfl
    · exact Prod.ext (nbr_nbr' (dir n.val) c) rfl
  right_inv x := by
    obtain ⟨c, b, n⟩ := x
    cases b
    · rfl
    · exact Prod.ext (nbr_nbr (dir n.val) c) rfl

/-- Two families over the same set, as one family of pairs; and back. -/
theorem pair_up {I : Type} [DecidableEq I] (s : Finset I) (Φ Ψ : I → sProp 𝕄) :
    iprop(bigSep s Φ ∗ bigSep s Ψ) ⊢ bigSep s (fun x => iprop(Φ x ∗ Ψ x)) := Entails.of_eq (bigSep_sep' ..).symm
theorem pair_down {I : Type} [DecidableEq I] (s : Finset I) (Φ Ψ : I → sProp 𝕄) :
    bigSep s (fun x => iprop(Φ x ∗ Ψ x)) ⊢ iprop(bigSep s Φ ∗ bigSep s Ψ) := Entails.of_eq (bigSep_sep' ..)

/-- The tokens of the duties device `c` does. -/
def ownToks (c : Dev nD) : sProp 𝕄 :=
  iprop((dutyTok ER (barCell (nbr true c)) 0 false ∗ dutyTok ER (barCell (nbr false c)) 0 true)
    ∗ bigSep (Finset.Ico 0 240) (fun n => dutyTok ER (fl false c n) 0 false)
    ∗ bigSep (Finset.Ico 0 240) (fun n => dutyTok ER (fl true (nbr (dir n) c) n) 0 false))

theorem deal_bar : (bigSep (Finset.univ.map barTok) (fun x => dutyTok ER x.1 x.2.1 x.2.2) : sProp 𝕄)
    = bigSep Finset.univ fun c : Dev nD => iprop(dutyTok ER (barCell (nbr true c)) 0 false ∗ dutyTok ER (barCell (nbr false c)) 0 true) := by
  rw [bigSep_map, bigSep_univ_equiv barTo, bigSep_univ_prod]
  exact bigSep_congr fun c _ => bigSep_bool (F := F) (fun d => dutyTok ER (barCell (nbr (!d) c)) 0 d)

theorem deal_fl : (bigSep (Finset.univ.map flTok) (fun x => dutyTok ER x.1 x.2.1 x.2.2) : sProp 𝕄)
    = bigSep Finset.univ fun c : Dev nD => iprop(bigSep (Finset.Ico 0 240) (fun n => dutyTok ER (fl false c n) 0 false)
      ∗ bigSep (Finset.Ico 0 240) (fun n => dutyTok ER (fl true (nbr (dir n) c) n) 0 false)) := by
  rw [bigSep_map, bigSep_univ_equiv flTo, bigSep_univ_prod]
  exact bigSep_congr fun c _ => bigSep_sems (F := F) (fun b n => dutyTok ER (fl b (if b then nbr (dir n) c else c) n) 0 false)

theorem deal_toks : (bigSep allToks (fun x => dutyTok ER x.1 x.2.1 x.2.2) : sProp 𝕄) = bigSep Finset.univ fun c : Dev nD => ownToks c := by
  unfold allToks ownToks
  rw [bigSep_union toks_disjoint, deal_bar, deal_fl]
  exact (bigSep_sep' ..).symm

theorem deal_open : (bigSep flCells (fun g => openTok ER g) : sProp 𝕄)
    = bigSep Finset.univ fun c : Dev nD => iprop(bigSep (Finset.Ico 0 240) (fun n => openTok ER (fl false c n)) ∗ bigSep (Finset.Ico 0 240) (fun n => openTok ER (fl true c n))) := by
  rw [bigSep_map, bigSep_univ_prod]
  exact bigSep_congr fun c _ => bigSep_sems (F := F) (fun b n => openTok ER (fl b c n))

/-! ## The credit -/

theorem owing_at (d c : Dev nD) {n : ℕ} (hn : n < 240) : owing 0 d (fl true c n) () = if d = nbr (!dir n) c then N else 0 := by
  unfold owing
  rw [Finset.sum_apply, Finsupp.finset_sum_apply, Finset.sum_eq_single n]
  · rw [tallyAt_apply]
    by_cases h : d = nbr (!dir n) c
    · subst h; rw [nbr_nbr, if_pos ⟨rfl, rfl⟩, if_pos rfl]
    · rw [if_neg h, if_neg (fun h' => h (by rw [dev_of h'.1, nbr_nbr']))]
  · intro k hk hne
    rw [Finset.mem_Ico] at hk
    rw [tallyAt_apply, if_neg (fun h' => hne (fl_eq_num hn hk.2 h'.1).symm)]
  · intro h
    exact absurd (Finset.mem_Ico.mpr ⟨Nat.zero_le _, hn⟩) h

theorem owing_bar (d c : Dev nD) : owing 0 d (barCell c) () = 0 := by
  by_contra h
  obtain ⟨k, -, -, e⟩ := owing_pos (Nat.pos_of_ne_zero h)
  exact fl_ne_bar _ _ _ _ e.symm

theorem bar_at (b : Bool) (d c : Dev nD) : (tallyAt (barCell (nbr b d)) () 1 : CellTallies nD τ sig Unit) (barCell c) () = if d = nbr (!b) c then 1 else 0 := by
  rw [tallyAt_apply]
  by_cases h : d = nbr (!b) c
  · subst h; rw [nbr_nbr, if_pos ⟨rfl, rfl⟩, if_pos rfl]
  · rw [if_neg h, if_neg (fun h' => h (by rw [dev_of h'.1, nbr_nbr']))]

theorem owed_bar (d c : Dev nD) : O₀ d (barCell c) () = (if d = nbr true c then 1 else 0) + (if d = nbr false c then 1 else 0) := by
  unfold O₀
  rw [Pi.add_apply, Finsupp.add_apply, Pi.add_apply, Finsupp.add_apply, owing_bar, bar_at, bar_at, Nat.zero_add]
  rfl

theorem owed_fl (d c : Dev nD) {n : ℕ} (hn : n < 240) : O₀ d (fl true c n) () = if d = nbr (!dir n) c then N else 0 := by
  unfold O₀
  rw [Pi.add_apply, Finsupp.add_apply, Pi.add_apply, Finsupp.add_apply, owing_at d c hn,
    tallyAt_ne_cell (fl_ne_bar true c _ n), tallyAt_ne_cell (fl_ne_bar true c _ n), Finsupp.zero_apply, Nat.add_zero, Nat.add_zero]

theorem launch_bar (c : Dev nD) :
    tallyOn (barCell c) (launchCredit (Pipeline.owing O₀) 0 (barCell c)) = (tallyAt (barCell c) () 2 : CellTallies nD τ sig Unit) := by
  unfold tallyAt
  refine congrArg _ (Finsupp.ext fun u => ?_)
  rw [Pipeline.launchCredit_owing, Finsupp.single_eq_same, Finset.sum_congr rfl fun d _ => owed_bar d c, Finset.sum_add_distrib,
    Finset.sum_ite_eq' Finset.univ (nbr true c) fun _ => 1, Finset.sum_ite_eq' Finset.univ (nbr false c) fun _ => 1,
    if_pos (Finset.mem_univ _), if_pos (Finset.mem_univ _)]

theorem launch_fl (c : Dev nD) {n : ℕ} (hn : n < 240) :
    tallyOn (fl true c n) (launchCredit (Pipeline.owing O₀) 0 (fl true c n)) = (tallyAt (fl true c n) () N : CellTallies nD τ sig Unit) := by
  unfold tallyAt
  refine congrArg _ (Finsupp.ext fun u => ?_)
  rw [Pipeline.launchCredit_owing, Finsupp.single_eq_same, Finset.sum_congr rfl fun d _ => owed_fl d c hn,
    Finset.sum_ite_eq' Finset.univ (nbr (!dir n) c) fun _ => N, if_pos (Finset.mem_univ _)]

def rcvEmb : Fin 240 ↪ SemLoc sig := ⟨fun n => .dma (flSem true n.val), fun a b h => by
  injection h with h
  exact Fin.ext (flSem_inj a.isLt b.isLt h).2⟩

theorem rcv_sub : Finset.univ.map rcvEmb ⊆ (Finset.univ : Finset (SemLoc sig)).erase (.reg barS) := fun x hx => by
  obtain ⟨n, -, rfl⟩ := Finset.mem_map.mp hx
  exact Finset.mem_erase.mpr ⟨(fun h => by cases h), Finset.mem_univ _⟩

theorem rcv_creds (c : Dev nD) :
    (bigSep (Finset.univ.map rcvEmb) (fun sm => cred (tallyOn ((c : Thread nD τ), sm) (launchCredit (Pipeline.owing O₀) 0 ((c : Thread nD τ), sm)))) : sProp 𝕄)
      = bigSep (Finset.Ico 0 240) (fun n => cred (tallyAt (fl true c n) () N)) := by
  rw [bigSep_map, ← bigSep_fin_Ico]
  exact bigSep_congr fun n _ => congrArg cred (launch_fl c n.isLt)

theorem creds (c : Dev nD) :
    (Pipeline.launchCred O₀ c : sProp 𝕄) ⊢ iprop(cred (tallyAt (barCell c) () 2) ∗ bigSep (Finset.Ico 0 240) (fun n => cred (tallyAt (fl true c n) () N))) := by
  unfold Pipeline.launchCred
  rw [bigSep_univ_at _ (SemLoc.reg barS), launch_bar, ← rcv_creds]
  exact sep_mono_right (bigSep_subset rcv_sub)

theorem unscoped_eq : ∀ sm : SemLoc sig, sm.isScoped .tc = false → sm = .reg barS := by decide +kernel

theorem unscoped_bar (c : Dev nD) : (unscopedSems0 c : sProp 𝕄) ⊢ semVal (barCell c) 0 := by
  unfold unscopedSems0
  exact bigSep_elim (Φ := fun sm => semVal ((c : Thread nD τ), sm) 0) (Finset.mem_filter.mpr ⟨Finset.mem_univ (SemLoc.reg barS), by decide⟩)

/-! ## The deal -/

/-- The launch's share of the ghost state. -/
def u₀ : UU :=
  (initOf (Pipeline.cells (nD := nD) (τ := τ) cfgs Gen.cellOf_inj) (Pipeline.launchToks (nD := nD) (τ := τ) cfgs Gen.cellOf_inj), launchOf barCells flCells allToks)

/-- An assertion held by one device. -/
def onDev (c₀ : Dev nD) (X : sProp 𝕄) (c : Dev nD) : sProp 𝕄 := if c = c₀ then X else iprop(emp)

theorem bigSep_onDev (c₀ : Dev nD) (X : sProp 𝕄) : bigSep Finset.univ (onDev c₀ X) = X := by
  rw [bigSep_univ_at _ c₀, bigSep_congr (Φ := onDev c₀ X) (Ψ := fun _ => (BI.emp : sProp 𝕄)) fun c hc => if_neg (Finset.ne_of_mem_erase hc), BI.bigSep_emp_const,
    onDev, if_pos rfl]
  exact BI.equiv_iff.mp sep_emp

def G : Dev nD → sProp 𝕄 := onDev 0 (BI.own (ER (launchOf barCells flCells allToks)))

theorem u₀_split : (ownU u₀ : sProp 𝕄)
    ⊢ |={Set.univ}=> iprop(BI.own (EP (initOf (Pipeline.cells (nD := nD) (τ := τ) cfgs Gen.cellOf_inj) (Pipeline.launchToks (nD := nD) (τ := τ) cfgs Gen.cellOf_inj))) ∗ bigSep Finset.univ G) := by
  unfold u₀ G
  iintro Hu
  ihave H := (ownU_pair _ _) $$ Hu
  icases H with ⟨HP, HX⟩
  imodintro
  isplitl [HP]; · iexact HP
  rw [bigSep_onDev]; iexact HX

variable (xs : Dev nD → Vec F S2048x128 .bf16) (ws : Dev nD → Vec F S128x2048 .bf16)

/-- What every device may read of the launch. -/
def records (κ : GSem nD τ sig → ℕ) : sProp 𝕄 :=
  iprop(cx xs ws κ ∗ bigSep barCells (fun g => reached ER g 0))

instance (κ : GSem nD τ sig → ℕ) : Persistent (records xs ws κ) := by unfold records cx; infer_instance

theorem reached_bar (c : Dev nD) : (bigSep barCells (fun g => reached ER g 0) : sProp 𝕄) ⊢ reached ER (barCell c) 0 :=
  bigSep_elim (Finset.mem_map_of_mem barEmb (Finset.mem_univ c))

/-- A device's own share of the ghost state, and what else it holds at launch. -/
def share (c : Dev nD) : sProp 𝕄 :=
  iprop(atPos ER (barCell c) 0 ∅ 0
    ∗ (bigSep (Finset.Ico 0 240) (fun n => openTok ER (fl false c n)) ∗ bigSep (Finset.Ico 0 240) (fun n => openTok ER (fl true c n))) ∗ ownToks c)
def bundle (c : Dev nD) : sProp 𝕄 :=
  iprop(cred (tallyAt (barCell c) () 2) ∗ bigSep (Finset.Ico 0 240) (fun n => cred (tallyAt (fl true c n) () N)) ∗ owes (c : Thread nD τ) (O₀ c) ∅ ∗ ∃ r, prngReg c r)

/-- What a device holds until the region begins. -/
def rest₀ (c : Dev nD) : sProp 𝕄 := iprop((∃ r, prngReg c r) ∗ Tk xs ws c ∗ ∃ W, owes (c : Thread nD τ) (O₀ c) W)

theorem dealt_intro (c : Dev nD) :
    (iprop((bigSep (Finset.Ico 0 240) (fun n => dutyTok ER (fl false c n) 0 false)
      ∗ bigSep (Finset.Ico 0 240) (fun n => dutyTok ER (fl true (nbr (dir n) c) n) 0 false))
      ∗ bigSep (Finset.Ico 0 240) (fun n => cred (tallyAt (fl true c n) () N))) : sProp 𝕄) ⊢ bigSep (Finset.Ico 0 240) (dealt c) := by
  iintro ⟨⟨HA, HB⟩, HC⟩
  iapply (show (bigSep (Finset.Ico 0 240) fun n => iprop((dutyTok ER (fl false c n) 0 false ∗ dutyTok ER (fl true (nbr (dir n) c) n) 0 false)
    ∗ cred (tallyAt (fl true c n) () N)) : sProp 𝕄) ⊢ bigSep (Finset.Ico 0 240) (dealt c) from BI.Entails.refl _)
  iapply (pair_up (F := F) _ _ _)
  isplitl [HA HB]
  · iapply (pair_up (F := F) _ _ _)
    isplitl [HA]; · iexact HA
    iexact HB
  iexact HC

theorem rest_intro (κ : GSem nD τ sig → ℕ) (c : Dev nD) : iprop(records xs ws κ ∗ (share c ∗ bundle c)) ⊢ rest₀ xs ws c := by
  unfold records share bundle rest₀ Tk greet ownToks
  iintro ⟨⟨#HX, #HR⟩, ⟨Hat, ⟨HoF, HoT⟩, ⟨HtR, HtL⟩, HdF, HdT⟩, HcB, HcF, HO, Hp⟩
  isplitl [Hp]; · iexact Hp
  isplitr [HO]
  · isplitr
    · iexists κ; iexact HX
    isplitl [Hat HtR HtL HcB]
    · isplitl [HtR]; · iexact HtR
      isplitl [HtL]; · iexact HtL
      isplitr; · iapply (reached_bar (F := F) (nbr true c)); iexact HR
      isplitr; · iapply (reached_bar (F := F) (nbr false c)); iexact HR
      isplitl [HcB]; · iexact HcB
      iexact Hat
    isplitl [HdF HdT HcF]
    · iapply (dealt_intro (F := F) c)
      isplitl [HdF HdT]
      · isplitl [HdF]; · iexact HdF
        iexact HdT
      iexact HcF
    isplitl [HoF]; · iexact HoF
    iexact HoT
  · iexists ∅; iexact HO

/-- What the launch hands a device: its barrier's counter, what it owes, its credit, its random state. -/
theorem core (ρ : Dev nD → PrngReg) (c : Dev nD) :
    (iprop(unscopedSems0 c ∗ owes (c : Thread nD τ) (O₀ c) ∅ ∗ Pipeline.launchCred O₀ c ∗ prngReg c (ρ c) ∗ G c) : sProp 𝕄)
      ⊢ iprop(bundle c ∗ (semVal (barCell c) 0 ∗ G c)) := by
  unfold bundle
  iintro ⟨Hus, HO, Hcr, Hp, HG⟩
  ihave Hc := (creds (F := F) c) $$ Hcr
  icases Hc with ⟨H1, HN⟩
  isplitl [H1 HN HO Hp]
  · isplitl [H1]; · iexact H1
    isplitl [HN]; · iexact HN
    isplitl [HO]; · iexact HO
    iexists (ρ c); iexact Hp
  isplitl [Hus]
  · iapply (unscoped_bar (F := F) c); iexact Hus
  iexact HG

theorem bars_in : (bigSep Finset.univ (fun c : Dev nD => semVal (barCell c) 0) : sProp 𝕄) ⊢ bigSep barCells (fun g => semVal g 0) := by
  rw [bigSep_map]
  exact BI.Entails.refl _
theorem bars_at : (bigSep barCells (fun g => atPos ER g 0 ∅ 0) : sProp 𝕄) ⊢ bigSep Finset.univ (fun c : Dev nD => atPos ER (barCell c) 0 ∅ 0) := by
  rw [bigSep_map]
  exact BI.Entails.refl _

theorem cores (ρ : Dev nD → PrngReg) :
    (bigSep Finset.univ fun c : Dev nD => iprop(unscopedSems0 c ∗ owes (c : Thread nD τ) (O₀ c) ∅ ∗ Pipeline.launchCred O₀ c ∗ prngReg c (ρ c) ∗ G c) : sProp 𝕄)
      ⊢ bigSep Finset.univ fun c : Dev nD => iprop(bundle c ∗ (semVal (barCell c) 0 ∗ G c)) := bigSep_mono fun c _ => core ρ c

theorem G_all : (bigSep Finset.univ G : sProp 𝕄) ⊢ BI.own (ER (launchOf barCells flCells allToks)) := by
  unfold G
  rw [bigSep_onDev]

theorem shares : (iprop(bigSep barCells (fun g => atPos ER g 0 ∅ 0) ∗ bigSep flCells (fun g => openTok ER g)
      ∗ bigSep allToks (fun x => dutyTok ER x.1 x.2.1 x.2.2)) : sProp 𝕄) ⊢ bigSep Finset.univ fun c : Dev nD => share c := by
  rw [deal_open, deal_toks]
  unfold share
  iintro ⟨Hat, Hopen, Htok⟩
  iapply (pair_up (F := F) _ _ _)
  isplitl [Hat]
  · iapply (bars_at (F := F)); iexact Hat
  iapply (pair_up (F := F) _ _ _)
  isplitl [Hopen]; · iexact Hopen
  iexact Htok

theorem fund : (iprop(bigSep barCells (fun g => semVal g 0) ∗ BI.own (ER (launchOf barCells flCells allToks))) : sProp 𝕄)
    ⊢ |={Set.univ}=> iprop(∃ κ : GSem nD τ sig → ℕ, (bigSep (barCells ∪ flCells) fun g => cellInv ER (ring xs ws) (κ g) g) ∗ bigSep barCells (fun g => reached ER g 0)
      ∗ bigSep barCells (fun g => atPos ER g 0 ∅ 0) ∗ bigSep flCells (fun g => openTok ER g) ∗ bigSep allToks (fun x => dutyTok ER x.1 x.2.1 x.2.2)) :=
  fund_any xs ws cells_disjoint allToks

theorem rests (κ : GSem nD τ sig → ℕ) : iprop(records xs ws κ ∗ bigSep Finset.univ (fun c : Dev nD => iprop(share c ∗ bundle c)))
    ⊢ bigSep Finset.univ (rest₀ xs ws) :=
  bigSep_with_persistent (R := records xs ws κ) (Φ := fun c => iprop(share c ∗ bundle c)) fun c _ => rest_intro xs ws κ c

theorem deal (ρ : Dev nD → PrngReg) :
    (iprop((bigSep Finset.univ fun c : Dev nD => iprop(unscopedSems0 c ∗ owes (c : Thread nD τ) (O₀ c) ∅ ∗ Pipeline.launchCred O₀ c ∗ prngReg c (ρ c) ∗ G c)) ∗ levAts L lv) : sProp 𝕄)
      ⊢ |={Set.univ}=> bigSep Finset.univ (rest₀ xs ws) := by
  iintro ⟨H, #Hlev⟩
  ihave H' := (cores (F := F) ρ) $$ H
  ihave H2 := (pair_down (F := F) Finset.univ bundle fun c => iprop(semVal (barCell c) 0 ∗ G c)) $$ H'
  icases H2 with ⟨HB, H3⟩
  ihave H4 := (pair_down (F := F) Finset.univ (fun c => semVal (barCell c) 0) G) $$ H3
  icases H4 with ⟨Hv, HG⟩
  imod (fund xs ws) $$ [Hv HG] with ⟨%κ, #Hinv, #Hr, Hs⟩
  · isplitl [Hv]
    · iapply (bars_in (F := F)); iexact Hv
    · iapply (G_all (F := F)); iexact HG
  imodintro
  iapply (rests xs ws κ)
  isplitr
  · unfold records cx
    isplitr
    · isplitr; · iexact Hinv
      iexact Hlev
    iexact Hr
  iapply (pair_up (F := F) Finset.univ share bundle)
  isplitr [HB]
  · iapply (shares (F := F)); iexact Hs
  · iexact HB

end Cert.KernelIdeal.Ring
-- ==== Proof.Host.lean ====
/- The table the host computes for the kernel: each device's place on the ring and its two neighbours. -/
module

public import proofs.«01_k».proof.Proof.Start
public import proofs.«01_k».proof.Proof.Gen.KernelIdeal.Regions
public import Idealize.ShloMosaic.Lib.StableHlo.ReadAt
public import Idealize.ShloMosaic.Lib.Pointwise

@[expose] public section

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal
open Facts₀ Facts

variable {F : FTy → Type} [FloatOps F]

local notation "𝕄" => MT nD τ sig Unit (Elt F) ℕ UU ℕ

variable (V : Valuation τ sig (Elt F)) (c : Dev nD)

theorem idx0 (i : S_.Idx) : i = ix0 := Subsingleton.elim _ _

/-- A word read out of a table of sixteen, as @_take does it. -/
abbrev takeOf (T : S16.Idx → BitVec 32) (x : S_.Idx → BitVec 32) : S_.Idx → BitVec 32 :=
  fun i => Scalar.select
      (Finset.fold IntOp.andi (1#1)
        (fun _ : Fin 1 =>
          IntOp.andi
            (IntOp.cmpi CmpIPredicate.sge
              (Scalar.select (IntOp.cmpi CmpIPredicate.slt (x ix0) 0#32) (IntOp.addi (x ix0) 16#32) (x ix0)) 0#32)
            (IntOp.cmpi CmpIPredicate.sle
              (Scalar.select (IntOp.cmpi CmpIPredicate.slt (x ix0) 0#32) (IntOp.addi (x ix0) 16#32) (x ix0)) 15#32))
        Finset.univ)
      (Host.gather gather_S16_S1_S__n_0_n_n_0_0_1 T
        (broadcastInDim S1 ![] Gen.bcast_S_S1
          (select (cmpi CmpIPredicate.slt x (constantI S_ 32 0#32)) (addi x (constantI S_ 32 16#32)) x)) i)
      2147483648#32

theorem take_lit0 (k : Fin 16) : takeOf (fun i => lit0 (S16.rowMajor i)) (fun _ => BitVec.ofNat 32 k.val) ix0 = lit0 k := by
  revert k; decide +kernel
theorem take_lit1 (k : Fin 16) : takeOf (fun i => lit1 (S16.rowMajor i)) (fun _ => BitVec.ofNat 32 k.val) ix0 = lit1 k := by
  revert k; decide +kernel
theorem take_lit2 (k : Fin 16) : takeOf (fun i => lit2 (S16.rowMajor i)) (fun _ => BitVec.ofNat 32 k.val) ix0 = lit2 k := by
  revert k; decide +kernel

theorem device_word (c : Dev nD) :
    (id (Host.remui (Host.divui (constantI S_ 32 c.word) (constantI S_ 32 1#32)) (constantI S_ 32 16#32)) : S_.Idx → BitVec 32) ix0 = BitVec.ofNat 32 c.val := by
  revert c; decide +kernel

theorem host_device : StableHlo.after (Gen.hostOps0 c) V main_v4 = fun _ => BitVec.ofNat 32 c.val := by
  funext i
  after_reads_at
  rw [idx0 i]
  exact device_word c
theorem tab_place : StableHlo.after (Gen.hostOps0 c) V main_c = fun i => lit0 (S16.rowMajor i) := by
  after_reads_simp
  rfl
theorem tab_on : StableHlo.after (Gen.hostOps0 c) V main_c_0 = fun i => lit1 (S16.rowMajor i) := by
  after_reads_simp
  rfl
theorem tab_back : StableHlo.after (Gen.hostOps0 c) V main_c_1 = fun i => lit2 (S16.rowMajor i) := by
  after_reads_simp
  rfl

theorem step_place : StableHlo.after Gen.hostOps0_1 V main_v5 = takeOf (V main_c) (V main_v4) := by
  funext i
  after_reads_at
theorem step_right : StableHlo.after Gen.hostOps0_4 V main_v8 = takeOf (V main_c_0) (V main_v7) := by
  funext i
  after_reads_at
theorem step_left : StableHlo.after Gen.hostOps0_7 V main_v12 = takeOf (V main_c_1) (V main_v11) := by
  funext i
  after_reads_at

/-- A remainder of the sign of the divisor, as @remainder computes it. -/
abbrev remOf (x y : S_.Idx → BitVec 32) : S_.Idx → BitVec 32 := fun i =>
  Scalar.select
      (IntOp.andi
        (IntOp.cmpi CmpIPredicate.ne
          (IntOp.cmpi CmpIPredicate.slt
            (IntOp.remsi ArithUnit.host (x i) (Scalar.select (IntOp.cmpi CmpIPredicate.eq (y i) 0#32) (1#32) (y i))) 0#32)
          (IntOp.cmpi CmpIPredicate.slt (Scalar.select (IntOp.cmpi CmpIPredicate.eq (y i) 0#32) (1#32) (y i)) 0#32))
        (IntOp.cmpi CmpIPredicate.ne
          (IntOp.remsi ArithUnit.host (x i) (Scalar.select (IntOp.cmpi CmpIPredicate.eq (y i) 0#32) (1#32) (y i))) 0#32))
      (IntOp.addi
        (IntOp.remsi ArithUnit.host (x i) (Scalar.select (IntOp.cmpi CmpIPredicate.eq (y i) 0#32) (1#32) (y i)))
        (Scalar.select (IntOp.cmpi CmpIPredicate.eq (y i) 0#32) (1#32) (y i)))
      (IntOp.remsi ArithUnit.host (x i) (Scalar.select (IntOp.cmpi CmpIPredicate.eq (y i) 0#32) (1#32) (y i)))

theorem step_on_rem : StableHlo.after Gen.hostOps0_3 V main_v7 = remOf (V main_v6) (V main_c_5) := by
  funext i
  after_reads_at
  try rfl
theorem step_back_rem : StableHlo.after Gen.hostOps0_6 V main_v11 = remOf (V main_v10) (V main_c_8) := by
  funext i
  after_reads_at
  try rfl

theorem step_on : StableHlo.after Gen.hostOps0_2 V main_v6 = fun i => IntOp.addi (V main_v5 i) 1#32 := by
  funext i
  after_reads_at
theorem step_on_size : StableHlo.after Gen.hostOps0_2 V main_c_5 = fun _ => 16#32 := by
  funext i
  after_reads_at
theorem step_back : StableHlo.after Gen.hostOps0_5 V main_v10 = fun i => IntOp.subi (IntOp.addi (V main_v5 i) 16#32) 1#32 := by
  funext i
  after_reads_at
theorem step_back_size : StableHlo.after Gen.hostOps0_5 V main_c_8 = fun _ => 16#32 := by
  funext i
  after_reads_at

/-- The three words side by side. -/
abbrev three : List (HloOp τ sig (Elt F)) :=
  [ StableHlo.unary main_v5 main_v13 (broadcastInDim S1 ![] Gen.bcast_S_S1 : (⟨S_, .i32⟩ : BufTy).Contents (Elt F) → (⟨S1, .i32⟩ : BufTy).Contents (Elt F)),
    StableHlo.unary main_v8 main_v14 (broadcastInDim S1 ![] Gen.bcast_S_S1 : (⟨S_, .i32⟩ : BufTy).Contents (Elt F) → (⟨S1, .i32⟩ : BufTy).Contents (Elt F)),
    StableHlo.unary main_v12 main_v15 (broadcastInDim S1 ![] Gen.bcast_S_S1 : (⟨S_, .i32⟩ : BufTy).Contents (Elt F) → (⟨S1, .i32⟩ : BufTy).Contents (Elt F)) ]

theorem three_0 : StableHlo.after three V main_v13 = fun _ => V main_v5 ix0 := by
  funext i
  after_reads_at
theorem three_1 : StableHlo.after three V main_v14 = fun _ => V main_v8 ix0 := by
  funext i
  after_reads_at
theorem three_2 : StableHlo.after three V main_v15 = fun _ => V main_v12 ix0 := by
  funext i
  after_reads_at

theorem joined (a b d : BitVec 32) (i : S3.Idx) :
    (concatenate S3 0 [⟨S1, fun _ => a⟩, ⟨S1, fun _ => b⟩, ⟨S1, fun _ => d⟩] Gen.concatenates_S1_S1_S1_S3_d0 : S3.Idx → BitVec 32) i
      = if (i 0).val = 0 then a else if (i 0).val = 1 then b else d := by
  have hi : (i 0).val < 3 := (i 0).isLt
  pointwise
  split_ifs <;> first | rfl | omega

theorem join_result (W : Valuation τ sig (Elt F)) (h h') :
    (StableHlo.nary ![main_v13, main_v14, main_v15] main_v16
      (fun u => (concatenate S3 0 [⟨S1, (u 0 : (⟨S1, .i32⟩ : BufTy).Contents (Elt F))⟩, ⟨S1, (u 1 : (⟨S1, .i32⟩ : BufTy).Contents (Elt F))⟩,
        ⟨S1, (u 2 : (⟨S1, .i32⟩ : BufTy).Contents (Elt F))⟩] Gen.concatenates_S1_S1_S1_S3_d0 : (⟨S3, .i32⟩ : BufTy).Contents (Elt F))) h h').result W main_v16
      = concatenate S3 0 [⟨S1, W main_v13⟩, ⟨S1, W main_v14⟩, ⟨S1, W main_v15⟩] Gen.concatenates_S1_S1_S1_S3_d0 := by
  rw [StableHlo.nary_result]
  rfl

theorem step_table : StableHlo.after Gen.hostOps0_8 V main_v16
    = fun i : S3.Idx => if (i 0).val = 0 then V main_v5 ix0 else if (i 0).val = 1 then V main_v8 ix0 else V main_v12 ix0 := by
  have e0 := three_0 V
  have e1 := three_1 V
  have e2 := three_2 V
  rw [StableHlo.after_cons, StableHlo.after_cons, StableHlo.after_cons, StableHlo.after_nil] at e0 e1 e2
  rw [StableHlo.after_cons, StableHlo.after_cons, StableHlo.after_cons, StableHlo.after_cons, StableHlo.after_nil, join_result, e0, e1, e2]
  exact funext fun i => joined _ _ _ i

theorem at_lit0 (c : Dev nD) : lit0 c = posW c := by revert c; decide +kernel
theorem at_lit1 (c : Dev nD) : lit1 ⟨(pos c + 1) % 16, Nat.mod_lt _ (by decide)⟩ = rightW c := by revert c; decide +kernel
theorem at_lit2 (c : Dev nD) : lit2 ⟨(pos c + 15) % 16, Nat.mod_lt _ (by decide)⟩ = leftW c := by revert c; decide +kernel

variable (m : (ℓ : Loc nD τ sig) → Buf (Elt F) ℓ)

theorem host_place : Gen.V2 m c main_v5 = fun _ => posW c := by
  have h := step_place (Gen.V1 m c)
  rw [show Gen.V1 m c main_v4 = _ from host_device .., show Gen.V1 m c main_c = _ from tab_place ..] at h
  refine h.trans ?_
  funext i
  rw [idx0 i]
  exact (take_lit0 c).trans (at_lit0 c)

theorem on_word (c : Dev nD) : remOf (fun _ => IntOp.addi (posW c) 1#32) (fun _ => 16#32) ix0 = BitVec.ofNat 32 ((pos c + 1) % 16) := by
  revert c; decide +kernel
theorem back_word (c : Dev nD) : remOf (fun _ => IntOp.subi (IntOp.addi (posW c) 16#32) 1#32) (fun _ => 16#32) ix0 = BitVec.ofNat 32 ((pos c + 15) % 16) := by
  revert c; decide +kernel

theorem host_on : Gen.V4 m c main_v7 = fun _ => BitVec.ofNat 32 ((pos c + 1) % 16) := by
  have h := step_on_rem (Gen.V3 m c)
  have h6 : Gen.V3 m c main_v6 = fun _ => IntOp.addi (posW c) 1#32 := by
    rw [show Gen.V3 m c main_v6 = _ from step_on _]
    funext i
    exact congrArg (fun x : S_.Idx → BitVec 32 => IntOp.addi (x i) 1#32) (host_place c m)
  rw [h6, show Gen.V3 m c main_c_5 = _ from step_on_size _] at h
  refine h.trans ?_
  funext i
  rw [idx0 i]
  exact on_word c

theorem host_right : Gen.V5 m c main_v8 = fun _ => rightW c := by
  have h := step_right (Gen.V4 m c)
  have hc : Gen.V4 m c main_c_0 = fun i => lit1 (S16.rowMajor i) :=
    (Gen.V4_of m c main_c_0 (by decide)).trans <| (Gen.V3_of m c main_c_0 (by decide)).trans <| (Gen.V2_of m c main_c_0 (by decide)).trans (tab_on ..)
  rw [hc, host_on] at h
  refine h.trans ?_
  funext i
  rw [idx0 i]
  exact (take_lit1 ⟨(pos c + 1) % 16, Nat.mod_lt _ (by decide)⟩).trans (at_lit1 c)

theorem place_later : Gen.V5 m c main_v5 = fun _ => posW c :=
  (Gen.V5_of m c main_v5 (by decide)).trans <| (Gen.V4_of m c main_v5 (by decide)).trans <| (Gen.V3_of m c main_v5 (by decide)).trans (host_place ..)

theorem host_back : Gen.V7 m c main_v11 = fun _ => BitVec.ofNat 32 ((pos c + 15) % 16) := by
  have h := step_back_rem (Gen.V6 m c)
  have h6 : Gen.V6 m c main_v10 = fun _ => IntOp.subi (IntOp.addi (posW c) 16#32) 1#32 := by
    rw [show Gen.V6 m c main_v10 = _ from step_back _]
    funext i
    exact congrArg (fun x : S_.Idx → BitVec 32 => IntOp.subi (IntOp.addi (x i) 16#32) 1#32) (place_later c m)
  rw [h6, show Gen.V6 m c main_c_8 = _ from step_back_size _] at h
  refine h.trans ?_
  funext i
  rw [idx0 i]
  exact back_word c

theorem host_left : Gen.V8 m c main_v12 = fun _ => leftW c := by
  have h := step_left (Gen.V7 m c)
  have hc : Gen.V7 m c main_c_1 = fun i => lit2 (S16.rowMajor i) :=
    (Gen.V7_of m c main_c_1 (by decide)).trans <| (Gen.V6_of m c main_c_1 (by decide)).trans <| (Gen.V5_of m c main_c_1 (by decide)).trans <|
      (Gen.V4_of m c main_c_1 (by decide)).trans <| (Gen.V3_of m c main_c_1 (by decide)).trans <| (Gen.V2_of m c main_c_1 (by decide)).trans (tab_back ..)
  rw [hc, host_back] at h
  refine h.trans ?_
  funext i
  rw [idx0 i]
  exact (take_lit2 ⟨(pos c + 15) % 16, Nat.mod_lt _ (by decide)⟩).trans (at_lit2 c)

/-- The table the kernel is handed. -/
theorem host_table : Gen.V9 m c main_v16 = metaV c := by
  have h := step_table (Gen.V8 m c)
  have h5 : Gen.V8 m c main_v5 = fun _ => posW c :=
    (Gen.V8_of m c main_v5 (by decide)).trans <| (Gen.V7_of m c main_v5 (by decide)).trans <| (Gen.V6_of m c main_v5 (by decide)).trans (place_later ..)
  have h8 : Gen.V8 m c main_v8 = fun _ => rightW c :=
    (Gen.V8_of m c main_v8 (by decide)).trans <| (Gen.V7_of m c main_v8 (by decide)).trans <| (Gen.V6_of m c main_v8 (by decide)).trans (host_right ..)
  rw [h5, h8, host_left] at h
  exact h

end Cert.KernelIdeal.Ring
-- ==== Proof.Run.lean ====
/- The run: from any memory, the kernel ends with the arguments as they were, the result reduced, the counters at zero. -/
module

public import proofs.«01_k».proof.Proof.Seg
public import proofs.«01_k».proof.Proof.Deal
public import proofs.«01_k».proof.Proof.Host

@[expose] public section

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal
open Facts₀ Facts

variable {F : FTy → Type} [FloatOps F]

local notation "𝕄" => MT nD τ sig Unit (Elt F) ℕ UU ℕ

variable (m : (ℓ : Loc nD τ sig) → Buf (Elt F) ℓ) (ρ : Dev nD → PrngReg)

/-- The arguments as launched, one per device. -/
def argX (c : Dev nD) : Vec F S2048x128 .bf16 := m ((c : Thread nD τ).loc main_arg0)
def argW (c : Dev nD) : Vec F S128x2048 .bf16 := m ((c : Thread nD τ).loc main_arg1)

theorem kept_x (c : Dev nD) : Gen.V9 m c main_arg0 = argX m c :=
  (Gen.V9_of m c main_arg0 (by decide)).trans <| (Gen.V8_of m c main_arg0 (by decide)).trans <| (Gen.V7_of m c main_arg0 (by decide)).trans <|
    (Gen.V6_of m c main_arg0 (by decide)).trans <| (Gen.V5_of m c main_arg0 (by decide)).trans <| (Gen.V4_of m c main_arg0 (by decide)).trans <|
    (Gen.V3_of m c main_arg0 (by decide)).trans <| (Gen.V2_of m c main_arg0 (by decide)).trans (Gen.V1_of m c main_arg0 (by decide))
theorem kept_w (c : Dev nD) : Gen.V9 m c main_arg1 = argW m c :=
  (Gen.V9_of m c main_arg1 (by decide)).trans <| (Gen.V8_of m c main_arg1 (by decide)).trans <| (Gen.V7_of m c main_arg1 (by decide)).trans <|
    (Gen.V6_of m c main_arg1 (by decide)).trans <| (Gen.V5_of m c main_arg1 (by decide)).trans <| (Gen.V4_of m c main_arg1 (by decide)).trans <|
    (Gen.V3_of m c main_arg1 (by decide)).trans <| (Gen.V2_of m c main_arg1 (by decide)).trans (Gen.V1_of m c main_arg1 (by decide))

theorem xs_eq : xsOf (Gen.V9 m) = argX m := funext (kept_x m)
theorem ws_eq : wsOf (Gen.V9 m) = argW m := funext (kept_w m)

/-- What rides beside the buffers: before the region, what the launch dealt; after it, the barrier's counter and no debt. -/
def beside : Fin 2 → Dev nD → sProp 𝕄
  | 0, c => rest₀ (argX m) (argW m) c
  | 1, c => iprop(semVal (barCell c) 0 ∗ ∃ W, owes (c : Thread nD τ) 0 W)

theorem before_region (hV : ∀ c, Gen.V9 m c main_v16 = metaV c) (c : Dev nD) :
    iprop(StableHlo.held (c : Thread nD τ) (Pipeline.ucRefs τ sig) (Gen.V9 m c) ∗ beside m 0 c) ⊢ (reg (Gen.V9 m) hV).pre c := by
  have h := reg_pre (Gen.V9 m) hV c
  rw [xs_eq, ws_eq] at h
  exact h

theorem after_region (hV : ∀ c, Gen.V9 m c main_v16 = metaV c) (c : Dev nD) :
    (reg (Gen.V9 m) hV).post c ⊢ iprop((StableHlo.held (c : Thread nD τ) (Pipeline.ucRefs τ sig) (VV (Gen.V9 m) c) ∗ semVal (barCell c) 0)
      ∗ ∃ W, owes (c : Thread nD τ) (0 : CellTallies nD τ sig Unit) W) := by
  iintro H
  ihave H := (reg_post (Gen.V9 m) hV c) $$ H
  icases H with ⟨H1, H2, H3⟩
  isplitr [H3]
  · isplitl [H1]; · iexact H1
    iexact H2
  iexact H3

theorem launch_split :
    (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
      ⊢ (iprop((bigSep Finset.univ fun c : Dev nD => StableHlo.held (c : Thread nD τ) (Pipeline.ucRefs τ sig) (Gen.V0 m c))
          ∗ bigSep Finset.univ fun c : Dev nD => iprop(unscopedSems0 c ∗ owes (c : Thread nD τ) (O₀ c) ∅ ∗ Pipeline.launchCred O₀ c ∗ prngReg c (ρ c) ∗ G c))
          : sProp 𝕄) := by
  rw [← bigSep_sep']
  exact bigSep_mono fun c _ => by
    rw [← Pipeline.unscopedBufs_held (Ix := Unit) (Name := ℕ) (U := UU) (Lvl := ℕ) c (Gen.V0 m c)]
    exact BI.Entails.refl _

theorem launch_init :
    iprop((bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c)) ∗ levAts L lv)
      ⊢ (|={Set.univ}=> bigSep Finset.univ (fun c : Dev nD => iprop(StableHlo.held (c : Thread nD τ) (Pipeline.ucRefs τ sig) (Gen.V0 m c) ∗ beside m 0 c)) : sProp 𝕄) := by
  iintro ⟨H, Hla⟩
  ihave H' := (launch_split m ρ) $$ H
  icases H' with ⟨Hh, Hr⟩
  imod (deal (argX m) (argW m) ρ) $$ [Hr Hla] with HE
  · isplitl [Hr]; · iexact Hr
    iexact Hla
  imodintro
  rw [bigSep_sep']
  isplitl [Hh]; · iexact Hh
  iexact HE

/-- What the last thread state says of the final memory. -/
def ends (c : Dev nD) (s : MemSt nD τ sig (Elt F)) : Prop :=
  (s.mem ((c : Thread nD τ).loc main_arg0) = argX m c ∧ s.mem ((c : Thread nD τ).loc main_arg1) = argW m c
    ∧ s.mem ((c : Thread nD τ).loc main_v17) = done (argX m) (argW m) c) ∧ s.sem (barCell c) = 0

theorem uc_mem (r : Ref sig .tc) (h : (Proc.devRef (τ := τ) .tc r).isScoped = false) : Proc.devRef (τ := τ) .tc r ∈ Pipeline.ucRefs τ sig :=
  Finset.mem_filter.mpr ⟨StableHlo.devRef_mem_tcRefs r, by simpa using h⟩

theorem read_end (c : Dev nD) (s' : Phys nD τ sig (Elt F)) :
    (iprop((StableHlo.held (c : Thread nD τ) (Pipeline.ucRefs τ sig) (VV (Gen.V9 m) c) ∗ semVal (barCell c) 0) ∗ SI s') : sProp 𝕄)
      ⊢ |={Set.univ}=> iprop(⌜ends m c s'.mem⌝ ∗ SI s') := by
  unfold StableHlo.held
  iintro ⟨⟨Hh, Hb0⟩, HSI⟩
  icombine HSI Hb0 gives %hb
  ihave Hr := (pointsTo_read_all (Pipeline.ucRefs τ sig) (fun b => ((c : Thread nD τ).1, b)) (VV (Gen.V9 m) c) s') $$ [Hh HSI]
  · isplitl [Hh] <;> iassumption
  icases Hr with ⟨%h, HSI⟩
  imodintro
  isplitr
  · ipureintro
    refine ⟨⟨?_, ?_, ?_⟩, by simpa using hb⟩
    · exact ((h (Proc.devRef .tc main_arg0) (Finset.mem_filter.mpr ⟨StableHlo.devRef_mem_tcRefs main_arg0, by decide⟩)).trans (VV_of_ne (by decide))).trans (kept_x m c)
    · exact ((h (Proc.devRef .tc main_arg1) (Finset.mem_filter.mpr ⟨StableHlo.devRef_mem_tcRefs main_arg1, by decide⟩)).trans (VV_of_ne (by decide))).trans (kept_w m c)
    · refine ((h (Proc.devRef .tc main_v17) (Finset.mem_filter.mpr ⟨StableHlo.devRef_mem_tcRefs main_v17, by decide⟩)).trans VV_result).trans ?_
      rw [xs_eq, ws_eq]
  iexact HSI

set_option backward.isDefEq.respectTransparency.types false in
/-- THE RUN, given the table the host computes. -/
theorem run_given (hV : ∀ c, Gen.V9 m c main_v16 = metaV c) : θ_run defs (onTc (τ := τ) (main (F := F))) ⟨m, fun _ => 0, ρ⟩
    (fun r => (∀ c : Dev nD, r.2.mem ((c : Thread nD τ).loc main_arg0) = argX m c ∧ r.2.mem ((c : Thread nD τ).loc main_arg1) = argW m c
        ∧ r.2.mem ((c : Thread nD τ).loc main_v17) = done (argX m) (argW m) c) ∧ r.2.sem = fun _ => 0) := by
  refine Pipeline.θ_run_regions_kit_dev_sems (pcfgs (F := F)) Gen.adm (pdats (Gen.V9 m)) () Gen.cellOf_inj EP defs₀ 𝒱₀ L lv m ρ main
    (Gen.segs m 𝒱₀ L lv (beside m) () (pdats (Gen.V9 m)) (reg (Gen.V9 m) hV))
    (fun c Q => by
      rewrite [Gen.main_chain c, Seg.run_eq_chain,
        show (Gen.segs m 𝒱₀ L lv (beside m) () (pdats (Gen.V9 m)) (reg (Gen.V9 m) hV) c).map Seg.prog = [
          StableHlo.seq (Gen.hostOps0 c),
          StableHlo.seq Gen.hostOps0_1,
          StableHlo.seq Gen.hostOps0_2,
          StableHlo.seq Gen.hostOps0_3,
          StableHlo.seq Gen.hostOps0_4,
          StableHlo.seq Gen.hostOps0_5,
          StableHlo.seq Gen.hostOps0_6,
          StableHlo.seq Gen.hostOps0_7,
          StableHlo.seq Gen.hostOps0_8,
          Prog.lift (.customCall (Pipeline.entry 0) ()) ] from rfl]
      exact .rfl)
    (fun c => by simp only [Gen.segs, Seg.pipes_host, Seg.pipes_region, Seg.pipes_nil]; decide) O₀ L_of_ne G u₀ u₀_split
    (T₀ := fun c => iprop(StableHlo.held (c : Thread nD τ) (Pipeline.ucRefs τ sig) (Gen.V0 m c) ∗ beside m 0 c))
    (Tₙ := fun c => iprop(StableHlo.held (c : Thread nD τ) (Pipeline.ucRefs τ sig) (VV (Gen.V9 m) c) ∗ semVal (barCell c) 0))
    (hch := fun c => ⟨.rfl, .rfl, .rfl, .rfl, .rfl, .rfl, .rfl, .rfl, .rfl, before_region m hV c, after_region m hV c⟩)
    (hinit := launch_init m ρ) (QY := ends m) (hfin := read_end m)
    (hQ := fun s h hs => ⟨fun c => (h c).1, sem_eq_zero hs fun c sm hsm => by
      obtain rfl := unscoped_eq sm hsm
      exact (h c).2⟩)

/-- THE RUN: every weakly fair execution of @main from zero counters ends, with the arguments unchanged, every device's
    result the reduced product, and every counter at zero. -/
theorem run_main : θ_run defs (onTc (τ := τ) (main (F := F))) ⟨m, fun _ => 0, ρ⟩
    (fun r => (∀ c : Dev nD, r.2.mem ((c : Thread nD τ).loc main_arg0) = argX m c ∧ r.2.mem ((c : Thread nD τ).loc main_arg1) = argW m c
        ∧ r.2.mem ((c : Thread nD τ).loc main_v17) = done (argX m) (argW m) c) ∧ r.2.sem = fun _ => 0) :=
  run_given m ρ fun c => host_table c m

end Cert.KernelIdeal.Ring
-- ==== Proof.Frames.lean ====
/- The frames of the three programs: each runs, leaves its arguments as they were, and ends with its counters at zero. -/
module

public import proofs.«01_k».proof.Defs
public import proofs.«01_k».proof.Proof.Run
public import proofs.«01_k».proof.Proof.Gen.Kernel
public import proofs.«01_k».proof.Proof.Gen.ReferenceIdeal.Run
public import Idealize.ShloMosaic.Lib.Tactic
public import Idealize.ShloMosaic.Lib.Quiescent

@[expose] public section

noncomputable section

namespace Cert.KernelIdeal.Ring

open Idealize.ShloMosaic Idealize.ShloMosaic.TcCoe Idealize.SL.Sem

/-- The frame of the program at the words, in the names of the text read at the ideal values. -/
def frameBits : Prop :=
  ∀ (m : (ℓ : Loc nD τ sig) → Buf (Elt Bits) ℓ) (g : Dev nD → PrngReg), Cert.Pre_Kernel m →
    θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0)

theorem frame_bits : frameBits := fun m g _ =>
  (θ_run defs _ _).mono (fun _ h => ⟨fun c => ⟨(h.1 c).1, (h.1 c).2.1⟩, h.2⟩) (run_main (F := Bits) m g)

/-- The two printings of the program are one text, so the two statements are one by unfolding. -/
theorem frame_same : Cert.quiescent_Kernel = frameBits := by sl_kernel_rfl

theorem frame_kernel : Cert.quiescent_Kernel := frame_same.mpr frame_bits

theorem frame_ideal : Cert.quiescent_KernelIdeal := fun m g _ =>
  (θ_run defs _ _).mono (fun _ h => ⟨fun c => ⟨(h.1 c).1, (h.1 c).2.1⟩, h.2⟩) (run_main (F := Ideal) m g)

theorem frame_reference : Cert.quiescent_ReferenceIdeal := fun m g _ =>
  (θ_run Cert.ReferenceIdeal.defs _ _).mono
    (fun r h => ⟨fun c => (h c).2, sem_eq_zero_of_no_sems rfl r.2⟩) (Cert.ReferenceIdeal.Value.run (F := Ideal) m g)

end Cert.KernelIdeal.Ring
-- ==== Proof.Value.lean ====
/- The value the ring computes, at the ideal values: every device ends with the sum of all the devices' products. -/
module

public import proofs.«01_k».proof.Proof.Contents
public import Idealize.ShloMosaic.PureOps.Ideal
public import Idealize.ShloMosaic.Lib.Pipeline.Value

@[expose] public section

noncomputable section

namespace Cert.KernelIdeal.Ring

open Idealize.ShloMosaic Idealize.SL.Sem Cert.KernelIdeal
open Facts₀ Facts
open scoped BigOperators

/-! ## Going round the ring -/

/-- The device `t` steps round the ring. -/
def round (d : Bool) : ℕ → Dev nD → Dev nD
  | 0, c => c
  | t + 1, c => round d t (nbr d c)

theorem pos_round (d : Bool) (t : ℕ) (c : Dev nD) : pos (round d t c) = (pos c + (if d then 15 else 1) * t) % 16 := by
  induction t generalizing c with
  | zero => exact (Nat.mod_eq_of_lt (pos_lt c)).symm
  | succ t ih =>
    show pos (round d t (nbr d c)) = _
    rw [ih, pos_nbr]
    cases d <;> simp <;> omega

theorem pos_inj {c c' : Dev nD} (h : pos c = pos c') : c = c' := by
  rw [← perm_pos c, ← perm_pos c']
  exact congrArg perm (Fin.ext h)

/-- Sixteen steps meet every device once. -/
theorem round_bijective (d : Bool) (c : Dev nD) : Function.Bijective (fun t : Fin 16 => round d t.val c) := by
  rw [Fintype.bijective_iff_injective_and_card]
  refine ⟨fun t t' h => ?_, by decide⟩
  have h' := congrArg pos h
  simp only [pos_round] at h'
  have := t.isLt
  have := t'.isLt
  have := pos_lt c
  apply Fin.ext
  cases d <;> simp at h' <;> omega

theorem chunk_round (d : Bool) (c : Dev nD) {o : ℕ} (h : o < 15) : chunk d (round (!d) (o + 1) c) 15 = chunk d c o := by
  have := pos_lt c
  unfold chunk
  rw [pos_round]
  cases d <;> simp <;> omega

/-! ## The sum -/

variable (xs : Dev nD → Vec Ideal S2048x128 .bf16) (ws : Dev nD → Vec Ideal S128x2048 .bf16)

/-- The sum of the products of all the devices. -/
def total (i : S2048x2048.Idx) : EReal := ∑ c : Dev nD, prod xs ws c i

theorem part_eq (c : Dev nD) (i : S2048x2048.Idx) : part xs ws c i = prod xs ws c i := by
  unfold part Gen.k0_pay2
  simp only [shapeCast_self]
  rfl

theorem ptile_eq (d : Bool) (col : ℕ) (c : Dev nD) (s : ℕ) (j : S128x256.Idx) :
    ptile xs ws d col c s j = prod xs ws c (cell (chunk d c s) col j) := part_eq xs ws c _

theorem rsum_eq (d : Bool) (col : ℕ) (s : ℕ) (hs : s < 16) (c : Dev nD) (j : S128x256.Idx) :
    rsum xs ws d col s c j = ∑ t : Fin (s + 1), prod xs ws (round (!d) t.val c) (cell (chunk d c s) col j) := by
  induction s generalizing c with
  | zero =>
    rw [Fin.sum_univ_one]
    exact ptile_eq xs ws d col c 0 j
  | succ s ih =>
    rw [Fin.sum_univ_succ]
    show (rsum xs ws d col s (nbr (!d) c) j : EReal) + ptile xs ws d col c (s + 1) j = _
    rw [ih (by omega), ptile_eq, chunk_src d c s (by omega), add_comm]
    rfl

theorem lastv_total (d : Bool) (col : ℕ) (c : Dev nD) (j : S128x256.Idx) :
    lastv xs ws d col c j = total xs ws (cell (chunk d c 15) col j) := by
  show (prod xs ws c (cell (chunk d c 15) col j) : EReal) + rsum xs ws d col 14 (nbr (!d) c) j = _
  rw [rsum_eq xs ws d col 14 (by decide), chunk_src d c 14 (by decide)]
  refine Eq.trans ?_ ((round_bijective (!d) c).sum_comp fun c' => prod xs ws c' (cell (chunk d c 15) col j))
  rw [Fin.sum_univ_succ]
  rfl

theorem agv_eq (d : Bool) (col : ℕ) (s : ℕ) (c : Dev nD) (j : S128x256.Idx) :
    agv xs ws d col s c j = lastv xs ws d col (round (!d) (s + 1) c) j := by
  induction s generalizing c with
  | zero => rfl
  | succ s ih => exact ih (nbr (!d) c)

theorem finv_total (c : Dev nD) (d : Bool) (col : ℕ) {o : ℕ} (ho : o < 16) (j : S128x256.Idx) :
    finv xs ws c d col o j = total xs ws (cell (chunk d c o) col j) := by
  unfold finv
  split
  · next h => rw [h]; exact lastv_total xs ws d col c j
  · show (agv xs ws d col o c j : EReal) = _
    rw [agv_eq, lastv_total, chunk_round d c (by omega)]

/-- Every device ends with the sum. -/
theorem done_total (c : Dev nD) (i : S2048x2048.Idx) : done xs ws c i = total xs ws i := by
  have h0 : (i 0).val < 2048 := (i 0).isLt
  have h1 : (i 1).val < 2048 := (i 1).isLt
  unfold done
  rw [finv_total xs ws c _ _ (offs_lt _ _ _), chunk_offs _ _ (by omega)]
  congr 1
  funext a
  apply Fin.ext
  fin_cases a
  · refine (cell_0 (by omega) _).trans ?_
    show 128 * ((i 0).val / 128) + (i 0).val % 128 = (i 0).val
    omega
  · refine (cell_1 (by omega) _).trans ?_
    show 256 * ((i 1).val / 256) + (i 1).val % 256 = (i 1).val
    omega

end Cert.KernelIdeal.Ring
-- ==== Proof.Sum.lean ====
/- The sum of the devices' products is the product of the whole arrays, when each device holds its block of them. -/
module

public import proofs.«01_k».proof.Proof.Value
public import proofs.«01_k».proof.Proof.Gen.ReferenceIdeal
public import Idealize.ShloMosaic.Lib.Layout
public import Idealize.ShloMosaic.Lib.StackMember
public import Idealize.ShloMosaic.Lib.KernelVsHost

@[expose] public section

noncomputable section

namespace Cert.KernelIdeal.Ring

open Idealize.ShloMosaic Idealize.SL.Sem Cert.KernelIdeal
open Facts₀ Facts
open scoped BigOperators

/-- A device's product at a place: the sum over its own 128 contracted positions. -/
theorem prod_apply (xs : Dev nD → Vec Ideal S2048x128 .bf16) (ws : Dev nD → Vec Ideal S128x2048 .bf16) (c : Dev nD)
    (a b : Fin 2048) : prod xs ws c (ix2 a b) = ∑ k : Fin 128, (xs c (ix2 a k) : EReal) * ws c (ix2 k b) := by
  unfold prod Gen.k0_pay1
  simp only [shapeCast_self]
  rw [matmul_zero_eq_dotGeneral]
  exact StackMember.dotGeneral_plain_apply none (xs c) (ws c) a b

variable (A B : Vec Ideal S2048x2048 .bf16)

/-- What the reference computes. -/
def refOut : Vec Ideal S2048x2048 .f32 :=
  extf (F := Ideal) .f32 (truncf (F := Ideal) .bf16 (Host.dotGeneral (F := Ideal) (φ₁ := .bf16) (φ₂ := .bf16) Cert.ReferenceIdeal.dot_S2048x2048_S2048x2048_S2048x2048_1_0_0_1_n_n none A B)
    Cert.ReferenceIdeal.Gen.bitsLt_bf16_f32) Cert.ReferenceIdeal.Gen.bitsLt_bf16_f32

theorem refOut_apply (a b : Fin 2048) : refOut A B (ix2 a b) = ∑ k : Fin 2048, (A (ix2 a k) : EReal) * B (ix2 k b) :=
  StackMember.dotGeneral_plain_apply (φ₁ := .bf16) (φ₂ := .bf16) none A B a b

/-- The blocks the devices hold. -/
def blkX (c : Dev nD) : Vec Ideal S2048x128 .bf16 := Layout.block ⟨2, ![2048, 128]⟩ ⟨2, ![2048, 2048]⟩ 1 16 c A
def blkW (c : Dev nD) : Vec Ideal S128x2048 .bf16 := Layout.block ⟨2, ![128, 2048]⟩ ⟨2, ![2048, 2048]⟩ 0 16 c B

/-- Position `k` of block `c`. -/
def at' (c : Fin 16) (k : Fin 128) : Fin 2048 := ⟨c.val * 128 + k.val, by omega⟩

theorem blkX_apply (c : Dev nD) (a : Fin 2048) (k : Fin 128) : blkX A c (ix2 a k) = A (ix2 a (at' c k)) := by
  unfold blkX
  rw [Layout.block_apply]
  congr 1
  funext x
  apply Fin.ext
  fin_cases x <;> rfl

theorem blkW_apply (c : Dev nD) (k : Fin 128) (b : Fin 2048) : blkW B c (ix2 k b) = B (ix2 (at' c k) b) := by
  unfold blkW
  rw [Layout.block_apply]
  congr 1
  funext x
  apply Fin.ext
  fin_cases x <;> rfl

/-- A sum over 2048 positions, block by block. -/
theorem sum_blocks (f : Fin 2048 → EReal) : ∑ k : Fin 2048, f k = ∑ c : Fin 16, ∑ k : Fin 128, f (at' c k) := by
  rw [← Fintype.sum_prod_type' fun c k => f (at' c k)]
  refine ((finProdFinEquiv (m := 16) (n := 128)).sum_comp f).symm.trans (Finset.sum_congr rfl fun p _ => congrArg f (Fin.ext ?_))
  show p.2.val + 128 * p.1.val = p.1.val * 128 + p.2.val
  omega

theorem total_refOut (i : S2048x2048.Idx) : total (blkX A) (blkW B) i = refOut A B i := by
  obtain ⟨a, b, rfl⟩ : ∃ a b : Fin 2048, i = ix2 a b := ⟨i 0, i 1, by funext x; fin_cases x <;> rfl⟩
  rw [refOut_apply, sum_blocks]
  refine Finset.sum_congr rfl fun c _ => ?_
  rw [prod_apply]
  exact Finset.sum_congr rfl fun k _ => by rw [blkX_apply, blkW_apply]

/-- Every device ends with what the reference computes. -/
theorem done_refOut (c : Dev nD) : done (blkX A) (blkW B) c = refOut A B :=
  funext fun i => (done_total _ _ c i).trans (total_refOut A B i)

end Cert.KernelIdeal.Ring
-- ==== Proof.Algebraic.lean ====
/- The kernel on its blocks and the reference on the whole arrays end with the same result. -/
module

public import proofs.«01_k».proof.Proof.Frames
public import proofs.«01_k».proof.Proof.Sum

@[expose] public section

noncomputable section

namespace Cert.KernelIdeal.Ring

open Idealize.ShloMosaic Idealize.ShloMosaic.TcCoe Idealize.SL.Sem

theorem same_result : Cert.algebraic_KernelIdeal_ReferenceIdeal := fun m g m' g' _ hm => by
  have hx : argX m = blkX (m' (((0 : Dev Cert.ReferenceIdeal.nD).tc : Thread Cert.ReferenceIdeal.nD Cert.ReferenceIdeal.τ).loc Cert.ReferenceIdeal.main_arg0)) :=
    funext fun c => (hm c).1
  have hw : argW m = blkW (m' (((0 : Dev Cert.ReferenceIdeal.nD).tc : Thread Cert.ReferenceIdeal.nD Cert.ReferenceIdeal.τ).loc Cert.ReferenceIdeal.main_arg1)) :=
    funext fun c => (hm c).2
  refine ⟨refOut (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · refine (θ_run defs _ _).mono (fun _ h c => ?_) (run_main (F := Ideal) m g)
    obtain ⟨h0, h1, h2⟩ := h.1 c
    refine ⟨h2.trans ?_, h0, h1⟩
    rw [hx, hw]
    exact done_refOut _ _ c
  · exact (θ_run Cert.ReferenceIdeal.defs _ _).mono (fun _ h => h 0) (Cert.ReferenceIdeal.Value.run (F := Ideal) m' g')

end Cert.KernelIdeal.Ring
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.KernelIdeal.Ring.frame_kernel, Cert.KernelIdeal.Ring.frame_ideal, Cert.KernelIdeal.Ring.frame_reference,
  trivial, Cert.KernelIdeal.Ring.same_result⟩

end Cert.Proof

end
